-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF1800000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S32x2048x4x2x64 : Shape := ⟨5, ![32, 2048, 4, 2, 64]⟩
abbrev S32x2048x4x128 : Shape := ⟨4, ![32, 2048, 4, 128]⟩
abbrev S4x64 : Shape := ⟨2, ![4, 64]⟩
abbrev S128 : Shape := ⟨1, ![128]⟩
abbrev S_ : Shape := ⟨0, ![]⟩

class Facts : Prop where
  bcast_S_S32x2048x4x128 : S_.BroadcastsInDim S32x2048x4x128 (![] : Fin 0 → Fin S32x2048x4x128.rank)
  reducesTo_S32x2048x4x128_S_d0_1_2_3 : S32x2048x4x128.ReducesTo [0, 1, 2, 3] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S32x2048x4x2x64 .f32) (main_arg1 : FVec F S32x2048x4x2x64 .f32) (main_arg2 : FVec F S32x2048x4x128 .f32) (main_arg3 : FVec F S4x64 .f32) (main_arg4 : FVec F S128 .f32) : IVec S_ 1 :=
  let main_v0 : FVec F S32x2048x4x128 .f32 := Host.absf main_arg2
  let main_cst : FVec F S_ .f32 := constant S_ .f32 0x7F800000#32
  let main_v1 : FVec F S32x2048x4x128 .f32 := broadcastInDim S32x2048x4x128 ![] bcast_S_S32x2048x4x128 main_cst
  let main_v2 : IVec S32x2048x4x128 1 := cmpf .olt main_v0 main_v1
  let main_c : IVec S_ 1 := constantI S_ 1 1#1
  let main_v3 : IVec S_ 1 := (fun x v => Host.reduce IntOp.andi x v reducesTo_S32x2048x4x128_S_d0_1_2_3 h_S_) main_v2 main_c
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Kernel.lean ====
abbrev S32x2048x4x2x64 : Shape := ⟨5, ![32, 2048, 4, 2, 64]⟩
abbrev S32x2048x4x128 : Shape := ⟨4, ![32, 2048, 4, 128]⟩
abbrev S4x64 : Shape := ⟨2, ![4, 64]⟩
abbrev S128 : Shape := ⟨1, ![128]⟩
abbrev S_ : Shape := ⟨0, ![]⟩
abbrev S256x256x512 : Shape := ⟨3, ![256, 256, 512]⟩
abbrev S256x512x256 : Shape := ⟨3, ![256, 512, 256]⟩
abbrev S65536x8x64 : Shape := ⟨3, ![65536, 8, 64]⟩
abbrev S65536x8x128 : Shape := ⟨3, ![65536, 8, 128]⟩
abbrev S65536x1024 : Shape := ⟨2, ![65536, 1024]⟩
abbrev S256x256x4x128 : Shape := ⟨4, ![256, 256, 4, 128]⟩
abbrev S256x4x128x256 : Shape := ⟨4, ![256, 4, 128, 256]⟩
abbrev S256x4x16x256 : Shape := ⟨4, ![256, 4, 16, 256]⟩
abbrev S256x4x144x256 : Shape := ⟨4, ![256, 4, 144, 256]⟩
abbrev S256x576x256 : Shape := ⟨3, ![256, 576, 256]⟩
abbrev S1x128 : Shape := ⟨2, ![1, 128]⟩
abbrev S65536x512 : Shape := ⟨2, ![65536, 512]⟩
abbrev S8x512x256 : Shape := ⟨3, ![8, 512, 256]⟩
abbrev S2048x1024 : Shape := ⟨2, ![2048, 1024]⟩
abbrev S8x576x256 : Shape := ⟨3, ![8, 576, 256]⟩
abbrev S2048x512 : Shape := ⟨2, ![2048, 512]⟩
abbrev S8x256x256 : Shape := ⟨3, ![8, 256, 256]⟩
abbrev S8x8x256 : Shape := ⟨3, ![8, 8, 256]⟩
abbrev S1152x256 : Shape := ⟨2, ![1152, 256]⟩
abbrev S1x64 : Shape := ⟨2, ![1, 64]⟩
abbrev S1 : Shape := ⟨1, ![1]⟩
abbrev S1x1 : Shape := ⟨2, ![1, 1]⟩
abbrev S1x256 : Shape := ⟨2, ![1, 256]⟩
abbrev S256x64 : Shape := ⟨2, ![256, 64]⟩
abbrev S1x64x256 : Shape := ⟨3, ![1, 64, 256]⟩
abbrev S64x256 : Shape := ⟨2, ![64, 256]⟩
abbrev S256x256 : Shape := ⟨2, ![256, 256]⟩
abbrev S1x256x256 : Shape := ⟨3, ![1, 256, 256]⟩
abbrev S256x1 : Shape := ⟨2, ![256, 1]⟩
abbrev S1x144x256 : Shape := ⟨3, ![1, 144, 256]⟩
abbrev S144x256 : Shape := ⟨2, ![144, 256]⟩
abbrev S1x1x256 : Shape := ⟨3, ![1, 1, 256]⟩
abbrev S256 : Shape := ⟨1, ![256]⟩
abbrev S8x256 : Shape := ⟨2, ![8, 256]⟩
abbrev S1x8x256 : Shape := ⟨3, ![1, 8, 256]⟩
abbrev S128x256 : Shape := ⟨2, ![128, 256]⟩
abbrev S256x128 : Shape := ⟨2, ![256, 128]⟩

abbrev nBuf : Space → Nat
  | .hbm => 29
  | .vmem => 14
  | .smem => 0
  | _ => 0

abbrev bufTy : (tb : Table) → Fin (tcTables nBuf tb) → BufTy
  | .hbm, ⟨0, _⟩ => ⟨S32x2048x4x2x64, .f32⟩
  | .hbm, ⟨1, _⟩ => ⟨S32x2048x4x2x64, .f32⟩
  | .hbm, ⟨2, _⟩ => ⟨S32x2048x4x128, .f32⟩
  | .hbm, ⟨3, _⟩ => ⟨S4x64, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32x2048x4x2x64, .f32⟩
  | .hbm, ⟨10, _⟩ => ⟨S32x2048x4x2x64, .f32⟩
  | .hbm, ⟨11, _⟩ => ⟨S256x256x512, .f32⟩
  | .hbm, ⟨12, _⟩ => ⟨S256x512x256, .f32⟩
  | .hbm, ⟨13, _⟩ => ⟨S256x512x256, .bf16⟩
  | .hbm, ⟨14, _⟩ => ⟨S65536x8x64, .f32⟩
  | .hbm, ⟨15, _⟩ => ⟨S_, .i32⟩
  | .hbm, ⟨16, _⟩ => ⟨S_, .f32⟩
  | .hbm, ⟨17, _⟩ => ⟨S65536x8x128, .f32⟩
  | .hbm, ⟨18, _⟩ => ⟨S65536x1024, .f32⟩
  | .hbm, ⟨19, _⟩ => ⟨S65536x1024, .bf16⟩
  | .hbm, ⟨20, _⟩ => ⟨S256x256x4x128, .f32⟩
  | .hbm, ⟨21, _⟩ => ⟨S256x4x128x256, .f32⟩
  | .hbm, ⟨22, _⟩ => ⟨S_, .f32⟩
  | .hbm, ⟨23, _⟩ => ⟨S256x4x16x256, .f32⟩
  | .hbm, ⟨24, _⟩ => ⟨S256x4x144x256, .f32⟩
  | .hbm, ⟨25, _⟩ => ⟨S256x576x256, .f32⟩
  | .hbm, ⟨26, _⟩ => ⟨S256x576x256, .bf16⟩
  | .hbm, ⟨27, _⟩ => ⟨S1x128, .f32⟩
  | .hbm, ⟨28, _⟩ => ⟨S65536x512, .bf16⟩
  | .local _ .vmem, ⟨0, _⟩ => ⟨S4x64, .f32⟩
  | .local _ .vmem, ⟨1, _⟩ => ⟨S1x128, .f32⟩
  | .local _ .vmem, ⟨2, _⟩ => ⟨S8x512x256, .bf16⟩
  | .local _ .vmem, ⟨3, _⟩ => ⟨S8x512x256, .bf16⟩
  | .local _ .vmem, ⟨4, _⟩ => ⟨S2048x1024, .bf16⟩
  | .local _ .vmem, ⟨5, _⟩ => ⟨S2048x1024, .bf16⟩
  | .local _ .vmem, ⟨6, _⟩ => ⟨S8x576x256, .bf16⟩
  | .local _ .vmem, ⟨7, _⟩ => ⟨S8x576x256, .bf16⟩
  | .local _ .vmem, ⟨8, _⟩ => ⟨S2048x512, .bf16⟩
  | .local _ .vmem, ⟨9, _⟩ => ⟨S2048x512, .bf16⟩
  | .local _ .vmem, ⟨10, _⟩ => ⟨S8x256x256, .bf16⟩
  | .local _ .vmem, ⟨11, _⟩ => ⟨S8x256x256, .bf16⟩
  | .local _ .vmem, ⟨12, _⟩ => ⟨S8x8x256, .f32⟩
  | .local _ .vmem, ⟨13, _⟩ => ⟨S1152x256, .f32⟩
  | _, _ => ⟨S32x2048x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v1 : BitVec 32 := Scalar.muli arg11 c256_i32
  v1
def k0_cond1 (k0_t1 : Fin k0_t1_loop.trips) : BitVec 1 :=
  let c0_i32 : BitVec 32 := 0#32
  let c1_i32 : BitVec 32 := 1#32
  let arg11 : BitVec 32 := Scf.iv c0_i32 c1_i32 k0_t1
  let c0_i32_13 : BitVec 32 := 0#32
  let v32 : BitVec 1 := Scalar.cmpi .eq arg11 c0_i32_13
  let v33 : BitVec 32 := Scalar.extui v32
  let c0_i32_14 : BitVec 32 := 0#32
  let v34 : BitVec 1 := Scalar.cmpi .ne v33 c0_i32_14
  v34

def k0_mult2 : BitVec 32 :=
  let c0_i32_120 : BitVec 32 := 0#32
  c0_i32_120
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v289 : Index := Scalar.indexCast arg11
  let c0_122 : Index := 0#32
  let c0_123 : Index := 0#32
  ![v289.toNat, 0, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v300 : Index := Scalar.indexCast arg11
  let c64_129 : Index := 64#32
  let c0_130 : Index := 0#32
  ![v300.toNat, 64, 0]
def k0_off3 (k0_t1 : Fin k0_t1_loop.trips) : Fin 3 → Nat :=
  let c0_i32 : BitVec 32 := 0#32
  let c1_i32 : BitVec 32 := 1#32
  let arg11 : BitVec 32 := Scf.iv c0_i32 c1_i32 k0_t1
  let v311 : Index := Scalar.indexCast arg11
  let c128_136 : Index := 128#32
  let c0_137 : Index := 0#32
  ![v311.toNat, 128, 0]
def k0_off4 (k0_t1 : Fin k0_t1_loop.trips) : Fin 3 → Nat :=
  let c0_i32 : BitVec 32 := 0#32
  let c1_i32 : BitVec 32 := 1#32
  let arg11 : BitVec 32 := Scf.iv c0_i32 c1_i32 k0_t1
  let v322 : Index := Scalar.indexCast arg11
  let c192_143 : Index := 192#32
  let c0_144 : Index := 0#32
  ![v322.toNat, 192, 0]
def k0_off5 (k0_t1 : Fin k0_t1_loop.trips) : Fin 3 → Nat :=
  let c0_i32 : BitVec 32 := 0#32
  let c1_i32 : BitVec 32 := 1#32
  let arg11 : BitVec 32 := Scf.iv c0_i32 c1_i32 k0_t1
  let v333 : Index := Scalar.indexCast arg11
  let c256_150 : Index := 256#32
  let c0_151 : Index := 0#32
  ![v333.toNat, 256, 0]
def k0_off6 (k0_t1 : Fin k0_t1_loop.trips) : Fin 3 → Nat :=
  let c0_i32 : BitVec 32 := 0#32
  let c1_i32 : BitVec 32 := 1#32
  let arg11 : BitVec 32 := Scf.iv c0_i32 c1_i32 k0_t1
  let v344 : Index := Scalar.indexCast arg11
  let c320_157 : Index := 320#32
  let c0_158 : Index := 0#32
  ![v344.toNat, 320, 0]
def k0_off7 (k0_t1 : Fin k0_t1_loop.trips) : Fin 3 → Nat :=
  let c0_i32 : BitVec 32 := 0#32
  let c1_i32 : BitVec 32 := 1#32
  let arg11 : BitVec 32 := Scf.iv c0_i32 c1_i32 k0_t1
  let v355 : Index := Scalar.indexCast arg11
  let c384_164 : Index := 384#32
  let c0_165 : Index := 0#32
  ![v355.toNat, 384, 0]
def k0_off8 (k0_t1 : Fin k0_t1_loop.trips) : Fin 3 → Nat :=
  let c0_i32 : BitVec 32 := 0#32
  let c1_i32 : BitVec 32 := 1#32
  let arg11 : BitVec 32 := Scf.iv c0_i32 c1_i32 k0_t1
  let v366 : Index := Scalar.indexCast arg11
  let c448_171 : Index := 448#32
  let c0_172 : Index := 0#32
  ![v366.toNat, 448, 0]
@[reducible] def k0_t2_loop (k0_t1 : Fin k0_t1_loop.trips) : Scf.Loop 32 :=
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_24 : BitVec 32 := 1#32
  ⟨c0_i32_22, v56, c1_i32_24⟩
def k0_mult3 (k0_t1 : Fin k0_t1_loop.trips) (k0_t2 : Fin (k0_t2_loop k0_t1).trips) : BitVec 32 :=
  let c2_i32_120 : BitVec 32 := 2#32
  let c0_i32_22 : BitVec 32 := 0#32
  let c1_i32_24 : BitVec 32 := 1#32
  let arg12 : BitVec 32 := Scf.iv c0_i32_22 c1_i32_24 k0_t2
  let v285 : BitVec 32 := Scalar.muli c2_i32_120 arg12
  let c1_i32_121 : BitVec 32 := 1#32
  let v286 : BitVec 32 := Scalar.addi v285 c1_i32_121
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  v289
def k0_off9 (k0_t1 : Fin k0_t1_loop.trips) (k0_t2 : Fin (k0_t2_loop k0_t1).trips) : Fin 2 → Nat :=
  let c2_i32_120 : BitVec 32 := 2#32
  let c0_i32_22 : BitVec 32 := 0#32
  let c1_i32_24 : BitVec 32 := 1#32
  let arg12 : BitVec 32 := Scf.iv c0_i32_22 c1_i32_24 k0_t2
  let v285 : BitVec 32 := Scalar.muli c2_i32_120 arg12
  let c1_i32_121 : BitVec 32 := 1#32
  let v286 : BitVec 32 := Scalar.addi v285 c1_i32_121
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v291 : Index := Scalar.indexCast v290
  let c0_124 : Index := 0#32
  ![v291.toNat, 0]
def k0_off10 (k0_t1 : Fin k0_t1_loop.trips) : Fin 3 → Nat :=
  let c0_i32 : BitVec 32 := 0#32
  let c1_i32 : BitVec 32 := 1#32
  let arg11 : BitVec 32 := Scf.iv c0_i32 c1_i32 k0_t1
  let v294 : Index := Scalar.indexCast arg11
  let c0_125 : Index := 0#32
  let c0_126 : Index := 0#32
  ![v294.toNat, 0, 0]
def k0_off11 (k0_t1 : Fin k0_t1_loop.trips) (k0_t2 : Fin (k0_t2_loop k0_t1).trips) : Fin 2 → Nat :=
  let c2_i32_120 : BitVec 32 := 2#32
  let c0_i32_22 : BitVec 32 := 0#32
  let c1_i32_24 : BitVec 32 := 1#32
  let arg12 : BitVec 32 := Scf.iv c0_i32_22 c1_i32_24 k0_t2
  let v285 : BitVec 32 := Scalar.muli c2_i32_120 arg12
  let c1_i32_121 : BitVec 32 := 1#32
  let v286 : BitVec 32 := Scalar.addi v285 c1_i32_121
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v302 : Index := Scalar.indexCast v290
  let c128_131 : Index := 128#32
  ![v302.toNat, 128]
def k0_off12 (k0_t1 : Fin k0_t1_loop.trips) : Fin 3 → Nat :=
  let c0_i32 : BitVec 32 := 0#32
  let c1_i32 : BitVec 32 := 1#32
  let arg11 : BitVec 32 := Scf.iv c0_i32 c1_i32 k0_t1
  let v305 : Index := Scalar.indexCast arg11
  let c64_132 : Index := 64#32
  let c0_133 : Index := 0#32
  ![v305.toNat, 64, 0]
def k0_off13 (k0_t1 : Fin k0_t1_loop.trips) (k0_t2 : Fin (k0_t2_loop k0_t1).trips) : Fin 2 → Nat :=
  let c2_i32_120 : BitVec 32 := 2#32
  let c0_i32_22 : BitVec 32 := 0#32
  let c1_i32_24 : BitVec 32 := 1#32
  let arg12 : BitVec 32 := Scf.iv c0_i32_22 c1_i32_24 k0_t2
  let v285 : BitVec 32 := Scalar.muli c2_i32_120 arg12
  let c1_i32_121 : BitVec 32 := 1#32
  let v286 : BitVec 32 := Scalar.addi v285 c1_i32_121
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v313 : Index := Scalar.indexCast v290
  let c256_138 : Index := 256#32
  ![v313.toNat, 256]
def k0_off14 (k0_t1 : Fin k0_t1_loop.trips) : Fin 3 → Nat :=
  let c0_i32 : BitVec 32 := 0#32
  let c1_i32 : BitVec 32 := 1#32
  let arg11 : BitVec 32 := Scf.iv c0_i32 c1_i32 k0_t1
  let v316 : Index := Scalar.indexCast arg11
  let c128_139 : Index := 128#32
  let c0_140 : Index := 0#32
  ![v316.toNat, 128, 0]
def k0_off15 (k0_t1 : Fin k0_t1_loop.trips) (k0_t2 : Fin (k0_t2_loop k0_t1).trips) : Fin 2 → Nat :=
  let c2_i32_120 : BitVec 32 := 2#32
  let c0_i32_22 : BitVec 32 := 0#32
  let c1_i32_24 : BitVec 32 := 1#32
  let arg12 : BitVec 32 := Scf.iv c0_i32_22 c1_i32_24 k0_t2
  let v285 : BitVec 32 := Scalar.muli c2_i32_120 arg12
  let c1_i32_121 : BitVec 32 := 1#32
  let v286 : BitVec 32 := Scalar.addi v285 c1_i32_121
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v324 : Index := Scalar.indexCast v290
  let c384_145 : Index := 384#32
  ![v324.toNat, 384]
def k0_off16 (k0_t1 : Fin k0_t1_loop.trips) : Fin 3 → Nat :=
  let c0_i32 : BitVec 32 := 0#32
  let c1_i32 : BitVec 32 := 1#32
  let arg11 : BitVec 32 := Scf.iv c0_i32 c1_i32 k0_t1
  let v327 : Index := Scalar.indexCast arg11
  let c192_146 : Index := 192#32
  let c0_147 : Index := 0#32
  ![v327.toNat, 192, 0]
def k0_off17 (k0_t1 : Fin k0_t1_loop.trips) (k0_t2 : Fin (k0_t2_loop k0_t1).trips) : Fin 2 → Nat :=
  let c2_i32_120 : BitVec 32 := 2#32
  let c0_i32_22 : BitVec 32 := 0#32
  let c1_i32_24 : BitVec 32 := 1#32
  let arg12 : BitVec 32 := Scf.iv c0_i32_22 c1_i32_24 k0_t2
  let v285 : BitVec 32 := Scalar.muli c2_i32_120 arg12
  let c1_i32_121 : BitVec 32 := 1#32
  let v286 : BitVec 32 := Scalar.addi v285 c1_i32_121
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v335 : Index := Scalar.indexCast v290
  let c512_152 : Index := 512#32
  ![v335.toNat, 512]
def k0_off18 (k0_t1 : Fin k0_t1_loop.trips) : Fin 3 → Nat :=
  let c0_i32 : BitVec 32 := 0#32
  let c1_i32 : BitVec 32 := 1#32
  let arg11 : BitVec 32 := Scf.iv c0_i32 c1_i32 k0_t1
  let v338 : Index := Scalar.indexCast arg11
  let c256_153 : Index := 256#32
  let c0_154 : Index := 0#32
  ![v338.toNat, 256, 0]
def k0_off19 (k0_t1 : Fin k0_t1_loop.trips) (k0_t2 : Fin (k0_t2_loop k0_t1).trips) : Fin 2 → Nat :=
  let c2_i32_120 : BitVec 32 := 2#32
  let c0_i32_22 : BitVec 32 := 0#32
  let c1_i32_24 : BitVec 32 := 1#32
  let arg12 : BitVec 32 := Scf.iv c0_i32_22 c1_i32_24 k0_t2
  let v285 : BitVec 32 := Scalar.muli c2_i32_120 arg12
  let c1_i32_121 : BitVec 32 := 1#32
  let v286 : BitVec 32 := Scalar.addi v285 c1_i32_121
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v346 : Index := Scalar.indexCast v290
  let c640_159 : Index := 640#32
  ![v346.toNat, 640]
def k0_off20 (k0_t1 : Fin k0_t1_loop.trips) : Fin 3 → Nat :=
  let c0_i32 : BitVec 32 := 0#32
  let c1_i32 : BitVec 32 := 1#32
  let arg11 : BitVec 32 := Scf.iv c0_i32 c1_i32 k0_t1
  let v349 : Index := Scalar.indexCast arg11
  let c320_160 : Index := 320#32
  let c0_161 : Index := 0#32
  ![v349.toNat, 320, 0]
def k0_off21 (k0_t1 : Fin k0_t1_loop.trips) (k0_t2 : Fin (k0_t2_loop k0_t1).trips) : Fin 2 → Nat :=
  let c2_i32_120 : BitVec 32 := 2#32
  let c0_i32_22 : BitVec 32 := 0#32
  let c1_i32_24 : BitVec 32 := 1#32
  let arg12 : BitVec 32 := Scf.iv c0_i32_22 c1_i32_24 k0_t2
  let v285 : BitVec 32 := Scalar.muli c2_i32_120 arg12
  let c1_i32_121 : BitVec 32 := 1#32
  let v286 : BitVec 32 := Scalar.addi v285 c1_i32_121
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v357 : Index := Scalar.indexCast v290
  let c768_166 : Index := 768#32
  ![v357.toNat, 768]
def k0_off22 (k0_t1 : Fin k0_t1_loop.trips) : Fin 3 → Nat :=
  let c0_i32 : BitVec 32 := 0#32
  let c1_i32 : BitVec 32 := 1#32
  let arg11 : BitVec 32 := Scf.iv c0_i32 c1_i32 k0_t1
  let v360 : Index := Scalar.indexCast arg11
  let c384_167 : Index := 384#32
  let c0_168 : Index := 0#32
  ![v360.toNat, 384, 0]
def k0_off23 (k0_t1 : Fin k0_t1_loop.trips) (k0_t2 : Fin (k0_t2_loop k0_t1).trips) : Fin 2 → Nat :=
  let c2_i32_120 : BitVec 32 := 2#32
  let c0_i32_22 : BitVec 32 := 0#32
  let c1_i32_24 : BitVec 32 := 1#32
  let arg12 : BitVec 32 := Scf.iv c0_i32_22 c1_i32_24 k0_t2
  let v285 : BitVec 32 := Scalar.muli c2_i32_120 arg12
  let c1_i32_121 : BitVec 32 := 1#32
  let v286 : BitVec 32 := Scalar.addi v285 c1_i32_121
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v368 : Index := Scalar.indexCast v290
  let c896_173 : Index := 896#32
  ![v368.toNat, 896]
def k0_off24 (k0_t1 : Fin k0_t1_loop.trips) : Fin 3 → Nat :=
  let c0_i32 : BitVec 32 := 0#32
  let c1_i32 : BitVec 32 := 1#32
  let arg11 : BitVec 32 := Scf.iv c0_i32 c1_i32 k0_t1
  let v371 : Index := Scalar.indexCast arg11
  let c448_174 : Index := 448#32
  let c0_175 : Index := 0#32
  ![v371.toNat, 448, 0]
def k0_off25 (k0_t1 : Fin k0_t1_loop.trips) (k0_t2 : Fin (k0_t2_loop k0_t1).trips) : Fin 3 → Nat :=
  let c2_i32_120 : BitVec 32 := 2#32
  let c0_i32_22 : BitVec 32 := 0#32
  let c1_i32_24 : BitVec 32 := 1#32
  let arg12 : BitVec 32 := Scf.iv c0_i32_22 c1_i32_24 k0_t2
  let v285 : BitVec 32 := Scalar.muli c2_i32_120 arg12
  let v390 : Index := Scalar.indexCast v285
  let c0_183 : Index := 0#32
  let c0_184 : Index := 0#32
  ![v390.toNat, 0, 0]
def k0_off26 (k0_t1 : Fin k0_t1_loop.trips) (k0_t2 : Fin (k0_t2_loop k0_t1).trips) : Fin 3 → Nat :=
  let c2_i32_120 : BitVec 32 := 2#32
  let c0_i32_22 : BitVec 32 := 0#32
  let c1_i32_24 : BitVec 32 := 1#32
  let arg12 : BitVec 32 := Scf.iv c0_i32_22 c1_i32_24 k0_t2
  let v285 : BitVec 32 := Scalar.muli c2_i32_120 arg12
  let v449 : Index := Scalar.indexCast v285
  let c144_215 : Index := 144#32
  let c0_216 : Index := 0#32
  ![v449.toNat, 144, 0]
def k0_off27 (k0_t1 : Fin k0_t1_loop.trips) (k0_t2 : Fin (k0_t2_loop k0_t1).trips) : Fin 3 → Nat :=
  let c2_i32_120 : BitVec 32 := 2#32
  let c0_i32_22 : BitVec 32 := 0#32
  let c1_i32_24 : BitVec 32 := 1#32
  let arg12 : BitVec 32 := Scf.iv c0_i32_22 c1_i32_24 k0_t2
  let v285 : BitVec 32 := Scalar.muli c2_i32_120 arg12
  let v508 : Index := Scalar.indexCast v285
  let c288_247 : Index := 288#32
  let c0_248 : Index := 0#32
  ![v508.toNat, 288, 0]
def k0_off28 (k0_t1 : Fin k0_t1_loop.trips) (k0_t2 : Fin (k0_t2_loop k0_t1).trips) : Fin 3 → Nat :=
  let c2_i32_120 : BitVec 32 := 2#32
  let c0_i32_22 : BitVec 32 := 0#32
  let c1_i32_24 : BitVec 32 := 1#32
  let arg12 : BitVec 32 := Scf.iv c0_i32_22 c1_i32_24 k0_t2
  let v285 : BitVec 32 := Scalar.muli c2_i32_120 arg12
  let v567 : Index := Scalar.indexCast v285
  let c432_279 : Index := 432#32
  let c0_280 : Index := 0#32
  ![v567.toNat, 432, 0]
def k0_mult4 (k0_t1 : Fin k0_t1_loop.trips) (k0_t2 : Fin (k0_t2_loop k0_t1).trips) : BitVec 32 :=
  let c2_i32_311 : BitVec 32 := 2#32
  let c0_i32_22 : BitVec 32 := 0#32
  let c1_i32_24 : BitVec 32 := 1#32
  let arg12 : BitVec 32 := Scf.iv c0_i32_22 c1_i32_24 k0_t2
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  v631
def k0_off29 (k0_t1 : Fin k0_t1_loop.trips) (k0_t2 : Fin (k0_t2_loop k0_t1).trips) : Fin 2 → Nat :=
  let c2_i32_311 : BitVec 32 := 2#32
  let c0_i32_22 : BitVec 32 := 0#32
  let c1_i32_24 : BitVec 32 := 1#32
  let arg12 : BitVec 32 := Scf.iv c0_i32_22 c1_i32_24 k0_t2
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v633 : Index := Scalar.indexCast v632
  let c0_316 : Index := 0#32
  ![v633.toNat, 0]
def k0_off30 (k0_t1 : Fin k0_t1_loop.trips) (k0_t2 : Fin (k0_t2_loop k0_t1).trips) : Fin 2 → Nat :=
  let c2_i32_311 : BitVec 32 := 2#32
  let c0_i32_22 : BitVec 32 := 0#32
  let c1_i32_24 : BitVec 32 := 1#32
  let arg12 : BitVec 32 := Scf.iv c0_i32_22 c1_i32_24 k0_t2
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v644 : Index := Scalar.indexCast v632
  let c128_323 : Index := 128#32
  ![v644.toNat, 128]
def k0_off31 (k0_t1 : Fin k0_t1_loop.trips) (k0_t2 : Fin (k0_t2_loop k0_t1).trips) : Fin 2 → Nat :=
  let c2_i32_311 : BitVec 32 := 2#32
  let c0_i32_22 : BitVec 32 := 0#32
  let c1_i32_24 : BitVec 32 := 1#32
  let arg12 : BitVec 32 := Scf.iv c0_i32_22 c1_i32_24 k0_t2
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v655 : Index := Scalar.indexCast v632
  let c256_330 : Index := 256#32
  ![v655.toNat, 256]
def k0_off32 (k0_t1 : Fin k0_t1_loop.trips) (k0_t2 : Fin (k0_t2_loop k0_t1).trips) : Fin 2 → Nat :=
  let c2_i32_311 : BitVec 32 := 2#32
  let c0_i32_22 : BitVec 32 := 0#32
  let c1_i32_24 : BitVec 32 := 1#32
  let arg12 : BitVec 32 := Scf.iv c0_i32_22 c1_i32_24 k0_t2
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v666 : Index := Scalar.indexCast v632
  let c384_337 : Index := 384#32
  ![v666.toNat, 384]
def k0_off33 (k0_t1 : Fin k0_t1_loop.trips) (k0_t2 : Fin (k0_t2_loop k0_t1).trips) : Fin 2 → Nat :=
  let c2_i32_311 : BitVec 32 := 2#32
  let c0_i32_22 : BitVec 32 := 0#32
  let c1_i32_24 : BitVec 32 := 1#32
  let arg12 : BitVec 32 := Scf.iv c0_i32_22 c1_i32_24 k0_t2
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v677 : Index := Scalar.indexCast v632
  let c512_344 : Index := 512#32
  ![v677.toNat, 512]
def k0_off34 (k0_t1 : Fin k0_t1_loop.trips) (k0_t2 : Fin (k0_t2_loop k0_t1).trips) : Fin 2 → Nat :=
  let c2_i32_311 : BitVec 32 := 2#32
  let c0_i32_22 : BitVec 32 := 0#32
  let c1_i32_24 : BitVec 32 := 1#32
  let arg12 : BitVec 32 := Scf.iv c0_i32_22 c1_i32_24 k0_t2
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v688 : Index := Scalar.indexCast v632
  let c640_351 : Index := 640#32
  ![v688.toNat, 640]
def k0_off35 (k0_t1 : Fin k0_t1_loop.trips) (k0_t2 : Fin (k0_t2_loop k0_t1).trips) : Fin 2 → Nat :=
  let c2_i32_311 : BitVec 32 := 2#32
  let c0_i32_22 : BitVec 32 := 0#32
  let c1_i32_24 : BitVec 32 := 1#32
  let arg12 : BitVec 32 := Scf.iv c0_i32_22 c1_i32_24 k0_t2
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v699 : Index := Scalar.indexCast v632
  let c768_358 : Index := 768#32
  ![v699.toNat, 768]
def k0_off36 (k0_t1 : Fin k0_t1_loop.trips) (k0_t2 : Fin (k0_t2_loop k0_t1).trips) : Fin 2 → Nat :=
  let c2_i32_311 : BitVec 32 := 2#32
  let c0_i32_22 : BitVec 32 := 0#32
  let c1_i32_24 : BitVec 32 := 1#32
  let arg12 : BitVec 32 := Scf.iv c0_i32_22 c1_i32_24 k0_t2
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v710 : Index := Scalar.indexCast v632
  let c896_365 : Index := 896#32
  ![v710.toNat, 896]
def k0_off37 (k0_t1 : Fin k0_t1_loop.trips) (k0_t2 : Fin (k0_t2_loop k0_t1).trips) : Fin 3 → Nat :=
  let c2_i32_311 : BitVec 32 := 2#32
  let c0_i32_22 : BitVec 32 := 0#32
  let c1_i32_24 : BitVec 32 := 1#32
  let arg12 : BitVec 32 := Scf.iv c0_i32_22 c1_i32_24 k0_t2
  let v626 : BitVec 32 := Scalar.muli c2_i32_311 arg12
  let c1_i32_312 : BitVec 32 := 1#32
  let v627 : BitVec 32 := Scalar.addi v626 c1_i32_312
  let v732 : Index := Scalar.indexCast v627
  let c0_375 : Index := 0#32
  let c0_376 : Index := 0#32
  ![v732.toNat, 0, 0]
def k0_off38 (k0_t1 : Fin k0_t1_loop.trips) (k0_t2 : Fin (k0_t2_loop k0_t1).trips) : Fin 3 → Nat :=
  let c2_i32_311 : BitVec 32 := 2#32
  let c0_i32_22 : BitVec 32 := 0#32
  let c1_i32_24 : BitVec 32 := 1#32
  let arg12 : BitVec 32 := Scf.iv c0_i32_22 c1_i32_24 k0_t2
  let v626 : BitVec 32 := Scalar.muli c2_i32_311 arg12
  let c1_i32_312 : BitVec 32 := 1#32
  let v627 : BitVec 32 := Scalar.addi v626 c1_i32_312
  let v791 : Index := Scalar.indexCast v627
  let c144_407 : Index := 144#32
  let c0_408 : Index := 0#32
  ![v791.toNat, 144, 0]
def k0_off39 (k0_t1 : Fin k0_t1_loop.trips) (k0_t2 : Fin (k0_t2_loop k0_t1).trips) : Fin 3 → Nat :=
  let c2_i32_311 : BitVec 32 := 2#32
  let c0_i32_22 : BitVec 32 := 0#32
  let c1_i32_24 : BitVec 32 := 1#32
  let arg12 : BitVec 32 := Scf.iv c0_i32_22 c1_i32_24 k0_t2
  let v626 : BitVec 32 := Scalar.muli c2_i32_311 arg12
  let c1_i32_312 : BitVec 32 := 1#32
  let v627 : BitVec 32 := Scalar.addi v626 c1_i32_312
  let v850 : Index := Scalar.indexCast v627
  let c288_439 : Index := 288#32
  let c0_440 : Index := 0#32
  ![v850.toNat, 288, 0]
def k0_off40 (k0_t1 : Fin k0_t1_loop.trips) (k0_t2 : Fin (k0_t2_loop k0_t1).trips) : Fin 3 → Nat :=
  let c2_i32_311 : BitVec 32 := 2#32
  let c0_i32_22 : BitVec 32 := 0#32
  let c1_i32_24 : BitVec 32 := 1#32
  let arg12 : BitVec 32 := Scf.iv c0_i32_22 c1_i32_24 k0_t2
  let v626 : BitVec 32 := Scalar.muli c2_i32_311 arg12
  let c1_i32_312 : BitVec 32 := 1#32
  let v627 : BitVec 32 := Scalar.addi v626 c1_i32_312
  let v909 : Index := Scalar.indexCast v627
  let c432_471 : Index := 432#32
  let c0_472 : Index := 0#32
  ![v909.toNat, 432, 0]
@[reducible] def k0_t3_loop (k0_t1 : Fin k0_t1_loop.trips) : Scf.Loop 32 :=
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let v53 : BitVec 32 := Scalar.addi c0_i32_22 v52
  let c1_i32_25 : BitVec 32 := 1#32
  ⟨v56, v53, c1_i32_25⟩
def k0_mult5 (k0_t1 : Fin k0_t1_loop.trips) (k0_t3 : Fin (k0_t3_loop k0_t1).trips) : BitVec 32 :=
  let c2_i32_120 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v285 : BitVec 32 := Scalar.muli c2_i32_120 arg12
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  v289
def k0_off41 (k0_t1 : Fin k0_t1_loop.trips) (k0_t3 : Fin (k0_t3_loop k0_t1).trips) : Fin 2 → Nat :=
  let c2_i32_120 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v285 : BitVec 32 := Scalar.muli c2_i32_120 arg12
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v291 : Index := Scalar.indexCast v290
  let c0_124 : Index := 0#32
  ![v291.toNat, 0]
def k0_off42 (k0_t1 : Fin k0_t1_loop.trips) : Fin 3 → Nat :=
  let c0_i32 : BitVec 32 := 0#32
  let c1_i32 : BitVec 32 := 1#32
  let arg11 : BitVec 32 := Scf.iv c0_i32 c1_i32 k0_t1
  let v294 : Index := Scalar.indexCast arg11
  let c0_125 : Index := 0#32
  let c0_126 : Index := 0#32
  ![v294.toNat, 0, 0]
def k0_off43 (k0_t1 : Fin k0_t1_loop.trips) (k0_t3 : Fin (k0_t3_loop k0_t1).trips) : Fin 2 → Nat :=
  let c2_i32_120 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v285 : BitVec 32 := Scalar.muli c2_i32_120 arg12
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v302 : Index := Scalar.indexCast v290
  let c128_131 : Index := 128#32
  ![v302.toNat, 128]
def k0_off44 (k0_t1 : Fin k0_t1_loop.trips) : Fin 3 → Nat :=
  let c0_i32 : BitVec 32 := 0#32
  let c1_i32 : BitVec 32 := 1#32
  let arg11 : BitVec 32 := Scf.iv c0_i32 c1_i32 k0_t1
  let v305 : Index := Scalar.indexCast arg11
  let c64_132 : Index := 64#32
  let c0_133 : Index := 0#32
  ![v305.toNat, 64, 0]
def k0_off45 (k0_t1 : Fin k0_t1_loop.trips) (k0_t3 : Fin (k0_t3_loop k0_t1).trips) : Fin 2 → Nat :=
  let c2_i32_120 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v285 : BitVec 32 := Scalar.muli c2_i32_120 arg12
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v313 : Index := Scalar.indexCast v290
  let c256_138 : Index := 256#32
  ![v313.toNat, 256]
def k0_off46 (k0_t1 : Fin k0_t1_loop.trips) : Fin 3 → Nat :=
  let c0_i32 : BitVec 32 := 0#32
  let c1_i32 : BitVec 32 := 1#32
  let arg11 : BitVec 32 := Scf.iv c0_i32 c1_i32 k0_t1
  let v316 : Index := Scalar.indexCast arg11
  let c128_139 : Index := 128#32
  let c0_140 : Index := 0#32
  ![v316.toNat, 128, 0]
def k0_off47 (k0_t1 : Fin k0_t1_loop.trips) (k0_t3 : Fin (k0_t3_loop k0_t1).trips) : Fin 2 → Nat :=
  let c2_i32_120 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v285 : BitVec 32 := Scalar.muli c2_i32_120 arg12
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v324 : Index := Scalar.indexCast v290
  let c384_145 : Index := 384#32
  ![v324.toNat, 384]
def k0_off48 (k0_t1 : Fin k0_t1_loop.trips) : Fin 3 → Nat :=
  let c0_i32 : BitVec 32 := 0#32
  let c1_i32 : BitVec 32 := 1#32
  let arg11 : BitVec 32 := Scf.iv c0_i32 c1_i32 k0_t1
  let v327 : Index := Scalar.indexCast arg11
  let c192_146 : Index := 192#32
  let c0_147 : Index := 0#32
  ![v327.toNat, 192, 0]
def k0_off49 (k0_t1 : Fin k0_t1_loop.trips) (k0_t3 : Fin (k0_t3_loop k0_t1).trips) : Fin 2 → Nat :=
  let c2_i32_120 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v285 : BitVec 32 := Scalar.muli c2_i32_120 arg12
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v335 : Index := Scalar.indexCast v290
  let c512_152 : Index := 512#32
  ![v335.toNat, 512]
def k0_off50 (k0_t1 : Fin k0_t1_loop.trips) : Fin 3 → Nat :=
  let c0_i32 : BitVec 32 := 0#32
  let c1_i32 : BitVec 32 := 1#32
  let arg11 : BitVec 32 := Scf.iv c0_i32 c1_i32 k0_t1
  let v338 : Index := Scalar.indexCast arg11
  let c256_153 : Index := 256#32
  let c0_154 : Index := 0#32
  ![v338.toNat, 256, 0]
def k0_off51 (k0_t1 : Fin k0_t1_loop.trips) (k0_t3 : Fin (k0_t3_loop k0_t1).trips) : Fin 2 → Nat :=
  let c2_i32_120 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v285 : BitVec 32 := Scalar.muli c2_i32_120 arg12
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v346 : Index := Scalar.indexCast v290
  let c640_159 : Index := 640#32
  ![v346.toNat, 640]
def k0_off52 (k0_t1 : Fin k0_t1_loop.trips) : Fin 3 → Nat :=
  let c0_i32 : BitVec 32 := 0#32
  let c1_i32 : BitVec 32 := 1#32
  let arg11 : BitVec 32 := Scf.iv c0_i32 c1_i32 k0_t1
  let v349 : Index := Scalar.indexCast arg11
  let c320_160 : Index := 320#32
  let c0_161 : Index := 0#32
  ![v349.toNat, 320, 0]
def k0_off53 (k0_t1 : Fin k0_t1_loop.trips) (k0_t3 : Fin (k0_t3_loop k0_t1).trips) : Fin 2 → Nat :=
  let c2_i32_120 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v285 : BitVec 32 := Scalar.muli c2_i32_120 arg12
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v357 : Index := Scalar.indexCast v290
  let c768_166 : Index := 768#32
  ![v357.toNat, 768]
def k0_off54 (k0_t1 : Fin k0_t1_loop.trips) : Fin 3 → Nat :=
  let c0_i32 : BitVec 32 := 0#32
  let c1_i32 : BitVec 32 := 1#32
  let arg11 : BitVec 32 := Scf.iv c0_i32 c1_i32 k0_t1
  let v360 : Index := Scalar.indexCast arg11
  let c384_167 : Index := 384#32
  let c0_168 : Index := 0#32
  ![v360.toNat, 384, 0]
def k0_off55 (k0_t1 : Fin k0_t1_loop.trips) (k0_t3 : Fin (k0_t3_loop k0_t1).trips) : Fin 2 → Nat :=
  let c2_i32_120 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v285 : BitVec 32 := Scalar.muli c2_i32_120 arg12
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v368 : Index := Scalar.indexCast v290
  let c896_173 : Index := 896#32
  ![v368.toNat, 896]
def k0_off56 (k0_t1 : Fin k0_t1_loop.trips) : Fin 3 → Nat :=
  let c0_i32 : BitVec 32 := 0#32
  let c1_i32 : BitVec 32 := 1#32
  let arg11 : BitVec 32 := Scf.iv c0_i32 c1_i32 k0_t1
  let v371 : Index := Scalar.indexCast arg11
  let c448_174 : Index := 448#32
  let c0_175 : Index := 0#32
  ![v371.toNat, 448, 0]
def k0_off57 (k0_t1 : Fin k0_t1_loop.trips) (k0_t3 : Fin (k0_t3_loop k0_t1).trips) : Fin 3 → Nat :=
  let c2_i32_120 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v285 : BitVec 32 := Scalar.muli c2_i32_120 arg12
  let v390 : Index := Scalar.indexCast v285
  let c0_183 : Index := 0#32
  let c0_184 : Index := 0#32
  ![v390.toNat, 0, 0]
def k0_off58 (k0_t1 : Fin k0_t1_loop.trips) (k0_t3 : Fin (k0_t3_loop k0_t1).trips) : Fin 3 → Nat :=
  let c2_i32_120 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v285 : BitVec 32 := Scalar.muli c2_i32_120 arg12
  let v449 : Index := Scalar.indexCast v285
  let c144_215 : Index := 144#32
  let c0_216 : Index := 0#32
  ![v449.toNat, 144, 0]
def k0_off59 (k0_t1 : Fin k0_t1_loop.trips) (k0_t3 : Fin (k0_t3_loop k0_t1).trips) : Fin 3 → Nat :=
  let c2_i32_120 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v285 : BitVec 32 := Scalar.muli c2_i32_120 arg12
  let v508 : Index := Scalar.indexCast v285
  let c288_247 : Index := 288#32
  let c0_248 : Index := 0#32
  ![v508.toNat, 288, 0]
def k0_off60 (k0_t1 : Fin k0_t1_loop.trips) (k0_t3 : Fin (k0_t3_loop k0_t1).trips) : Fin 3 → Nat :=
  let c2_i32_120 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v285 : BitVec 32 := Scalar.muli c2_i32_120 arg12
  let v567 : Index := Scalar.indexCast v285
  let c432_279 : Index := 432#32
  let c0_280 : Index := 0#32
  ![v567.toNat, 432, 0]
def k0_mult6 (k0_t1 : Fin k0_t1_loop.trips) (k0_t3 : Fin (k0_t3_loop k0_t1).trips) : BitVec 32 :=
  let c2_i32_311 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  v631
def k0_off61 (k0_t1 : Fin k0_t1_loop.trips) (k0_t3 : Fin (k0_t3_loop k0_t1).trips) : Fin 2 → Nat :=
  let c2_i32_311 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v633 : Index := Scalar.indexCast v632
  let c0_316 : Index := 0#32
  ![v633.toNat, 0]
def k0_off62 (k0_t1 : Fin k0_t1_loop.trips) (k0_t3 : Fin (k0_t3_loop k0_t1).trips) : Fin 2 → Nat :=
  let c2_i32_311 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v644 : Index := Scalar.indexCast v632
  let c128_323 : Index := 128#32
  ![v644.toNat, 128]
def k0_off63 (k0_t1 : Fin k0_t1_loop.trips) (k0_t3 : Fin (k0_t3_loop k0_t1).trips) : Fin 2 → Nat :=
  let c2_i32_311 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v655 : Index := Scalar.indexCast v632
  let c256_330 : Index := 256#32
  ![v655.toNat, 256]
def k0_off64 (k0_t1 : Fin k0_t1_loop.trips) (k0_t3 : Fin (k0_t3_loop k0_t1).trips) : Fin 2 → Nat :=
  let c2_i32_311 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v666 : Index := Scalar.indexCast v632
  let c384_337 : Index := 384#32
  ![v666.toNat, 384]
def k0_off65 (k0_t1 : Fin k0_t1_loop.trips) (k0_t3 : Fin (k0_t3_loop k0_t1).trips) : Fin 2 → Nat :=
  let c2_i32_311 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v677 : Index := Scalar.indexCast v632
  let c512_344 : Index := 512#32
  ![v677.toNat, 512]
def k0_off66 (k0_t1 : Fin k0_t1_loop.trips) (k0_t3 : Fin (k0_t3_loop k0_t1).trips) : Fin 2 → Nat :=
  let c2_i32_311 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v688 : Index := Scalar.indexCast v632
  let c640_351 : Index := 640#32
  ![v688.toNat, 640]
def k0_off67 (k0_t1 : Fin k0_t1_loop.trips) (k0_t3 : Fin (k0_t3_loop k0_t1).trips) : Fin 2 → Nat :=
  let c2_i32_311 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v699 : Index := Scalar.indexCast v632
  let c768_358 : Index := 768#32
  ![v699.toNat, 768]
def k0_off68 (k0_t1 : Fin k0_t1_loop.trips) (k0_t3 : Fin (k0_t3_loop k0_t1).trips) : Fin 2 → Nat :=
  let c2_i32_311 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v626 : BitVec 32 := Scalar.muli c2_i32_311 arg12
  let c1_i32_312 : BitVec 32 := 1#32
  let v627 : BitVec 32 := Scalar.addi v626 c1_i32_312
  let c1_i32_313 : BitVec 32 := 1#32
  let v628 : BitVec 32 := Scalar.addi v627 c1_i32_313
  let c1_i32_314 : BitVec 32 := 1#32
  let v629 : BitVec 32 := Scalar.subi v3 c1_i32_314
  let v630 : BitVec 32 := Scalar.minsi v628 v629
  let c256_i32_315 : BitVec 32 := 256#32
  let v631 : BitVec 32 := Scalar.muli v630 c256_i32_315
  let v632 : BitVec 32 := v631
  let v710 : Index := Scalar.indexCast v632
  let c896_365 : Index := 896#32
  ![v710.toNat, 896]
def k0_off69 (k0_t1 : Fin k0_t1_loop.trips) (k0_t3 : Fin (k0_t3_loop k0_t1).trips) : Fin 3 → Nat :=
  let c2_i32_311 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v626 : BitVec 32 := Scalar.muli c2_i32_311 arg12
  let c1_i32_312 : BitVec 32 := 1#32
  let v627 : BitVec 32 := Scalar.addi v626 c1_i32_312
  let v732 : Index := Scalar.indexCast v627
  let c0_375 : Index := 0#32
  let c0_376 : Index := 0#32
  ![v732.toNat, 0, 0]
def k0_off70 (k0_t1 : Fin k0_t1_loop.trips) (k0_t3 : Fin (k0_t3_loop k0_t1).trips) : Fin 3 → Nat :=
  let c2_i32_311 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v626 : BitVec 32 := Scalar.muli c2_i32_311 arg12
  let c1_i32_312 : BitVec 32 := 1#32
  let v627 : BitVec 32 := Scalar.addi v626 c1_i32_312
  let v791 : Index := Scalar.indexCast v627
  let c144_407 : Index := 144#32
  let c0_408 : Index := 0#32
  ![v791.toNat, 144, 0]
def k0_off71 (k0_t1 : Fin k0_t1_loop.trips) (k0_t3 : Fin (k0_t3_loop k0_t1).trips) : Fin 3 → Nat :=
  let c2_i32_311 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v626 : BitVec 32 := Scalar.muli c2_i32_311 arg12
  let c1_i32_312 : BitVec 32 := 1#32
  let v627 : BitVec 32 := Scalar.addi v626 c1_i32_312
  let v850 : Index := Scalar.indexCast v627
  let c288_439 : Index := 288#32
  let c0_440 : Index := 0#32
  ![v850.toNat, 288, 0]
def k0_off72 (k0_t1 : Fin k0_t1_loop.trips) (k0_t3 : Fin (k0_t3_loop k0_t1).trips) : Fin 3 → Nat :=
  let c2_i32_311 : BitVec 32 := 2#32
  let c0_i32_22 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c0_i32_15 : BitVec 32 := 0#32
  let v36 : BitVec 1 := Scalar.cmpi .sgt v3 c0_i32_15
  let v37 : BitVec 32 := Scalar.extui v36
  let c0_i32_16 : BitVec 32 := 0#32
  let v38 : BitVec 1 := Scalar.cmpi .slt v3 c0_i32_16
  let v39 : BitVec 32 := Scalar.extui v38
  let v40 : BitVec 32 := Scalar.subi v37 v39
  let c2_i32 : BitVec 32 := 2#32
  let c0_i32_17 : BitVec 32 := 0#32
  let v41 : BitVec 1 := Scalar.cmpi .sgt c2_i32 c0_i32_17
  let v42 : BitVec 32 := Scalar.extui v41
  let c0_i32_18 : BitVec 32 := 0#32
  let v43 : BitVec 1 := Scalar.cmpi .slt c2_i32 c0_i32_18
  let v44 : BitVec 32 := Scalar.extui v43
  let v45 : BitVec 32 := Scalar.subi v42 v44
  let v46 : BitVec 1 := Scalar.cmpi .ne v40 v45
  let v47 : BitVec 32 := Scalar.remsi v3 c2_i32
  let c0_i32_19 : BitVec 32 := 0#32
  let v48 : BitVec 1 := Scalar.cmpi .ne v47 c0_i32_19
  let v49 : BitVec 1 := Scalar.andi v46 v48
  let v35 : BitVec 32 := Scalar.divsi v3 c2_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg12 : BitVec 32 := Scf.iv v56 c1_i32_25 k0_t3
  let v626 : BitVec 32 := Scalar.muli c2_i32_311 arg12
  let c1_i32_312 : BitVec 32 := 1#32
  let v627 : BitVec 32 := Scalar.addi v626 c1_i32_312
  let v909 : Index := Scalar.indexCast v627
  let c432_471 : Index := 432#32
  let c0_472 : Index := 0#32
  ![v909.toNat, 432, 0]
def k0_cond2 (k0_t1 : Fin k0_t1_loop.trips) : BitVec 1 :=
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c2_i32_26 : BitVec 32 := 2#32
  let c0_i32_27 : BitVec 32 := 0#32
  let v57 : BitVec 1 := Scalar.cmpi .eq c2_i32_26 c0_i32_27
  let c1_i32_28 : BitVec 32 := 1#32
  let v58 : BitVec 32 := Scalar.select v57 c1_i32_28 c2_i32_26
  let v59 : BitVec 32 := Scalar.remsi v3 v58
  let c0_i32_30 : BitVec 32 := 0#32
  let v61 : BitVec 1 := Scalar.cmpi .slt v59 c0_i32_30
  let c0_i32_31 : BitVec 32 := 0#32
  let v62 : BitVec 1 := Scalar.cmpi .slt v58 c0_i32_31
  let v63 : BitVec 1 := Scalar.xori v61 v62
  let c0_i32_29 : BitVec 32 := 0#32
  let v60 : BitVec 1 := Scalar.cmpi .ne v59 c0_i32_29
  let v64 : BitVec 1 := Scalar.andi v63 v60
  let v65 : BitVec 32 := Scalar.addi v59 v58
  let v66 : BitVec 32 := Scalar.select v64 v65 v59
  let c1_i32_32 : BitVec 32 := 1#32
  let v67 : BitVec 1 := Scalar.cmpi .eq v66 c1_i32_32
  let v68 : BitVec 32 := Scalar.extui v67
  let c0_i32_33 : BitVec 32 := 0#32
  let v69 : BitVec 1 := Scalar.cmpi .ne v68 c0_i32_33
  v69

def k0_mult7 (k0_t1 : Fin k0_t1_loop.trips) : BitVec 32 :=
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_120 : BitVec 32 := 1#32
  let v285 : BitVec 32 := Scalar.subi v3 c1_i32_120
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  v289
def k0_off73 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_120 : BitVec 32 := 1#32
  let v285 : BitVec 32 := Scalar.subi v3 c1_i32_120
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v291 : Index := Scalar.indexCast v290
  let c0_124 : Index := 0#32
  ![v291.toNat, 0]
def k0_off74 (k0_t1 : Fin k0_t1_loop.trips) : Fin 3 → Nat :=
  let c0_i32 : BitVec 32 := 0#32
  let c1_i32 : BitVec 32 := 1#32
  let arg11 : BitVec 32 := Scf.iv c0_i32 c1_i32 k0_t1
  let v294 : Index := Scalar.indexCast arg11
  let c0_125 : Index := 0#32
  let c0_126 : Index := 0#32
  ![v294.toNat, 0, 0]
def k0_off75 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_120 : BitVec 32 := 1#32
  let v285 : BitVec 32 := Scalar.subi v3 c1_i32_120
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v302 : Index := Scalar.indexCast v290
  let c128_131 : Index := 128#32
  ![v302.toNat, 128]
def k0_off76 (k0_t1 : Fin k0_t1_loop.trips) : Fin 3 → Nat :=
  let c0_i32 : BitVec 32 := 0#32
  let c1_i32 : BitVec 32 := 1#32
  let arg11 : BitVec 32 := Scf.iv c0_i32 c1_i32 k0_t1
  let v305 : Index := Scalar.indexCast arg11
  let c64_132 : Index := 64#32
  let c0_133 : Index := 0#32
  ![v305.toNat, 64, 0]
def k0_off77 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_120 : BitVec 32 := 1#32
  let v285 : BitVec 32 := Scalar.subi v3 c1_i32_120
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v313 : Index := Scalar.indexCast v290
  let c256_138 : Index := 256#32
  ![v313.toNat, 256]
def k0_off78 (k0_t1 : Fin k0_t1_loop.trips) : Fin 3 → Nat :=
  let c0_i32 : BitVec 32 := 0#32
  let c1_i32 : BitVec 32 := 1#32
  let arg11 : BitVec 32 := Scf.iv c0_i32 c1_i32 k0_t1
  let v316 : Index := Scalar.indexCast arg11
  let c128_139 : Index := 128#32
  let c0_140 : Index := 0#32
  ![v316.toNat, 128, 0]
def k0_off79 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_120 : BitVec 32 := 1#32
  let v285 : BitVec 32 := Scalar.subi v3 c1_i32_120
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v324 : Index := Scalar.indexCast v290
  let c384_145 : Index := 384#32
  ![v324.toNat, 384]
def k0_off80 (k0_t1 : Fin k0_t1_loop.trips) : Fin 3 → Nat :=
  let c0_i32 : BitVec 32 := 0#32
  let c1_i32 : BitVec 32 := 1#32
  let arg11 : BitVec 32 := Scf.iv c0_i32 c1_i32 k0_t1
  let v327 : Index := Scalar.indexCast arg11
  let c192_146 : Index := 192#32
  let c0_147 : Index := 0#32
  ![v327.toNat, 192, 0]
def k0_off81 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_120 : BitVec 32 := 1#32
  let v285 : BitVec 32 := Scalar.subi v3 c1_i32_120
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v335 : Index := Scalar.indexCast v290
  let c512_152 : Index := 512#32
  ![v335.toNat, 512]
def k0_off82 (k0_t1 : Fin k0_t1_loop.trips) : Fin 3 → Nat :=
  let c0_i32 : BitVec 32 := 0#32
  let c1_i32 : BitVec 32 := 1#32
  let arg11 : BitVec 32 := Scf.iv c0_i32 c1_i32 k0_t1
  let v338 : Index := Scalar.indexCast arg11
  let c256_153 : Index := 256#32
  let c0_154 : Index := 0#32
  ![v338.toNat, 256, 0]
def k0_off83 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_120 : BitVec 32 := 1#32
  let v285 : BitVec 32 := Scalar.subi v3 c1_i32_120
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v346 : Index := Scalar.indexCast v290
  let c640_159 : Index := 640#32
  ![v346.toNat, 640]
def k0_off84 (k0_t1 : Fin k0_t1_loop.trips) : Fin 3 → Nat :=
  let c0_i32 : BitVec 32 := 0#32
  let c1_i32 : BitVec 32 := 1#32
  let arg11 : BitVec 32 := Scf.iv c0_i32 c1_i32 k0_t1
  let v349 : Index := Scalar.indexCast arg11
  let c320_160 : Index := 320#32
  let c0_161 : Index := 0#32
  ![v349.toNat, 320, 0]
def k0_off85 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_120 : BitVec 32 := 1#32
  let v285 : BitVec 32 := Scalar.subi v3 c1_i32_120
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v357 : Index := Scalar.indexCast v290
  let c768_166 : Index := 768#32
  ![v357.toNat, 768]
def k0_off86 (k0_t1 : Fin k0_t1_loop.trips) : Fin 3 → Nat :=
  let c0_i32 : BitVec 32 := 0#32
  let c1_i32 : BitVec 32 := 1#32
  let arg11 : BitVec 32 := Scf.iv c0_i32 c1_i32 k0_t1
  let v360 : Index := Scalar.indexCast arg11
  let c384_167 : Index := 384#32
  let c0_168 : Index := 0#32
  ![v360.toNat, 384, 0]
def k0_off87 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_120 : BitVec 32 := 1#32
  let v285 : BitVec 32 := Scalar.subi v3 c1_i32_120
  let c1_i32_121 : BitVec 32 := 1#32
  let v286 : BitVec 32 := Scalar.addi v285 c1_i32_121
  let c1_i32_122 : BitVec 32 := 1#32
  let v287 : BitVec 32 := Scalar.subi v3 c1_i32_122
  let v288 : BitVec 32 := Scalar.minsi v286 v287
  let c256_i32_123 : BitVec 32 := 256#32
  let v289 : BitVec 32 := Scalar.muli v288 c256_i32_123
  let v290 : BitVec 32 := v289
  let v368 : Index := Scalar.indexCast v290
  let c896_173 : Index := 896#32
  ![v368.toNat, 896]
def k0_off88 (k0_t1 : Fin k0_t1_loop.trips) : Fin 3 → Nat :=
  let c0_i32 : BitVec 32 := 0#32
  let c1_i32 : BitVec 32 := 1#32
  let arg11 : BitVec 32 := Scf.iv c0_i32 c1_i32 k0_t1
  let v371 : Index := Scalar.indexCast arg11
  let c448_174 : Index := 448#32
  let c0_175 : Index := 0#32
  ![v371.toNat, 448, 0]
def k0_off89 (k0_t1 : Fin k0_t1_loop.trips) : Fin 3 → Nat :=
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_120 : BitVec 32 := 1#32
  let v285 : BitVec 32 := Scalar.subi v3 c1_i32_120
  let v390 : Index := Scalar.indexCast v285
  let c0_183 : Index := 0#32
  let c0_184 : Index := 0#32
  ![v390.toNat, 0, 0]
def k0_off90 (k0_t1 : Fin k0_t1_loop.trips) : Fin 3 → Nat :=
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_120 : BitVec 32 := 1#32
  let v285 : BitVec 32 := Scalar.subi v3 c1_i32_120
  let v449 : Index := Scalar.indexCast v285
  let c144_215 : Index := 144#32
  let c0_216 : Index := 0#32
  ![v449.toNat, 144, 0]
def k0_off91 (k0_t1 : Fin k0_t1_loop.trips) : Fin 3 → Nat :=
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_120 : BitVec 32 := 1#32
  let v285 : BitVec 32 := Scalar.subi v3 c1_i32_120
  let v508 : Index := Scalar.indexCast v285
  let c288_247 : Index := 288#32
  let c0_248 : Index := 0#32
  ![v508.toNat, 288, 0]
def k0_off92 (k0_t1 : Fin k0_t1_loop.trips) : Fin 3 → Nat :=
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.addi arg11 c1_i32_1
  let c1_i32_120 : BitVec 32 := 1#32
  let v285 : BitVec 32 := Scalar.subi v3 c1_i32_120
  let v567 : Index := Scalar.indexCast v285
  let c432_279 : Index := 432#32
  let c0_280 : Index := 0#32
  ![v567.toNat, 432, 0]
def k0_mult8 : BitVec 32 :=
  let c0_i32_35 : BitVec 32 := 0#32
  c0_i32_35
def k0_off93 (k0_t1 : Fin k0_t1_loop.trips) : Fin 3 → Nat :=
  let c0_i32 : BitVec 32 := 0#32
  let c1_i32 : BitVec 32 := 1#32
  let arg11 : BitVec 32 := Scf.iv c0_i32 c1_i32 k0_t1
  let c1_i32_34 : BitVec 32 := 1#32
  let v70 : BitVec 32 := Scalar.addi arg11 c1_i32_34
  let c7_i32 : BitVec 32 := 7#32
  let v71 : BitVec 32 := Scalar.minsi v70 c7_i32
  let v76 : Index := Scalar.indexCast v71
  let c0_37 : Index := 0#32
  let c0_38 : Index := 0#32
  ![v76.toNat, 0, 0]
def k0_off94 (k0_t1 : Fin k0_t1_loop.trips) : Fin 3 → Nat :=
  let c0_i32 : BitVec 32 := 0#32
  let c1_i32 : BitVec 32 := 1#32
  let arg11 : BitVec 32 := Scf.iv c0_i32 c1_i32 k0_t1
  let c1_i32_34 : BitVec 32 := 1#32
  let v70 : BitVec 32 := Scalar.addi arg11 c1_i32_34
  let c7_i32 : BitVec 32 := 7#32
  let v71 : BitVec 32 := Scalar.minsi v70 c7_i32
  let v87 : Index := Scalar.indexCast v71
  let c64 : Index := 64#32
  let c0_43 : Index := 0#32
  ![v87.toNat, 64, 0]
def k0_off95 (k0_t1 : Fin k0_t1_loop.trips) : Fin 3 → Nat :=
  let c0_i32 : BitVec 32 := 0#32
  let c1_i32 : BitVec 32 := 1#32
  let arg11 : BitVec 32 := Scf.iv c0_i32 c1_i32 k0_t1
  let c1_i32_34 : BitVec 32 := 1#32
  let v70 : BitVec 32 := Scalar.addi arg11 c1_i32_34
  let c7_i32 : BitVec 32 := 7#32
  let v71 : BitVec 32 := Scalar.minsi v70 c7_i32
  let v98 : Index := Scalar.indexCast v71
  let c128_47 : Index := 128#32
  let c0_48 : Index := 0#32
  ![v98.toNat, 128, 0]
def k0_off96 (k0_t1 : Fin k0_t1_loop.trips) : Fin 3 → Nat :=
  let c0_i32 : BitVec 32 := 0#32
  let c1_i32 : BitVec 32 := 1#32
  let arg11 : BitVec 32 := Scf.iv c0_i32 c1_i32 k0_t1
  let c1_i32_34 : BitVec 32 := 1#32
  let v70 : BitVec 32 := Scalar.addi arg11 c1_i32_34
  let c7_i32 : BitVec 32 := 7#32
  let v71 : BitVec 32 := Scalar.minsi v70 c7_i32
  let v109 : Index := Scalar.indexCast v71
  let c192 : Index := 192#32
  let c0_52 : Index := 0#32
  ![v109.toNat, 192, 0]
def k0_off97 (k0_t1 : Fin k0_t1_loop.trips) : Fin 3 → Nat :=
  let c0_i32 : BitVec 32 := 0#32
  let c1_i32 : BitVec 32 := 1#32
  let arg11 : BitVec 32 := Scf.iv c0_i32 c1_i32 k0_t1
  let c1_i32_34 : BitVec 32 := 1#32
  let v70 : BitVec 32 := Scalar.addi arg11 c1_i32_34
  let c7_i32 : BitVec 32 := 7#32
  let v71 : BitVec 32 := Scalar.minsi v70 c7_i32
  let v120 : Index := Scalar.indexCast v71
  let c256_56 : Index := 256#32
  let c0_57 : Index := 0#32
  ![v120.toNat, 256, 0]
def k0_off98 (k0_t1 : Fin k0_t1_loop.trips) : Fin 3 → Nat :=
  let c0_i32 : BitVec 32 := 0#32
  let c1_i32 : BitVec 32 := 1#32
  let arg11 : BitVec 32 := Scf.iv c0_i32 c1_i32 k0_t1
  let c1_i32_34 : BitVec 32 := 1#32
  let v70 : BitVec 32 := Scalar.addi arg11 c1_i32_34
  let c7_i32 : BitVec 32 := 7#32
  let v71 : BitVec 32 := Scalar.minsi v70 c7_i32
  let v131 : Index := Scalar.indexCast v71
  let c320 : Index := 320#32
  let c0_61 : Index := 0#32
  ![v131.toNat, 320, 0]
def k0_off99 (k0_t1 : Fin k0_t1_loop.trips) : Fin 3 → Nat :=
  let c0_i32 : BitVec 32 := 0#32
  let c1_i32 : BitVec 32 := 1#32
  let arg11 : BitVec 32 := Scf.iv c0_i32 c1_i32 k0_t1
  let c1_i32_34 : BitVec 32 := 1#32
  let v70 : BitVec 32 := Scalar.addi arg11 c1_i32_34
  let c7_i32 : BitVec 32 := 7#32
  let v71 : BitVec 32 := Scalar.minsi v70 c7_i32
  let v142 : Index := Scalar.indexCast v71
  let c384_65 : Index := 384#32
  let c0_66 : Index := 0#32
  ![v142.toNat, 384, 0]
def k0_off100 (k0_t1 : Fin k0_t1_loop.trips) : Fin 3 → Nat :=
  let c0_i32 : BitVec 32 := 0#32
  let c1_i32 : BitVec 32 := 1#32
  let arg11 : BitVec 32 := Scf.iv c0_i32 c1_i32 k0_t1
  let c1_i32_34 : BitVec 32 := 1#32
  let v70 : BitVec 32 := Scalar.addi arg11 c1_i32_34
  let c7_i32 : BitVec 32 := 7#32
  let v71 : BitVec 32 := Scalar.minsi v70 c7_i32
  let v153 : Index := Scalar.indexCast v71
  let c448 : Index := 448#32
  let c0_70 : Index := 0#32
  ![v153.toNat, 448, 0]
def k0_off101 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v1 : BitVec 32 := Scalar.muli arg11 c256_i32
  let v2 : BitVec 32 := v1
  let v190 : Index := Scalar.indexCast v2
  let c0_86 : Index := 0#32
  ![v190.toNat, 0]
def k0_off102 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v1 : BitVec 32 := Scalar.muli arg11 c256_i32
  let v2 : BitVec 32 := v1
  let v221 : Index := Scalar.indexCast v2
  let c128_97 : Index := 128#32
  ![v221.toNat, 128]
def k0_off103 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v1 : BitVec 32 := Scalar.muli arg11 c256_i32
  let v2 : BitVec 32 := v1
  let v252 : Index := Scalar.indexCast v2
  let c256_108 : Index := 256#32
  ![v252.toNat, 256]
def k0_off104 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v1 : BitVec 32 := Scalar.muli arg11 c256_i32
  let v2 : BitVec 32 := v1
  let v283 : Index := Scalar.indexCast v2
  let c384_119 : Index := 384#32
  ![v283.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x576x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S32x2048x4x2x64 : Shape := ⟨5, ![32, 2048, 4, 2, 64]⟩
abbrev S32x2048x4x128 : Shape := ⟨4, ![32, 2048, 4, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x4x2x2048x2048 : Shape := ⟨5, ![32, 4, 2, 2048, 2048]⟩
abbrev S1x1x1x2048x2048 : Shape := ⟨5, ![1, 1, 1, 2048, 2048]⟩
abbrev S32x4x2x2048 : Shape := ⟨4, ![32, 4, 2, 2048]⟩
abbrev S32x4x2x2048x1 : Shape := ⟨5, ![32, 4, 2, 2048, 1]⟩
abbrev S32x4x1x2048x2048 : Shape := ⟨5, ![32, 4, 1, 2048, 2048]⟩
abbrev S32x4x2048x2048 : Shape := ⟨4, ![32, 4, 2048, 2048]⟩
abbrev S32x4x128x2048 : Shape := ⟨4, ![32, 4, 128, 2048]⟩
abbrev S32x2048x4 : Shape := ⟨3, ![32, 2048, 4]⟩
abbrev S32x2048x4x1 : Shape := ⟨4, ![32, 2048, 4, 1]⟩
abbrev S1x1x1x128 : Shape := ⟨4, ![1, 1, 1, 128]⟩
abbrev S65536x512 : Shape := ⟨2, ![65536, 512]⟩

abbrev nBuf : Space → Nat
  | .hbm => 84
  | .vmem => 0
  | .smem => 0
  | _ => 0

abbrev bufTy : (tb : Table) → Fin (tcTables nBuf tb) → BufTy
  | .hbm, ⟨0, _⟩ => ⟨S32x2048x4x2x64, .f32⟩
  | .hbm, ⟨1, _⟩ => ⟨S32x2048x4x2x64, .f32⟩
  | .hbm, ⟨2, _⟩ => ⟨S32x2048x4x128, .f32⟩
  | .hbm, ⟨3, _⟩ => ⟨S4x64, .f32⟩
  | .hbm, ⟨4, _⟩ => ⟨S128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048, .i32⟩
  | .hbm, ⟨25, _⟩ => ⟨S1x2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S32x4x2x2048x2048, .f32⟩
  | .hbm, ⟨31, _⟩ => ⟨S_, .f32⟩
  | .hbm, ⟨32, _⟩ => ⟨S32x4x2x2048x2048, .f32⟩
  | .hbm, ⟨33, _⟩ => ⟨S32x4x2x2048x2048, .f32⟩
  | .hbm, ⟨34, _⟩ => ⟨S1x1x1x2048x2048, .i1⟩
  | .hbm, ⟨35, _⟩ => ⟨S_, .f32⟩
  | .hbm, ⟨36, _⟩ => ⟨S_, .f32⟩
  | .hbm, ⟨37, _⟩ => ⟨S32x4x2x2048x2048, .i1⟩
  | .hbm, ⟨38, _⟩ => ⟨S32x4x2x2048x2048, .f32⟩
  | .hbm, ⟨39, _⟩ => ⟨S32x4x2x2048x2048, .f32⟩
  | .hbm, ⟨40, _⟩ => ⟨S_, .f32⟩
  | .hbm, ⟨41, _⟩ => ⟨S32x4x2x2048, .f32⟩
  | .hbm, ⟨42, _⟩ => ⟨S_, .f32⟩
  | .hbm, ⟨43, _⟩ => ⟨S32x4x2x2048, .f32⟩
  | .hbm, ⟨44, _⟩ => ⟨S32x4x2x2048, .f32⟩
  | .hbm, ⟨45, _⟩ => ⟨S32x4x2x2048x1, .f32⟩
  | .hbm, ⟨46, _⟩ => ⟨S32x4x2x2048x2048, .f32⟩
  | .hbm, ⟨47, _⟩ => ⟨S32x4x2x2048x2048, .f32⟩
  | .hbm, ⟨48, _⟩ => ⟨S32x4x2x2048x2048, .f32⟩
  | .hbm, ⟨49, _⟩ => ⟨S_, .f32⟩
  | .hbm, ⟨50, _⟩ => ⟨S32x4x2x2048, .f32⟩
  | .hbm, ⟨51, _⟩ => ⟨S32x4x2x2048x1, .f32⟩
  | .hbm, ⟨52, _⟩ => ⟨S32x4x2x2048x2048, .f32⟩
  | .hbm, ⟨53, _⟩ => ⟨S32x4x2x2048x2048, .f32⟩
  | .hbm, ⟨54, _⟩ => ⟨S32x4x1x2048x2048, .f32⟩
  | .hbm, ⟨55, _⟩ => ⟨S32x4x2048x2048, .f32⟩
  | .hbm, ⟨56, _⟩ => ⟨S32x4x1x2048x2048, .f32⟩
  | .hbm, ⟨57, _⟩ => ⟨S32x4x2048x2048, .f32⟩
  | .hbm, ⟨58, _⟩ => ⟨S32x4x2048x2048, .f32⟩
  | .hbm, ⟨59, _⟩ => ⟨S32x4x2048x2048, .f32⟩
  | .hbm, ⟨60, _⟩ => ⟨S32x4x2048x2048, .f32⟩
  | .hbm, ⟨61, _⟩ => ⟨S32x4x128x2048, .f32⟩
  | .hbm, ⟨62, _⟩ => ⟨S32x2048x4x128, .f32⟩
  | .hbm, ⟨63, _⟩ => ⟨S32x2048x4x128, .f32⟩
  | .hbm, ⟨64, _⟩ => ⟨S_, .f32⟩
  | .hbm, ⟨65, _⟩ => ⟨S32x2048x4, .f32⟩
  | .hbm, ⟨66, _⟩ => ⟨S32x2048x4x1, .f32⟩
  | .hbm, ⟨67, _⟩ => ⟨S_, .f32⟩
  | .hbm, ⟨68, _⟩ => ⟨S32x2048x4x1, .f32⟩
  | .hbm, ⟨69, _⟩ => ⟨S32x2048x4x1, .f32⟩
  | .hbm, ⟨70, _⟩ => ⟨S_, .f32⟩
  | .hbm, ⟨71, _⟩ => ⟨S32x2048x4x1, .f32⟩
  | .hbm, ⟨72, _⟩ => ⟨S32x2048x4x1, .f32⟩
  | .hbm, ⟨73, _⟩ => ⟨S32x2048x4x1, .f32⟩
  | .hbm, ⟨74, _⟩ => ⟨S32x2048x4x128, .f32⟩
  | .hbm, ⟨75, _⟩ => ⟨S32x2048x4x128, .f32⟩
  | .hbm, ⟨76, _⟩ => ⟨S1x1x1x128, .f32⟩
  | .hbm, ⟨77, _⟩ => ⟨S32x2048x4x128, .f32⟩
  | .hbm, ⟨78, _⟩ => ⟨S32x2048x4x128, .f32⟩
  | .hbm, ⟨79, _⟩ => ⟨S_, .f32⟩
  | .hbm, ⟨80, _⟩ => ⟨S32x2048x4x128, .f32⟩
  | .hbm, ⟨81, _⟩ => ⟨S32x2048x4x128, .f32⟩
  | .hbm, ⟨82, _⟩ => ⟨S65536x512, .f32⟩
  | .hbm, ⟨83, _⟩ => ⟨S65536x512, .bf16⟩
  | _, _ => ⟨S32x2048x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 8
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x5632, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x1024, .f32⟩
  | .hbm, ⟨34, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x5444 : Shape := ⟨2, ![1024, 5444]⟩
abbrev S2048 : Shape := ⟨1, ![2048]⟩
abbrev S65536x512 : Shape := ⟨2, ![65536, 512]⟩
abbrev S512x1024 : Shape := ⟨2, ![512, 1024]⟩
abbrev S1024x1024 : Shape := ⟨2, ![1024, 1024]⟩
abbrev S1024x2048 : Shape := ⟨2, ![1024, 2048]⟩
abbrev S1x1024 : Shape := ⟨2, ![1, 1024]⟩
abbrev S1x2048 : Shape := ⟨2, ![1, 2048]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩

abbrev nBuf : Space → Nat
  | .hbm => 17
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5444, .f32⟩
  | .hbm, ⟨3, _⟩ => ⟨S2048, .f32⟩
  | .hbm, ⟨4, _⟩ => ⟨S65536x512, .bf16⟩
  | .hbm, ⟨5, _⟩ => ⟨S65536x512, .bf16⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024x2048, .f32⟩
  | .hbm, ⟨10, _⟩ => ⟨S1024x2048, .bf16⟩
  | .hbm, ⟨11, _⟩ => ⟨S1x1024, .f32⟩
  | .hbm, ⟨12, _⟩ => ⟨S1x2048, .f32⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S65536x1024 : Shape := ⟨2, ![65536, 1024]⟩
abbrev S1024 : Shape := ⟨1, ![1024]⟩
abbrev S1024x5444 : Shape := ⟨2, ![1024, 5444]⟩
abbrev S2048 : Shape := ⟨1, ![2048]⟩
abbrev S65536x512 : Shape := ⟨2, ![65536, 512]⟩
abbrev S512x1024 : Shape := ⟨2, ![512, 1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5444 : Shape := ⟨2, ![65536, 5444]⟩
abbrev S65536x2048 : Shape := ⟨2, ![65536, 2048]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5444, .f32⟩
  | .hbm, ⟨3, _⟩ => ⟨S2048, .f32⟩
  | .hbm, ⟨4, _⟩ => ⟨S65536x512, .bf16⟩
  | .hbm, ⟨5, _⟩ => ⟨S65536x512, .bf16⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x5444, .f32⟩
  | .hbm, ⟨26, _⟩ => ⟨S65536x2048, .f32⟩
  | .hbm, ⟨27, _⟩ => ⟨S1x2048, .f32⟩
  | .hbm, ⟨28, _⟩ => ⟨S65536x2048, .f32⟩
  | .hbm, ⟨29, _⟩ => ⟨S65536x2048, .f32⟩
  | .hbm, ⟨30, _⟩ => ⟨S65536x2048, .f32⟩
  | .hbm, ⟨31, _⟩ => ⟨S65536x2048, .f32⟩
  | .hbm, ⟨32, _⟩ => ⟨S_, .f32⟩
  | .hbm, ⟨33, _⟩ => ⟨S65536x2048, .f32⟩
  | .hbm, ⟨34, _⟩ => ⟨S65536x2048, .f32⟩
  | .hbm, ⟨35, _⟩ => ⟨S_, .f32⟩
  | .hbm, ⟨36, _⟩ => ⟨S65536x2048, .f32⟩
  | .hbm, ⟨37, _⟩ => ⟨S65536x2048, .f32⟩
  | .hbm, ⟨38, _⟩ => ⟨S65536x1024, .f32⟩
  | .hbm, ⟨39, _⟩ => ⟨S65536x1024, .f32⟩
  | .hbm, ⟨40, _⟩ => ⟨S65536x512, .f32⟩
  | .hbm, ⟨41, _⟩ => ⟨S65536x1024, .f32⟩
  | .hbm, ⟨42, _⟩ => ⟨S65536x1024, .f32⟩
  | .hbm, ⟨43, _⟩ => ⟨S65536x512, .f32⟩
  | .hbm, ⟨44, _⟩ => ⟨S65536x1024, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Proof.Ffn.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.IdealHost
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0])

/-- The feed-forward part of the four argument arrays, as the reference computes it. -/
abbrev G (c : Dev nD) : Buf (Elt Ideal) ((c : Thread nD τ).loc main_v3) :=
  Cert.Reference2Ideal.Read.val_main_v19 (F := Ideal) (m ((c : Thread nD τ).loc main_arg0)) (m ((c : Thread nD τ).loc main_arg1))
    (m ((c : Thread nD τ).loc main_arg2)) (m ((c : Thread nD τ).loc main_arg3))

/-- The reciprocal of `1 + exp b`. -/
def sigm (b : EReal) : EReal := (1 + Ideal.exp b)⁻¹

/-- A quotient by `1 + exp b` is a product with its reciprocal: the divisor is at least one. -/
theorem div_one_add_exp (a b : EReal) : Ideal.div a (1 + Ideal.exp b) = a * sigm b := by
  have h0 : (0 : EReal) ≤ Ideal.exp b := by
    induction b using EReal.rec with
    | bot => exact le_refl _
    | top => exact le_top
    | coe r => exact EReal.coe_nonneg.mpr (Real.exp_pos r).le
  have h : (1 : EReal) + Ideal.exp b ≠ 0 := by
    have h1 : (1 : EReal) ≤ 1 + Ideal.exp b := le_add_of_nonneg_right h0
    exact (lt_of_lt_of_le zero_lt_one h1).ne'
  unfold Ideal.div sigm
  rw [if_neg h]

theorem final (c : Dev nD) : (dats m 0 c).arrAt 4 cfg0.N = G m c := by
  refine (dats m 0 c).arrAt_eq_of_covers 4 _ (by decide +kernel) fun t hf y => ?_
  blk_simp
  rw [after0_4]
  frame_out
  pointwise [k0_pay1, G, Cert.Reference2Ideal.Read.val_main_v0, Cert.Reference2Ideal.Read.val_main_cst, Cert.Reference2Ideal.Read.val_main_v1, Cert.Reference2Ideal.Read.val_main_v2, Cert.Reference2Ideal.Read.val_main_cst_0, Cert.Reference2Ideal.Read.val_main_v3, Cert.Reference2Ideal.Read.val_main_v4, Cert.Reference2Ideal.Read.val_main_cst_1, Cert.Reference2Ideal.Read.val_main_v5, Cert.Reference2Ideal.Read.val_main_v6, Cert.Reference2Ideal.Read.val_main_v7, Cert.Reference2Ideal.Read.val_main_v8, Cert.Reference2Ideal.Read.val_main_v9, Cert.Reference2Ideal.Read.val_main_v10, Cert.Reference2Ideal.Read.val_main_v11, Cert.Reference2Ideal.Read.val_main_v12, Cert.Reference2Ideal.Read.val_main_v13, Cert.Reference2Ideal.Read.val_main_v14, Cert.Reference2Ideal.Read.val_main_v15, Cert.Reference2Ideal.Read.val_main_call0_v0, Cert.Reference2Ideal.Read.val_main_call0_v1, Cert.Reference2Ideal.Read.val_main_call0_cst, Cert.Reference2Ideal.Read.val_main_call0_v2, Cert.Reference2Ideal.Read.val_main_call0_v3, Cert.Reference2Ideal.Read.val_main_call0_cst_0, Cert.Reference2Ideal.Read.val_main_call0_v4, Cert.Reference2Ideal.Read.val_main_call0_v5, Cert.Reference2Ideal.Read.val_main_v16, Cert.Reference2Ideal.Read.val_main_v17, Cert.Reference2Ideal.Read.val_main_v18, Cert.Reference2Ideal.Read.val_main_v19]
  simp only [div_one_add_exp, zero_sub, one_mul]
  blk_point [iblk, V, idx t]

end Cert.Kernel2Ideal.Ffn
-- ==== Proof.Mrg.lean ====
module

public import proofs.«01_k».proof.Defs
public import proofs.«01_k».proof.Proof.Ffn
public import proofs.«01_k».proof.Proof.Gen.Kernel3.Frame
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.IdealHost
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.Mrg

open Cert.Kernel3Ideal Cert.Kernel3Ideal.Gen
open Cert.Kernel2Ideal.Ffn (sigm div_one_add_exp)

variable (m : (ℓ : Loc nD τ sig) → Buf (Elt Ideal) ℓ) (ρ : Dev nD → PrngReg)

theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0] :=
  (by decide +kernel : ∀ t : Fin grid0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0])

/-- The gated merge of the nine argument arrays, as the reference computes it. -/
abbrev G (c : Dev nD) : Buf (Elt Ideal) ((c : Thread nD τ).loc main_v7) :=
  Cert.Reference3Ideal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem final (c : Dev nD) : (dats m 0 c).arrAt 9 cfg0.N = G m c := by
  refine (dats m 0 c).arrAt_eq_of_covers 9 _ (by decide +kernel) fun t hf y => ?_
  blk_simp
  rw [after0_9]
  frame_out
  pointwise [k0_pay1, k0_pay2, k0_pay3, G, Cert.Reference3Ideal.Read.val_main_v0, Cert.Reference3Ideal.Read.val_main_cst, Cert.Reference3Ideal.Read.val_main_v1, Cert.Reference3Ideal.Read.val_main_v2, Cert.Reference3Ideal.Read.val_main_cst_0, Cert.Reference3Ideal.Read.val_main_v3, Cert.Reference3Ideal.Read.val_main_v4, Cert.Reference3Ideal.Read.val_main_cst_1, Cert.Reference3Ideal.Read.val_main_v5, Cert.Reference3Ideal.Read.val_main_v6, Cert.Reference3Ideal.Read.val_main_v7, Cert.Reference3Ideal.Read.val_main_v8, Cert.Reference3Ideal.Read.val_main_v9, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_v16, Cert.Reference3Ideal.Read.val_main_v17, Cert.Reference3Ideal.Read.val_main_v18, Cert.Reference3Ideal.Read.val_main_v19, Cert.Reference3Ideal.Read.val_main_cst_2, Cert.Reference3Ideal.Read.val_main_v20, Cert.Reference3Ideal.Read.val_main_v21, Cert.Reference3Ideal.Read.val_main_cst_3, Cert.Reference3Ideal.Read.val_main_v22, Cert.Reference3Ideal.Read.val_main_v23, Cert.Reference3Ideal.Read.val_main_v24, Cert.Reference3Ideal.Read.val_main_v25, Cert.Reference3Ideal.Read.val_main_v26, Cert.Reference3Ideal.Read.val_main_v27, Cert.Reference3Ideal.Read.val_main_v28, Cert.Reference3Ideal.Read.val_main_v29, Cert.Reference3Ideal.Read.val_main_v30, Cert.Reference3Ideal.Read.val_main_v31, Cert.Reference3Ideal.Read.val_main_v32, Cert.Reference3Ideal.Read.val_main_v33, Cert.Reference3Ideal.Read.val_main_v34]
  simp only [div_one_add_exp, zero_sub, one_mul]
  blk_point [iblk, V, idx t]

end Cert.Kernel3Ideal.Mrg

end
-- ==== Proof.Spec.lean ====
module

public import proofs.«01_k».proof.Proof.Gen.KernelIdeal.Loops
public import Idealize.ShloMosaic.Lib.VecWindow
public import Idealize.ShloMosaic.Lib.Pipeline.ReadBack
public import Idealize.ShloMosaic.Lib.Pointwise

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The kernel's arithmetic, head by head

The windows a head reads, one chunk's step of the running maximum and of the accumulator, and the buffers they leave, as
functions of whole buffers. A chunk number enters reduced modulo 8, so that every window is inside its buffer. -/

/-- Chunk `c` of the keys of head `n`. -/
def kwin (K : Vec F S2048x1024 .bf16) (c : ℕ) (n : Fin 8) : Vec F S256x64 .bf16 :=
  VecWindow.window (s := S2048x1024) K ![256 * (c % 8), 128 * n.val] S256x64.size
    (Fin.forall_fin_two.2 ⟨by show 256 * (c % 8) + 256 ≤ 2048; omega, by show 128 * n.val + 64 ≤ 1024; omega⟩)

/-- The queries of head `n` of tile `q`. -/
def qwin (Q : Vec F S8x512x256 .bf16) (q : Fin 8) (n : Fin 8) : Vec F S1x64x256 .bf16 :=
  VecWindow.window (s := S8x512x256) Q ![q.val, 64 * n.val, 0] S1x64x256.size
    (fun a => by match a with
      | ⟨0, _⟩ => show q.val + 1 ≤ 8; omega
      | ⟨1, _⟩ => show 64 * n.val + 64 ≤ 512; omega
      | ⟨2, _⟩ => show 0 + 256 ≤ 256; omega)

/-- Chunk `c` of the values of the pair of heads `n` belongs to. -/
def vwin (V : Vec F S8x576x256 .bf16) (c : ℕ) (n : Fin 8) : Vec F S1x144x256 .bf16 :=
  VecWindow.window (s := S8x576x256) V ![c % 8, 144 * (n.val / 2), 0] S1x144x256.size
    (fun a => by match a with
      | ⟨0, _⟩ => show c % 8 + 1 ≤ 8; omega
      | ⟨1, _⟩ => show 144 * (n.val / 2) + 144 ≤ 576; omega
      | ⟨2, _⟩ => show 0 + 256 ≤ 256; omega)

/-- Head `n`'s scores. -/
def lwin (A : Vec F S8x256x256 .bf16) (n : Fin 8) : Vec F S1x256x256 .bf16 :=
  VecWindow.window (s := S8x256x256) A ![n.val, 0, 0] S1x256x256.size
    (fun a => by match a with
      | ⟨0, _⟩ => show n.val + 1 ≤ 8; omega
      | ⟨1, _⟩ => show 0 + 256 ≤ 256; omega
      | ⟨2, _⟩ => show 0 + 256 ≤ 256; omega)

/-- Head `n`'s running maximum (the first of its eight equal rows). -/
def mwin (M : Vec F S8x8x256 .f32) (n : Fin 8) : Vec F S1x1x256 .f32 :=
  VecWindow.window (s := S8x8x256) M ![n.val, 0, 0] S1x1x256.size
    (fun a => by match a with
      | ⟨0, _⟩ => show n.val + 1 ≤ 8; omega
      | ⟨1, _⟩ => show 0 + 1 ≤ 8; omega
      | ⟨2, _⟩ => show 0 + 256 ≤ 256; omega)

/-- Head `n`'s accumulator. -/
def awin (C : Vec F S1152x256 .f32) (n : Fin 8) : Vec F S144x256 .f32 :=
  VecWindow.window (s := S1152x256) C ![144 * n.val, 0] S144x256.size
    (Fin.forall_fin_two.2 ⟨by show 144 * n.val + 144 ≤ 1152; omega, by show 0 + 256 ≤ 256; omega⟩)

/-- The causal mask of chunk `c` against tile `q`. -/
def maskV (q : Fin 8) (c : ℕ) : FVec F S256x256 .bf16 := k0_pay19 (k0_pay301 0#32 1#32 q) (BitVec.ofNat 32 c)

/-- The scores of chunk `c` against tile `q`, every head. -/
def scores (K : Vec F S2048x1024 .bf16) (Q : Vec F S8x512x256 .bf16) (q : Fin 8) (c : ℕ) : Vec F S8x256x256 .bf16 :=
  fun y => k0_pay9 (kwin K c (y 0)) (qwin Q q (y 0)) (ix3 (0 : Fin 1) (y 1) (y 2))

/-- The running maxima after one more chunk, whose scores are `A`. -/
def mNext (mask : FVec F S256x256 .bf16) (A : Vec F S8x256x256 .bf16) (M : Vec F S8x8x256 .f32) : Vec F S8x8x256 .f32 :=
  fun y => k0_pay25 mask (lwin A (y 0)) (mwin M (y 0)) (ix3 (0 : Fin 1) (y 1) (y 2))

/-- The head a row of the accumulators belongs to. -/
def hd (y : S1152x256.Idx) : Fin 8 := ⟨(y 0).val / 144, by have : (y 0).val < 1152 := (y 0).isLt; omega⟩

/-- A row of the accumulators within its head. -/
def rw144 (y : S1152x256.Idx) : Fin 144 := ⟨(y 0).val % 144, by omega⟩

/-- The accumulators after one more chunk `c`, whose scores are `A`. -/
def aNext (mask : FVec F S256x256 .bf16) (V : Vec F S8x576x256 .bf16) (c : ℕ) (A : Vec F S8x256x256 .bf16) (M : Vec F S8x8x256 .f32)
    (C : Vec F S1152x256 .f32) : Vec F S1152x256 .f32 :=
  fun y => k0_pay24 mask (vwin V c (hd y)) (lwin A (hd y)) (mwin M (hd y)) (awin C (hd y)) (ix2 (rw144 y) (y 1))

/-- The running maxima of tile `q` after `c` chunks. -/
def mV (K : Vec F S2048x1024 .bf16) (Q : Vec F S8x512x256 .bf16) (q : Fin 8) : ℕ → Vec F S8x8x256 .f32
  | 0 => k0_pay302
  | c + 1 => mNext (maskV q c) (scores K Q q c) (mV K Q q c)

/-- The accumulators of tile `q` after `c` chunks. -/
def aV (K : Vec F S2048x1024 .bf16) (Q : Vec F S8x512x256 .bf16) (V : Vec F S8x576x256 .bf16) (q : Fin 8) : ℕ → Vec F S1152x256 .f32
  | 0 => k0_pay303
  | c + 1 => aNext (maskV q c) V c (scores K Q q c) (mV K Q q c) (aV K Q V q c)

/-! ## Loads and stores of the windows -/

section
variable {sg : RefSig} {κ : Kind} {sp : Space}

theorem ld_k (v : View sg κ sp S2048x1024 .bf16) (X : v.ty.Contents (Elt F)) {off : Fin 2 → ℕ} (inb : ∀ a, off a + S256x64.size a ≤ S2048x1024.size a)
    (c : ℕ) (n : Fin 8) (h : off = ![256 * (c % 8), 128 * n.val]) :
    v.readAt (Elt F) (Rect.unit (s := S2048x1024) off S256x64.size inb).toLoadRect X = kwin (v.read (Elt F) X) c n :=
  View.readAt_unit v X inb h _

theorem ld_q (v : View sg κ sp S8x512x256 .bf16) (X : v.ty.Contents (Elt F)) {off : Fin 3 → ℕ} (inb : ∀ a, off a + S1x64x256.size a ≤ S8x512x256.size a)
    (q n : Fin 8) (h : off = ![q.val, 64 * n.val, 0]) :
    v.readAt (Elt F) (Rect.unit (s := S8x512x256) off S1x64x256.size inb).toLoadRect X = qwin (v.read (Elt F) X) q n :=
  View.readAt_unit v X inb h _

theorem ld_v (v : View sg κ sp S8x576x256 .bf16) (X : v.ty.Contents (Elt F)) {off : Fin 3 → ℕ} (inb : ∀ a, off a + S1x144x256.size a ≤ S8x576x256.size a)
    (c : ℕ) (n : Fin 8) (h : off = ![c % 8, 144 * (n.val / 2), 0]) :
    v.readAt (Elt F) (Rect.unit (s := S8x576x256) off S1x144x256.size inb).toLoadRect X = vwin (v.read (Elt F) X) c n :=
  View.readAt_unit v X inb h _

theorem ld_l (v : View sg κ sp S8x256x256 .bf16) (X : v.ty.Contents (Elt F)) {off : Fin 3 → ℕ} (inb : ∀ a, off a + S1x256x256.size a ≤ S8x256x256.size a)
    (n : Fin 8) (h : off = ![n.val, 0, 0]) :
    v.readAt (Elt F) (Rect.unit (s := S8x256x256) off S1x256x256.size inb).toLoadRect X = lwin (v.read (Elt F) X) n :=
  View.readAt_unit v X inb h _

theorem ld_m (v : View sg κ sp S8x8x256 .f32) (X : v.ty.Contents (Elt F)) {off : Fin 3 → ℕ} (inb : ∀ a, off a + S1x1x256.size a ≤ S8x8x256.size a)
    (n : Fin 8) (h : off = ![n.val, 0, 0]) :
    v.readAt (Elt F) (Rect.unit (s := S8x8x256) off S1x1x256.size inb).toLoadRect X = mwin (v.read (Elt F) X) n :=
  View.readAt_unit v X inb h _

theorem ld_a (v : View sg κ sp S1152x256 .f32) (X : v.ty.Contents (Elt F)) {off : Fin 2 → ℕ} (inb : ∀ a, off a + S144x256.size a ≤ S1152x256.size a)
    (n : Fin 8) (h : off = ![144 * n.val, 0]) :
    v.readAt (Elt F) (Rect.unit (s := S1152x256) off S144x256.size inb).toLoadRect X = awin (v.read (Elt F) X) n :=
  View.readAt_unit v X inb h _

end

/-- A block put at row `n` of a leading axis. -/
theorem put_lead {α : Type} {a b c : ℕ} (x : (⟨3, ![a, b, c]⟩ : Shape).Idx → α) (n : ℕ) (w : (⟨3, ![1, b, c]⟩ : Shape).Idx → α)
    (y : (⟨3, ![a, b, c]⟩ : Shape).Idx) :
    VecWindow.put (s := ⟨3, ![a, b, c]⟩) x ![n, 0, 0] (⟨3, ![1, b, c]⟩ : Shape).size w y
      = if (y 0).val = n then w (ix3 (0 : Fin 1) (y 1) (y 2)) else x y := by
  unfold VecWindow.put
  have hy1 : (y 1).val < b := (y 1).isLt
  have hy2 : (y 2).val < c := (y 2).isLt
  by_cases h : (y 0).val = n
  · rw [if_pos h, dif_pos (fun a => by match a with
      | ⟨0, _⟩ => show n ≤ (y 0).val ∧ (y 0).val < n + 1; omega
      | ⟨1, _⟩ => show 0 ≤ (y 1).val ∧ (y 1).val < 0 + b; omega
      | ⟨2, _⟩ => show 0 ≤ (y 2).val ∧ (y 2).val < 0 + c; omega)]
    refine congrArg w (funext fun a => Fin.ext ?_)
    match a with
    | ⟨0, _⟩ => show (y 0).val - n = 0; omega
    | ⟨1, _⟩ => rfl
    | ⟨2, _⟩ => rfl
  · rw [if_neg h, dif_neg (fun hall => h (by
      have h0 : n ≤ (y 0).val ∧ (y 0).val < n + 1 := hall 0
      omega))]

/-- A block of 144 rows put at block `n`. -/
theorem put_rows {α : Type} (x : S1152x256.Idx → α) (n : ℕ) (w : S144x256.Idx → α) (y : S1152x256.Idx) :
    VecWindow.put (s := S1152x256) x ![144 * n, 0] S144x256.size w y
      = if (y 0).val / 144 = n then w (ix2 (rw144 y) (y 1)) else x y := by
  unfold VecWindow.put
  have hy1 : (y 1).val < 256 := (y 1).isLt
  by_cases h : (y 0).val / 144 = n
  · rw [if_pos h, dif_pos (Fin.forall_fin_two.2 ⟨by show 144 * n ≤ (y 0).val ∧ (y 0).val < 144 * n + 144; omega,
      by show 0 ≤ (y 1).val ∧ (y 1).val < 0 + 256; omega⟩)]
    refine congrArg w (funext fun a => Fin.ext ?_)
    match a with
    | ⟨0, _⟩ => show (y 0).val - 144 * n = (y 0).val % 144; omega
    | ⟨1, _⟩ => rfl
  · rw [if_neg h, dif_neg (fun hall => h (by
      have h0 : 144 * n ≤ (y 0).val ∧ (y 0).val < 144 * n + 144 := hall 0
      omega))]

section
variable {sg : RefSig} {κ : Kind} {sp : Space}

/-- A buffer one block of which per head has been stored reads the blocks. -/
theorem heads_s (v : View sg κ sp S8x256x256 .bf16) (f : v.ty.Contents (Elt F)) (L : List (View.Piece (Elt F) S8x256x256 .bf16))
    (i0 : ∀ a, (![0, 0, 0] : Fin 3 → ℕ) a + S1x256x256.size a ≤ S8x256x256.size a) (i1 : ∀ a, (![1, 0, 0] : Fin 3 → ℕ) a + S1x256x256.size a ≤ S8x256x256.size a) (i2 : ∀ a, (![2, 0, 0] : Fin 3 → ℕ) a + S1x256x256.size a ≤ S8x256x256.size a) (i3 : ∀ a, (![3, 0, 0] : Fin 3 → ℕ) a + S1x256x256.size a ≤ S8x256x256.size a) (i4 : ∀ a, (![4, 0, 0] : Fin 3 → ℕ) a + S1x256x256.size a ≤ S8x256x256.size a) (i5 : ∀ a, (![5, 0, 0] : Fin 3 → ℕ) a + S1x256x256.size a ≤ S8x256x256.size a) (i6 : ∀ a, (![6, 0, 0] : Fin 3 → ℕ) a + S1x256x256.size a ≤ S8x256x256.size a) (i7 : ∀ a, (![7, 0, 0] : Fin 3 → ℕ) a + S1x256x256.size a ≤ S8x256x256.size a)
    (w : Fin 8 → Vec F S1x256x256 .bf16) {p0 p1 p2 p3 p4 p5 p6 p7 : Vec F S1x256x256 .bf16} (h0 : p0 = w 0) (h1 : p1 = w 1) (h2 : p2 = w 2) (h3 : p3 = w 3) (h4 : p4 = w 4) (h5 : p5 = w 5) (h6 : p6 = w 6) (h7 : p7 = w 7) :
    v.read (Elt F) (v.writes (Elt F) f (⟨Rect.unit (s := S8x256x256) ![7, 0, 0] S1x256x256.size i7, p7⟩ :: ⟨Rect.unit (s := S8x256x256) ![6, 0, 0] S1x256x256.size i6, p6⟩ :: ⟨Rect.unit (s := S8x256x256) ![5, 0, 0] S1x256x256.size i5, p5⟩ :: ⟨Rect.unit (s := S8x256x256) ![4, 0, 0] S1x256x256.size i4, p4⟩ :: ⟨Rect.unit (s := S8x256x256) ![3, 0, 0] S1x256x256.size i3, p3⟩ :: ⟨Rect.unit (s := S8x256x256) ![2, 0, 0] S1x256x256.size i2, p2⟩ :: ⟨Rect.unit (s := S8x256x256) ![1, 0, 0] S1x256x256.size i1, p1⟩ :: ⟨Rect.unit (s := S8x256x256) ![0, 0, 0] S1x256x256.size i0, p0⟩ :: L))
      = fun y => w (y 0) (ix3 (0 : Fin 1) (y 1) (y 2)) := by
  subst h0 h1 h2 h3 h4 h5 h6 h7
  funext y
  have hy : (y 0).val < 8 := (y 0).isLt
  have key : ∀ n : Fin 8, (y 0).val = n.val → y 0 = n := fun n h => Fin.ext h
  rw [View.read_writes_cons_put (s := S8x256x256) (off' := ![7, 0, 0]) v _ i7 _ _ rfl, put_lead]
  rw [View.read_writes_cons_put (s := S8x256x256) (off' := ![6, 0, 0]) v _ i6 _ _ rfl, put_lead]
  rw [View.read_writes_cons_put (s := S8x256x256) (off' := ![5, 0, 0]) v _ i5 _ _ rfl, put_lead]
  rw [View.read_writes_cons_put (s := S8x256x256) (off' := ![4, 0, 0]) v _ i4 _ _ rfl, put_lead]
  rw [View.read_writes_cons_put (s := S8x256x256) (off' := ![3, 0, 0]) v _ i3 _ _ rfl, put_lead]
  rw [View.read_writes_cons_put (s := S8x256x256) (off' := ![2, 0, 0]) v _ i2 _ _ rfl, put_lead]
  rw [View.read_writes_cons_put (s := S8x256x256) (off' := ![1, 0, 0]) v _ i1 _ _ rfl, put_lead]
  rw [View.read_writes_cons_put (s := S8x256x256) (off' := ![0, 0, 0]) v _ i0 _ _ rfl, put_lead]
  by_cases e7 : (y 0).val = 7
  · rw [if_pos e7, key 7 e7]
  rw [if_neg e7]
  by_cases e6 : (y 0).val = 6
  · rw [if_pos e6, key 6 e6]
  rw [if_neg e6]
  by_cases e5 : (y 0).val = 5
  · rw [if_pos e5, key 5 e5]
  rw [if_neg e5]
  by_cases e4 : (y 0).val = 4
  · rw [if_pos e4, key 4 e4]
  rw [if_neg e4]
  by_cases e3 : (y 0).val = 3
  · rw [if_pos e3, key 3 e3]
  rw [if_neg e3]
  by_cases e2 : (y 0).val = 2
  · rw [if_pos e2, key 2 e2]
  rw [if_neg e2]
  by_cases e1 : (y 0).val = 1
  · rw [if_pos e1, key 1 e1]
  rw [if_neg e1]
  by_cases e0 : (y 0).val = 0
  · rw [if_pos e0, key 0 e0]
  rw [if_neg e0]
  exact absurd hy (by omega)

/-- A buffer one block of which per head has been stored reads the blocks. -/
theorem heads_m (v : View sg κ sp S8x8x256 .f32) (f : v.ty.Contents (Elt F)) (L : List (View.Piece (Elt F) S8x8x256 .f32))
    (i0 : ∀ a, (![0, 0, 0] : Fin 3 → ℕ) a + S1x8x256.size a ≤ S8x8x256.size a) (i1 : ∀ a, (![1, 0, 0] : Fin 3 → ℕ) a + S1x8x256.size a ≤ S8x8x256.size a) (i2 : ∀ a, (![2, 0, 0] : Fin 3 → ℕ) a + S1x8x256.size a ≤ S8x8x256.size a) (i3 : ∀ a, (![3, 0, 0] : Fin 3 → ℕ) a + S1x8x256.size a ≤ S8x8x256.size a) (i4 : ∀ a, (![4, 0, 0] : Fin 3 → ℕ) a + S1x8x256.size a ≤ S8x8x256.size a) (i5 : ∀ a, (![5, 0, 0] : Fin 3 → ℕ) a + S1x8x256.size a ≤ S8x8x256.size a) (i6 : ∀ a, (![6, 0, 0] : Fin 3 → ℕ) a + S1x8x256.size a ≤ S8x8x256.size a) (i7 : ∀ a, (![7, 0, 0] : Fin 3 → ℕ) a + S1x8x256.size a ≤ S8x8x256.size a)
    (w : Fin 8 → Vec F S1x8x256 .f32) {p0 p1 p2 p3 p4 p5 p6 p7 : Vec F S1x8x256 .f32} (h0 : p0 = w 0) (h1 : p1 = w 1) (h2 : p2 = w 2) (h3 : p3 = w 3) (h4 : p4 = w 4) (h5 : p5 = w 5) (h6 : p6 = w 6) (h7 : p7 = w 7) :
    v.read (Elt F) (v.writes (Elt F) f (⟨Rect.unit (s := S8x8x256) ![7, 0, 0] S1x8x256.size i7, p7⟩ :: ⟨Rect.unit (s := S8x8x256) ![6, 0, 0] S1x8x256.size i6, p6⟩ :: ⟨Rect.unit (s := S8x8x256) ![5, 0, 0] S1x8x256.size i5, p5⟩ :: ⟨Rect.unit (s := S8x8x256) ![4, 0, 0] S1x8x256.size i4, p4⟩ :: ⟨Rect.unit (s := S8x8x256) ![3, 0, 0] S1x8x256.size i3, p3⟩ :: ⟨Rect.unit (s := S8x8x256) ![2, 0, 0] S1x8x256.size i2, p2⟩ :: ⟨Rect.unit (s := S8x8x256) ![1, 0, 0] S1x8x256.size i1, p1⟩ :: ⟨Rect.unit (s := S8x8x256) ![0, 0, 0] S1x8x256.size i0, p0⟩ :: L))
      = fun y => w (y 0) (ix3 (0 : Fin 1) (y 1) (y 2)) := by
  subst h0 h1 h2 h3 h4 h5 h6 h7
  funext y
  have hy : (y 0).val < 8 := (y 0).isLt
  have key : ∀ n : Fin 8, (y 0).val = n.val → y 0 = n := fun n h => Fin.ext h
  rw [View.read_writes_cons_put (s := S8x8x256) (off' := ![7, 0, 0]) v _ i7 _ _ rfl, put_lead]
  rw [View.read_writes_cons_put (s := S8x8x256) (off' := ![6, 0, 0]) v _ i6 _ _ rfl, put_lead]
  rw [View.read_writes_cons_put (s := S8x8x256) (off' := ![5, 0, 0]) v _ i5 _ _ rfl, put_lead]
  rw [View.read_writes_cons_put (s := S8x8x256) (off' := ![4, 0, 0]) v _ i4 _ _ rfl, put_lead]
  rw [View.read_writes_cons_put (s := S8x8x256) (off' := ![3, 0, 0]) v _ i3 _ _ rfl, put_lead]
  rw [View.read_writes_cons_put (s := S8x8x256) (off' := ![2, 0, 0]) v _ i2 _ _ rfl, put_lead]
  rw [View.read_writes_cons_put (s := S8x8x256) (off' := ![1, 0, 0]) v _ i1 _ _ rfl, put_lead]
  rw [View.read_writes_cons_put (s := S8x8x256) (off' := ![0, 0, 0]) v _ i0 _ _ rfl, put_lead]
  by_cases e7 : (y 0).val = 7
  · rw [if_pos e7, key 7 e7]
  rw [if_neg e7]
  by_cases e6 : (y 0).val = 6
  · rw [if_pos e6, key 6 e6]
  rw [if_neg e6]
  by_cases e5 : (y 0).val = 5
  · rw [if_pos e5, key 5 e5]
  rw [if_neg e5]
  by_cases e4 : (y 0).val = 4
  · rw [if_pos e4, key 4 e4]
  rw [if_neg e4]
  by_cases e3 : (y 0).val = 3
  · rw [if_pos e3, key 3 e3]
  rw [if_neg e3]
  by_cases e2 : (y 0).val = 2
  · rw [if_pos e2, key 2 e2]
  rw [if_neg e2]
  by_cases e1 : (y 0).val = 1
  · rw [if_pos e1, key 1 e1]
  rw [if_neg e1]
  by_cases e0 : (y 0).val = 0
  · rw [if_pos e0, key 0 e0]
  rw [if_neg e0]
  exact absurd hy (by omega)

/-- A buffer one block of which per head has been stored reads the blocks. -/
theorem heads_a (v : View sg κ sp S1152x256 .f32) (f : v.ty.Contents (Elt F)) (L : List (View.Piece (Elt F) S1152x256 .f32))
    (i0 : ∀ a, (![0, 0] : Fin 2 → ℕ) a + S144x256.size a ≤ S1152x256.size a) (i1 : ∀ a, (![144, 0] : Fin 2 → ℕ) a + S144x256.size a ≤ S1152x256.size a) (i2 : ∀ a, (![288, 0] : Fin 2 → ℕ) a + S144x256.size a ≤ S1152x256.size a) (i3 : ∀ a, (![432, 0] : Fin 2 → ℕ) a + S144x256.size a ≤ S1152x256.size a) (i4 : ∀ a, (![576, 0] : Fin 2 → ℕ) a + S144x256.size a ≤ S1152x256.size a) (i5 : ∀ a, (![720, 0] : Fin 2 → ℕ) a + S144x256.size a ≤ S1152x256.size a) (i6 : ∀ a, (![864, 0] : Fin 2 → ℕ) a + S144x256.size a ≤ S1152x256.size a) (i7 : ∀ a, (![1008, 0] : Fin 2 → ℕ) a + S144x256.size a ≤ S1152x256.size a)
    (w : Fin 8 → Vec F S144x256 .f32) {p0 p1 p2 p3 p4 p5 p6 p7 : Vec F S144x256 .f32} (h0 : p0 = w 0) (h1 : p1 = w 1) (h2 : p2 = w 2) (h3 : p3 = w 3) (h4 : p4 = w 4) (h5 : p5 = w 5) (h6 : p6 = w 6) (h7 : p7 = w 7) :
    v.read (Elt F) (v.writes (Elt F) f (⟨Rect.unit (s := S1152x256) ![1008, 0] S144x256.size i7, p7⟩ :: ⟨Rect.unit (s := S1152x256) ![864, 0] S144x256.size i6, p6⟩ :: ⟨Rect.unit (s := S1152x256) ![720, 0] S144x256.size i5, p5⟩ :: ⟨Rect.unit (s := S1152x256) ![576, 0] S144x256.size i4, p4⟩ :: ⟨Rect.unit (s := S1152x256) ![432, 0] S144x256.size i3, p3⟩ :: ⟨Rect.unit (s := S1152x256) ![288, 0] S144x256.size i2, p2⟩ :: ⟨Rect.unit (s := S1152x256) ![144, 0] S144x256.size i1, p1⟩ :: ⟨Rect.unit (s := S1152x256) ![0, 0] S144x256.size i0, p0⟩ :: L))
      = fun y => w (hd y) (ix2 (rw144 y) (y 1)) := by
  subst h0 h1 h2 h3 h4 h5 h6 h7
  funext y
  have hy : (hd y).val < 8 := (hd y).isLt
  have key : ∀ n : Fin 8, (y 0).val / 144 = n.val → hd y = n := fun n h => Fin.ext h
  rw [View.read_writes_cons_put (s := S1152x256) (off' := ![144 * 7, 0]) v _ i7 _ _ rfl, put_rows]
  rw [View.read_writes_cons_put (s := S1152x256) (off' := ![144 * 6, 0]) v _ i6 _ _ rfl, put_rows]
  rw [View.read_writes_cons_put (s := S1152x256) (off' := ![144 * 5, 0]) v _ i5 _ _ rfl, put_rows]
  rw [View.read_writes_cons_put (s := S1152x256) (off' := ![144 * 4, 0]) v _ i4 _ _ rfl, put_rows]
  rw [View.read_writes_cons_put (s := S1152x256) (off' := ![144 * 3, 0]) v _ i3 _ _ rfl, put_rows]
  rw [View.read_writes_cons_put (s := S1152x256) (off' := ![144 * 2, 0]) v _ i2 _ _ rfl, put_rows]
  rw [View.read_writes_cons_put (s := S1152x256) (off' := ![144 * 1, 0]) v _ i1 _ _ rfl, put_rows]
  rw [View.read_writes_cons_put (s := S1152x256) (off' := ![144 * 0, 0]) v _ i0 _ _ rfl, put_rows]
  by_cases e7 : (y 0).val / 144 = 7
  · rw [if_pos e7, key 7 e7]
  rw [if_neg e7]
  by_cases e6 : (y 0).val / 144 = 6
  · rw [if_pos e6, key 6 e6]
  rw [if_neg e6]
  by_cases e5 : (y 0).val / 144 = 5
  · rw [if_pos e5, key 5 e5]
  rw [if_neg e5]
  by_cases e4 : (y 0).val / 144 = 4
  · rw [if_pos e4, key 4 e4]
  rw [if_neg e4]
  by_cases e3 : (y 0).val / 144 = 3
  · rw [if_pos e3, key 3 e3]
  rw [if_neg e3]
  by_cases e2 : (y 0).val / 144 = 2
  · rw [if_pos e2, key 2 e2]
  rw [if_neg e2]
  by_cases e1 : (y 0).val / 144 = 1
  · rw [if_pos e1, key 1 e1]
  rw [if_neg e1]
  by_cases e0 : (y 0).val / 144 = 0
  · rw [if_pos e0, key 0 e0]
  rw [if_neg e0]
  exact absurd hy (by show ¬ (y 0).val / 144 < 8; omega)

end

/-- A covered load is the load of what the stores leave over junk. -/
theorem rc_base {sg : RefSig} {κ : Kind} {sp : Space} {s : Shape} {e : EltTy} (v : View sg κ sp s e) (L : List (View.Piece (Elt F) s e)) (B : LoadRect s) :
    v.readCov L B = v.readAt (Elt F) B (v.writes (Elt F) v.junk L) := rfl

theorem issue_congr {k k' : Vec F S256x64 .bf16} {q q' : Vec F S1x64x256 .bf16} (hk : k = k') (hq : q = q') : k0_pay9 k q = k0_pay9 k' q' := by
  rw [hk, hq]

theorem m_congr {b b' : FVec F S256x256 .bf16} {l l' : Vec F S1x256x256 .bf16} {m m' : Vec F S1x1x256 .f32} (hb : b = b') (hl : l = l') (hm : m = m') :
    k0_pay25 b l m = k0_pay25 b' l' m' := by
  rw [hb, hl, hm]

theorem a_congr {b b' : FVec F S256x256 .bf16} {x x' : Vec F S1x144x256 .bf16} {l l' : Vec F S1x256x256 .bf16} {m m' : Vec F S1x1x256 .f32}
    {a a' : Vec F S144x256 .f32} (hb : b = b') (hx : x = x') (hl : l = l') (hm : m = m') (ha : a = a') :
    k0_pay24 b x l m a = k0_pay24 b' x' l' m' a' := by
  rw [hb, hx, hl, hm, ha]

end Cert.KernelIdeal.Att
-- ==== Proof.T2.lean ====
module

public import proofs.«01_k».proof.Proof.Spec

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## One trip over a pair of chunks, and all of them -/

theorem trips_t1 : k0_t1_loop.trips = 8 := by decide +kernel
theorem trips_t2 : ∀ q : Fin k0_t1_loop.trips, (k0_t2_loop q).trips = (q.val + 1) / 2 := by decide +kernel
theorem trips_t3 : ∀ q : Fin k0_t1_loop.trips, (k0_t3_loop q).trips = 0 := by decide +kernel

theorem mask_c1 : ∀ (q : Fin k0_t1_loop.trips) (k : Fin (k0_t2_loop q).trips), trip_k0_t2.sl.v285 q k = BitVec.ofNat 32 (2 * k.val) := by decide +kernel
theorem mask_c2 : ∀ (q : Fin k0_t1_loop.trips) (k : Fin (k0_t2_loop q).trips), trip_k0_t2.sl.v286 q k = BitVec.ofNat 32 (2 * k.val + 1) := by decide +kernel

section
variable (c : Dev nD) (i : grid0.Coords) (arg1 : Memref sig .tc .vmem S4x64 .f32) (harg1 : arg1.IsWhole) (arg2 : Memref sig .tc .vmem S1x128 .f32) (harg2 : arg2.IsWhole) (arg3 : Memref sig .tc .vmem S8x512x256 .bf16) (harg3 : arg3.IsWhole) (arg4 : Memref sig .tc .vmem S2048x1024 .bf16) (harg4 : arg4.IsWhole) (arg5 : Memref sig .tc .vmem S8x576x256 .bf16) (harg5 : arg5.IsWhole) (arg6 : Memref sig .tc .vmem S2048x512 .bf16) (harg6 : arg6.IsWhole) (arg7 : Memref sig .tc .vmem S8x256x256 .bf16) (harg7 : arg7.IsWhole) (arg8 : Memref sig .tc .vmem S8x256x256 .bf16) (harg8 : arg8.IsWhole) (arg9 : Memref sig .tc .vmem S8x8x256 .f32) (harg9 : arg9.IsWhole) (arg10 : Memref sig .tc .vmem S1152x256 .f32) (harg10 : arg10.IsWhole) (q : Fin k0_t1_loop.trips) (arg11 v3 : BitVec 32) (v23 : IVec S1x256 32) (c2_i32 v35 v37 : BitVec 32) (X_arg3 : BufTy.Contents (Elt F) arg3.view.ty) (X_arg4 : BufTy.Contents (Elt F) arg4.view.ty) (X_arg5 : BufTy.Contents (Elt F) arg5.view.ty)

/-- The scores a trip leaves for the pair's second chunk. -/
theorem t2_s1 (k : Fin (k0_t2_loop q).trips) (f : BufTy.Contents (Elt F) arg8.view.ty) :
    arg8.view.read (Elt F) (arg8.view.writes (Elt F) f (trip_k0_t2.sl.HW_arg8_8 arg3 arg4 q X_arg3 X_arg4 k)) = scores (arg4.view.read (Elt F) X_arg4) (arg3.view.read (Elt F) X_arg3) q (2 * k.val + 1) := by
  refine heads_s _ _ _ _ _ _ _ _ _ _ _ (fun n => k0_pay9 (kwin (arg4.view.read (Elt F) X_arg4) (2 * k.val + 1) n) (qwin (arg3.view.read (Elt F) X_arg3) q n)) ?_ ?_ ?_ ?_ ?_ ?_ ?_ ?_
  · exact issue_congr (ld_k arg4.view X_arg4 _ (2 * k.val + 1) 0 (by rw [k0_off9_eq]; exact congrArg (fun c : ℕ => (![256 * c, 0] : Fin 2 → ℕ)) (by have := k.isLt; have := trips_t2 q; have hq : q.val < 8 := q.isLt; omega))) (ld_q arg3.view X_arg3 _ q 0 (k0_off10_eq q))
  · exact issue_congr (ld_k arg4.view X_arg4 _ (2 * k.val + 1) 1 (by rw [k0_off11_eq]; exact congrArg (fun c : ℕ => (![256 * c, 128] : Fin 2 → ℕ)) (by have := k.isLt; have := trips_t2 q; have hq : q.val < 8 := q.isLt; omega))) (ld_q arg3.view X_arg3 _ q 1 (k0_off12_eq q))
  · exact issue_congr (ld_k arg4.view X_arg4 _ (2 * k.val + 1) 2 (by rw [k0_off13_eq]; exact congrArg (fun c : ℕ => (![256 * c, 256] : Fin 2 → ℕ)) (by have := k.isLt; have := trips_t2 q; have hq : q.val < 8 := q.isLt; omega))) (ld_q arg3.view X_arg3 _ q 2 (k0_off14_eq q))
  · exact issue_congr (ld_k arg4.view X_arg4 _ (2 * k.val + 1) 3 (by rw [k0_off15_eq]; exact congrArg (fun c : ℕ => (![256 * c, 384] : Fin 2 → ℕ)) (by have := k.isLt; have := trips_t2 q; have hq : q.val < 8 := q.isLt; omega))) (ld_q arg3.view X_arg3 _ q 3 (k0_off16_eq q))
  · exact issue_congr (ld_k arg4.view X_arg4 _ (2 * k.val + 1) 4 (by rw [k0_off17_eq]; exact congrArg (fun c : ℕ => (![256 * c, 512] : Fin 2 → ℕ)) (by have := k.isLt; have := trips_t2 q; have hq : q.val < 8 := q.isLt; omega))) (ld_q arg3.view X_arg3 _ q 4 (k0_off18_eq q))
  · exact issue_congr (ld_k arg4.view X_arg4 _ (2 * k.val + 1) 5 (by rw [k0_off19_eq]; exact congrArg (fun c : ℕ => (![256 * c, 640] : Fin 2 → ℕ)) (by have := k.isLt; have := trips_t2 q; have hq : q.val < 8 := q.isLt; omega))) (ld_q arg3.view X_arg3 _ q 5 (k0_off20_eq q))
  · exact issue_congr (ld_k arg4.view X_arg4 _ (2 * k.val + 1) 6 (by rw [k0_off21_eq]; exact congrArg (fun c : ℕ => (![256 * c, 768] : Fin 2 → ℕ)) (by have := k.isLt; have := trips_t2 q; have hq : q.val < 8 := q.isLt; omega))) (ld_q arg3.view X_arg3 _ q 6 (k0_off22_eq q))
  · exact issue_congr (ld_k arg4.view X_arg4 _ (2 * k.val + 1) 7 (by rw [k0_off23_eq]; exact congrArg (fun c : ℕ => (![256 * c, 896] : Fin 2 → ℕ)) (by have := k.isLt; have := trips_t2 q; have hq : q.val < 8 := q.isLt; omega))) (ld_q arg3.view X_arg3 _ q 7 (k0_off24_eq q))

/-- The running maxima after the pair's first chunk. -/
theorem t2_m1 (k : Fin (k0_t2_loop q).trips) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f : BufTy.Contents (Elt F) arg9.view.ty) (A : Vec F S8x256x256 .bf16) (M : Vec F S8x8x256 .f32) (hA : arg7.view.read (Elt F) f_arg7 = A) (hM : arg9.view.read (Elt F) f_arg9 = M) :
    arg9.view.read (Elt F) (arg9.view.writes (Elt F) f (trip_k0_t2.sl.HW_arg9_8 arg7 arg9 q (k0_pay301 0#32 1#32 q) k f_arg7 f_arg9)) = mNext (maskV q (2 * k.val)) A M := by
  refine heads_m _ _ _ _ _ _ _ _ _ _ _ (fun n => k0_pay25 (maskV q (2 * k.val)) (lwin A n) (mwin M n)) ?_ ?_ ?_ ?_ ?_ ?_ ?_ ?_
  · exact m_congr (congrArg (k0_pay19 _) (mask_c1 q k)) ((ld_l _ _ _ 0 rfl).trans (congrArg (fun x => lwin x 0) hA)) ((ld_m _ _ _ 0 rfl).trans (congrArg (fun x => mwin x 0) hM))
  · exact m_congr (congrArg (k0_pay19 _) (mask_c1 q k)) ((ld_l _ _ _ 1 rfl).trans (congrArg (fun x => lwin x 1) hA)) ((ld_m _ _ _ 1 rfl).trans (congrArg (fun x => mwin x 1) hM))
  · exact m_congr (congrArg (k0_pay19 _) (mask_c1 q k)) ((ld_l _ _ _ 2 rfl).trans (congrArg (fun x => lwin x 2) hA)) ((ld_m _ _ _ 2 rfl).trans (congrArg (fun x => mwin x 2) hM))
  · exact m_congr (congrArg (k0_pay19 _) (mask_c1 q k)) ((ld_l _ _ _ 3 rfl).trans (congrArg (fun x => lwin x 3) hA)) ((ld_m _ _ _ 3 rfl).trans (congrArg (fun x => mwin x 3) hM))
  · exact m_congr (congrArg (k0_pay19 _) (mask_c1 q k)) ((ld_l _ _ _ 4 rfl).trans (congrArg (fun x => lwin x 4) hA)) ((ld_m _ _ _ 4 rfl).trans (congrArg (fun x => mwin x 4) hM))
  · exact m_congr (congrArg (k0_pay19 _) (mask_c1 q k)) ((ld_l _ _ _ 5 rfl).trans (congrArg (fun x => lwin x 5) hA)) ((ld_m _ _ _ 5 rfl).trans (congrArg (fun x => mwin x 5) hM))
  · exact m_congr (congrArg (k0_pay19 _) (mask_c1 q k)) ((ld_l _ _ _ 6 rfl).trans (congrArg (fun x => lwin x 6) hA)) ((ld_m _ _ _ 6 rfl).trans (congrArg (fun x => mwin x 6) hM))
  · exact m_congr (congrArg (k0_pay19 _) (mask_c1 q k)) ((ld_l _ _ _ 7 rfl).trans (congrArg (fun x => lwin x 7) hA)) ((ld_m _ _ _ 7 rfl).trans (congrArg (fun x => mwin x 7) hM))

/-- The accumulators after the pair's first chunk. -/
theorem t2_a1 (k : Fin (k0_t2_loop q).trips) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f : BufTy.Contents (Elt F) arg10.view.ty) (A : Vec F S8x256x256 .bf16) (M : Vec F S8x8x256 .f32) (Cc : Vec F S1152x256 .f32) (hA : arg7.view.read (Elt F) f_arg7 = A) (hM : arg9.view.read (Elt F) f_arg9 = M) (hC : arg10.view.read (Elt F) f_arg10 = Cc) :
    arg10.view.read (Elt F) (arg10.view.writes (Elt F) f (trip_k0_t2.sl.HW_arg10_8 arg5 arg7 arg9 arg10 q (k0_pay301 0#32 1#32 q) X_arg5 k f_arg7 f_arg9 f_arg10)) = aNext (maskV q (2 * k.val)) (arg5.view.read (Elt F) X_arg5) (2 * k.val) A M Cc := by
  refine heads_a _ _ _ _ _ _ _ _ _ _ _ (fun n => k0_pay24 (maskV q (2 * k.val)) (vwin (arg5.view.read (Elt F) X_arg5) (2 * k.val) n) (lwin A n) (mwin M n) (awin Cc n)) ?_ ?_ ?_ ?_ ?_ ?_ ?_ ?_
  · exact a_congr (congrArg (k0_pay19 _) (mask_c1 q k)) (ld_v _ _ _ (2 * k.val) 0 (by rw [k0_off25_eq]; exact congrArg (fun c : ℕ => (![c, 0, 0] : Fin 3 → ℕ)) (by have := k.isLt; have := trips_t2 q; have hq : q.val < 8 := q.isLt; omega))) ((ld_l _ _ _ 0 rfl).trans (congrArg (fun x => lwin x 0) hA)) ((ld_m _ _ _ 0 rfl).trans (congrArg (fun x => mwin x 0) hM)) ((ld_a _ _ _ 0 rfl).trans (congrArg (fun x => awin x 0) hC))
  · exact a_congr (congrArg (k0_pay19 _) (mask_c1 q k)) (ld_v _ _ _ (2 * k.val) 1 (by rw [k0_off25_eq]; exact congrArg (fun c : ℕ => (![c, 0, 0] : Fin 3 → ℕ)) (by have := k.isLt; have := trips_t2 q; have hq : q.val < 8 := q.isLt; omega))) ((ld_l _ _ _ 1 rfl).trans (congrArg (fun x => lwin x 1) hA)) ((ld_m _ _ _ 1 rfl).trans (congrArg (fun x => mwin x 1) hM)) ((ld_a _ _ _ 1 rfl).trans (congrArg (fun x => awin x 1) hC))
  · exact a_congr (congrArg (k0_pay19 _) (mask_c1 q k)) (ld_v _ _ _ (2 * k.val) 2 (by rw [k0_off26_eq]; exact congrArg (fun c : ℕ => (![c, 144, 0] : Fin 3 → ℕ)) (by have := k.isLt; have := trips_t2 q; have hq : q.val < 8 := q.isLt; omega))) ((ld_l _ _ _ 2 rfl).trans (congrArg (fun x => lwin x 2) hA)) ((ld_m _ _ _ 2 rfl).trans (congrArg (fun x => mwin x 2) hM)) ((ld_a _ _ _ 2 rfl).trans (congrArg (fun x => awin x 2) hC))
  · exact a_congr (congrArg (k0_pay19 _) (mask_c1 q k)) (ld_v _ _ _ (2 * k.val) 3 (by rw [k0_off26_eq]; exact congrArg (fun c : ℕ => (![c, 144, 0] : Fin 3 → ℕ)) (by have := k.isLt; have := trips_t2 q; have hq : q.val < 8 := q.isLt; omega))) ((ld_l _ _ _ 3 rfl).trans (congrArg (fun x => lwin x 3) hA)) ((ld_m _ _ _ 3 rfl).trans (congrArg (fun x => mwin x 3) hM)) ((ld_a _ _ _ 3 rfl).trans (congrArg (fun x => awin x 3) hC))
  · exact a_congr (congrArg (k0_pay19 _) (mask_c1 q k)) (ld_v _ _ _ (2 * k.val) 4 (by rw [k0_off27_eq]; exact congrArg (fun c : ℕ => (![c, 288, 0] : Fin 3 → ℕ)) (by have := k.isLt; have := trips_t2 q; have hq : q.val < 8 := q.isLt; omega))) ((ld_l _ _ _ 4 rfl).trans (congrArg (fun x => lwin x 4) hA)) ((ld_m _ _ _ 4 rfl).trans (congrArg (fun x => mwin x 4) hM)) ((ld_a _ _ _ 4 rfl).trans (congrArg (fun x => awin x 4) hC))
  · exact a_congr (congrArg (k0_pay19 _) (mask_c1 q k)) (ld_v _ _ _ (2 * k.val) 5 (by rw [k0_off27_eq]; exact congrArg (fun c : ℕ => (![c, 288, 0] : Fin 3 → ℕ)) (by have := k.isLt; have := trips_t2 q; have hq : q.val < 8 := q.isLt; omega))) ((ld_l _ _ _ 5 rfl).trans (congrArg (fun x => lwin x 5) hA)) ((ld_m _ _ _ 5 rfl).trans (congrArg (fun x => mwin x 5) hM)) ((ld_a _ _ _ 5 rfl).trans (congrArg (fun x => awin x 5) hC))
  · exact a_congr (congrArg (k0_pay19 _) (mask_c1 q k)) (ld_v _ _ _ (2 * k.val) 6 (by rw [k0_off28_eq]; exact congrArg (fun c : ℕ => (![c, 432, 0] : Fin 3 → ℕ)) (by have := k.isLt; have := trips_t2 q; have hq : q.val < 8 := q.isLt; omega))) ((ld_l _ _ _ 6 rfl).trans (congrArg (fun x => lwin x 6) hA)) ((ld_m _ _ _ 6 rfl).trans (congrArg (fun x => mwin x 6) hM)) ((ld_a _ _ _ 6 rfl).trans (congrArg (fun x => awin x 6) hC))
  · exact a_congr (congrArg (k0_pay19 _) (mask_c1 q k)) (ld_v _ _ _ (2 * k.val) 7 (by rw [k0_off28_eq]; exact congrArg (fun c : ℕ => (![c, 432, 0] : Fin 3 → ℕ)) (by have := k.isLt; have := trips_t2 q; have hq : q.val < 8 := q.isLt; omega))) ((ld_l _ _ _ 7 rfl).trans (congrArg (fun x => lwin x 7) hA)) ((ld_m _ _ _ 7 rfl).trans (congrArg (fun x => mwin x 7) hM)) ((ld_a _ _ _ 7 rfl).trans (congrArg (fun x => awin x 7) hC))

/-- The scores a trip leaves for the next pair. -/
theorem t2_s2 (k : Fin (k0_t2_loop q).trips) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) :
    arg7.view.read (Elt F) (arg7.view.writes (Elt F) f_arg7 ((trip_k0_t2 (F := F) Variants.none c none i arg1 harg1 arg2 harg2 arg3 harg3 arg4 harg4 arg5 harg5 arg6 harg6 arg7 harg7 arg8 harg8 arg9 harg9 arg10 harg10 q arg11 v3 (k0_pay301 0#32 1#32 q) c2_i32 v35 v37 X_arg3 X_arg4 X_arg5 k).1 f_arg7 f_arg8 f_arg9 f_arg10)) = scores (arg4.view.read (Elt F) X_arg4) (arg3.view.read (Elt F) X_arg3) q (min (2 * k.val + 2) q.val) := by
  unfold trip_k0_t2
  refine heads_s _ _ _ _ _ _ _ _ _ _ _ (fun n => k0_pay9 (kwin (arg4.view.read (Elt F) X_arg4) (min (2 * k.val + 2) q.val) n) (qwin (arg3.view.read (Elt F) X_arg3) q n)) ?_ ?_ ?_ ?_ ?_ ?_ ?_ ?_
  · exact issue_congr (ld_k arg4.view X_arg4 _ (min (2 * k.val + 2) q.val) 0 (by rw [k0_off29_eq]; exact congrArg (fun c : ℕ => (![256 * c, 0] : Fin 2 → ℕ)) (by have := k.isLt; have := trips_t2 q; have hq : q.val < 8 := q.isLt; omega))) (ld_q arg3.view X_arg3 _ q 0 (k0_off10_eq q))
  · exact issue_congr (ld_k arg4.view X_arg4 _ (min (2 * k.val + 2) q.val) 1 (by rw [k0_off30_eq]; exact congrArg (fun c : ℕ => (![256 * c, 128] : Fin 2 → ℕ)) (by have := k.isLt; have := trips_t2 q; have hq : q.val < 8 := q.isLt; omega))) (ld_q arg3.view X_arg3 _ q 1 (k0_off12_eq q))
  · exact issue_congr (ld_k arg4.view X_arg4 _ (min (2 * k.val + 2) q.val) 2 (by rw [k0_off31_eq]; exact congrArg (fun c : ℕ => (![256 * c, 256] : Fin 2 → ℕ)) (by have := k.isLt; have := trips_t2 q; have hq : q.val < 8 := q.isLt; omega))) (ld_q arg3.view X_arg3 _ q 2 (k0_off14_eq q))
  · exact issue_congr (ld_k arg4.view X_arg4 _ (min (2 * k.val + 2) q.val) 3 (by rw [k0_off32_eq]; exact congrArg (fun c : ℕ => (![256 * c, 384] : Fin 2 → ℕ)) (by have := k.isLt; have := trips_t2 q; have hq : q.val < 8 := q.isLt; omega))) (ld_q arg3.view X_arg3 _ q 3 (k0_off16_eq q))
  · exact issue_congr (ld_k arg4.view X_arg4 _ (min (2 * k.val + 2) q.val) 4 (by rw [k0_off33_eq]; exact congrArg (fun c : ℕ => (![256 * c, 512] : Fin 2 → ℕ)) (by have := k.isLt; have := trips_t2 q; have hq : q.val < 8 := q.isLt; omega))) (ld_q arg3.view X_arg3 _ q 4 (k0_off18_eq q))
  · exact issue_congr (ld_k arg4.view X_arg4 _ (min (2 * k.val + 2) q.val) 5 (by rw [k0_off34_eq]; exact congrArg (fun c : ℕ => (![256 * c, 640] : Fin 2 → ℕ)) (by have := k.isLt; have := trips_t2 q; have hq : q.val < 8 := q.isLt; omega))) (ld_q arg3.view X_arg3 _ q 5 (k0_off20_eq q))
  · exact issue_congr (ld_k arg4.view X_arg4 _ (min (2 * k.val + 2) q.val) 6 (by rw [k0_off35_eq]; exact congrArg (fun c : ℕ => (![256 * c, 768] : Fin 2 → ℕ)) (by have := k.isLt; have := trips_t2 q; have hq : q.val < 8 := q.isLt; omega))) (ld_q arg3.view X_arg3 _ q 6 (k0_off22_eq q))
  · exact issue_congr (ld_k arg4.view X_arg4 _ (min (2 * k.val + 2) q.val) 7 (by rw [k0_off36_eq]; exact congrArg (fun c : ℕ => (![256 * c, 896] : Fin 2 → ℕ)) (by have := k.isLt; have := trips_t2 q; have hq : q.val < 8 := q.isLt; omega))) (ld_q arg3.view X_arg3 _ q 7 (k0_off24_eq q))

/-- The running maxima after the pair. -/
theorem t2_m2 (k : Fin (k0_t2_loop q).trips) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (A : Vec F S8x256x256 .bf16) (M : Vec F S8x8x256 .f32) (hA : arg7.view.read (Elt F) f_arg7 = A) (hM : arg9.view.read (Elt F) f_arg9 = M) :
    arg9.view.read (Elt F) (arg9.view.writes (Elt F) f_arg9 ((trip_k0_t2 (F := F) Variants.none c none i arg1 harg1 arg2 harg2 arg3 harg3 arg4 harg4 arg5 harg5 arg6 harg6 arg7 harg7 arg8 harg8 arg9 harg9 arg10 harg10 q arg11 v3 (k0_pay301 0#32 1#32 q) c2_i32 v35 v37 X_arg3 X_arg4 X_arg5 k).2.2.1 f_arg7 f_arg8 f_arg9 f_arg10)) = mNext (maskV q (2 * k.val + 1)) (scores (arg4.view.read (Elt F) X_arg4) (arg3.view.read (Elt F) X_arg3) q (2 * k.val + 1)) (mNext (maskV q (2 * k.val)) A M) := by
  unfold trip_k0_t2
  refine heads_m _ _ _ _ _ _ _ _ _ _ _ (fun n => k0_pay25 (maskV q (2 * k.val + 1)) (lwin (scores (arg4.view.read (Elt F) X_arg4) (arg3.view.read (Elt F) X_arg3) q (2 * k.val + 1)) n) (mwin (mNext (maskV q (2 * k.val)) A M) n)) ?_ ?_ ?_ ?_ ?_ ?_ ?_ ?_
  · exact m_congr (congrArg (k0_pay19 _) (mask_c2 q k)) ((rc_base _ _ _).trans ((ld_l _ _ _ 0 rfl).trans (congrArg (fun x => lwin x 0) (t2_s1 arg3 arg4 arg8 q X_arg3 X_arg4 k _)))) ((rc_base _ _ _).trans ((ld_m _ _ _ 0 rfl).trans (congrArg (fun x => mwin x 0) (t2_m1 arg7 arg8 arg9 arg10 q k f_arg7 f_arg8 f_arg9 f_arg10 _ A M hA hM))))
  · exact m_congr (congrArg (k0_pay19 _) (mask_c2 q k)) ((rc_base _ _ _).trans ((ld_l _ _ _ 1 rfl).trans (congrArg (fun x => lwin x 1) (t2_s1 arg3 arg4 arg8 q X_arg3 X_arg4 k _)))) ((View.readCov_skip _ _ _ _ _ rfl).trans ((rc_base _ _ _).trans ((ld_m _ _ _ 1 rfl).trans (congrArg (fun x => mwin x 1) (t2_m1 arg7 arg8 arg9 arg10 q k f_arg7 f_arg8 f_arg9 f_arg10 _ A M hA hM)))))
  · exact m_congr (congrArg (k0_pay19 _) (mask_c2 q k)) ((rc_base _ _ _).trans ((ld_l _ _ _ 2 rfl).trans (congrArg (fun x => lwin x 2) (t2_s1 arg3 arg4 arg8 q X_arg3 X_arg4 k _)))) ((View.readCov_skip _ _ _ _ _ rfl).trans ((View.readCov_skip _ _ _ _ _ rfl).trans ((rc_base _ _ _).trans ((ld_m _ _ _ 2 rfl).trans (congrArg (fun x => mwin x 2) (t2_m1 arg7 arg8 arg9 arg10 q k f_arg7 f_arg8 f_arg9 f_arg10 _ A M hA hM))))))
  · exact m_congr (congrArg (k0_pay19 _) (mask_c2 q k)) ((rc_base _ _ _).trans ((ld_l _ _ _ 3 rfl).trans (congrArg (fun x => lwin x 3) (t2_s1 arg3 arg4 arg8 q X_arg3 X_arg4 k _)))) ((View.readCov_skip _ _ _ _ _ rfl).trans ((View.readCov_skip _ _ _ _ _ rfl).trans ((View.readCov_skip _ _ _ _ _ rfl).trans ((rc_base _ _ _).trans ((ld_m _ _ _ 3 rfl).trans (congrArg (fun x => mwin x 3) (t2_m1 arg7 arg8 arg9 arg10 q k f_arg7 f_arg8 f_arg9 f_arg10 _ A M hA hM)))))))
  · exact m_congr (congrArg (k0_pay19 _) (mask_c2 q k)) ((rc_base _ _ _).trans ((ld_l _ _ _ 4 rfl).trans (congrArg (fun x => lwin x 4) (t2_s1 arg3 arg4 arg8 q X_arg3 X_arg4 k _)))) ((View.readCov_skip _ _ _ _ _ rfl).trans ((View.readCov_skip _ _ _ _ _ rfl).trans ((View.readCov_skip _ _ _ _ _ rfl).trans ((View.readCov_skip _ _ _ _ _ rfl).trans ((rc_base _ _ _).trans ((ld_m _ _ _ 4 rfl).trans (congrArg (fun x => mwin x 4) (t2_m1 arg7 arg8 arg9 arg10 q k f_arg7 f_arg8 f_arg9 f_arg10 _ A M hA hM))))))))
  · exact m_congr (congrArg (k0_pay19 _) (mask_c2 q k)) ((rc_base _ _ _).trans ((ld_l _ _ _ 5 rfl).trans (congrArg (fun x => lwin x 5) (t2_s1 arg3 arg4 arg8 q X_arg3 X_arg4 k _)))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((rc_base _ _ _).trans ((ld_m _ _ _ 5 rfl).trans (congrArg (fun x => mwin x 5) (t2_m1 arg7 arg8 arg9 arg10 q k f_arg7 f_arg8 f_arg9 f_arg10 _ A M hA hM)))))))))
  · exact m_congr (congrArg (k0_pay19 _) (mask_c2 q k)) ((rc_base _ _ _).trans ((ld_l _ _ _ 6 rfl).trans (congrArg (fun x => lwin x 6) (t2_s1 arg3 arg4 arg8 q X_arg3 X_arg4 k _)))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((rc_base _ _ _).trans ((ld_m _ _ _ 6 rfl).trans (congrArg (fun x => mwin x 6) (t2_m1 arg7 arg8 arg9 arg10 q k f_arg7 f_arg8 f_arg9 f_arg10 _ A M hA hM))))))))))
  · exact m_congr (congrArg (k0_pay19 _) (mask_c2 q k)) ((rc_base _ _ _).trans ((ld_l _ _ _ 7 rfl).trans (congrArg (fun x => lwin x 7) (t2_s1 arg3 arg4 arg8 q X_arg3 X_arg4 k _)))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((rc_base _ _ _).trans ((ld_m _ _ _ 7 rfl).trans (congrArg (fun x => mwin x 7) (t2_m1 arg7 arg8 arg9 arg10 q k f_arg7 f_arg8 f_arg9 f_arg10 _ A M hA hM)))))))))))

/-- The accumulators after the pair. -/
theorem t2_a2 (k : Fin (k0_t2_loop q).trips) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (A : Vec F S8x256x256 .bf16) (M : Vec F S8x8x256 .f32) (Cc : Vec F S1152x256 .f32) (hA : arg7.view.read (Elt F) f_arg7 = A) (hM : arg9.view.read (Elt F) f_arg9 = M) (hC : arg10.view.read (Elt F) f_arg10 = Cc) :
    arg10.view.read (Elt F) (arg10.view.writes (Elt F) f_arg10 ((trip_k0_t2 (F := F) Variants.none c none i arg1 harg1 arg2 harg2 arg3 harg3 arg4 harg4 arg5 harg5 arg6 harg6 arg7 harg7 arg8 harg8 arg9 harg9 arg10 harg10 q arg11 v3 (k0_pay301 0#32 1#32 q) c2_i32 v35 v37 X_arg3 X_arg4 X_arg5 k).2.2.2.1 f_arg7 f_arg8 f_arg9 f_arg10)) = aNext (maskV q (2 * k.val + 1)) (arg5.view.read (Elt F) X_arg5) (2 * k.val + 1) (scores (arg4.view.read (Elt F) X_arg4) (arg3.view.read (Elt F) X_arg3) q (2 * k.val + 1)) (mNext (maskV q (2 * k.val)) A M) (aNext (maskV q (2 * k.val)) (arg5.view.read (Elt F) X_arg5) (2 * k.val) A M Cc) := by
  unfold trip_k0_t2
  refine heads_a _ _ _ _ _ _ _ _ _ _ _ (fun n => k0_pay24 (maskV q (2 * k.val + 1)) (vwin (arg5.view.read (Elt F) X_arg5) (2 * k.val + 1) n) (lwin (scores (arg4.view.read (Elt F) X_arg4) (arg3.view.read (Elt F) X_arg3) q (2 * k.val + 1)) n) (mwin (mNext (maskV q (2 * k.val)) A M) n) (awin (aNext (maskV q (2 * k.val)) (arg5.view.read (Elt F) X_arg5) (2 * k.val) A M Cc) n)) ?_ ?_ ?_ ?_ ?_ ?_ ?_ ?_
  · exact a_congr (congrArg (k0_pay19 _) (mask_c2 q k)) (ld_v _ _ _ (2 * k.val + 1) 0 (by rw [k0_off37_eq]; exact congrArg (fun c : ℕ => (![c, 0, 0] : Fin 3 → ℕ)) (by have := k.isLt; have := trips_t2 q; have hq : q.val < 8 := q.isLt; omega))) ((rc_base _ _ _).trans ((ld_l _ _ _ 0 rfl).trans (congrArg (fun x => lwin x 0) (t2_s1 arg3 arg4 arg8 q X_arg3 X_arg4 k _)))) ((rc_base _ _ _).trans ((ld_m _ _ _ 0 rfl).trans (congrArg (fun x => mwin x 0) (t2_m1 arg7 arg8 arg9 arg10 q k f_arg7 f_arg8 f_arg9 f_arg10 _ A M hA hM)))) ((rc_base _ _ _).trans ((ld_a _ _ _ 0 rfl).trans (congrArg (fun x => awin x 0) (t2_a1 arg5 arg7 arg8 arg9 arg10 q X_arg5 k f_arg7 f_arg8 f_arg9 f_arg10 _ A M Cc hA hM hC))))
  · exact a_congr (congrArg (k0_pay19 _) (mask_c2 q k)) (ld_v _ _ _ (2 * k.val + 1) 1 (by rw [k0_off37_eq]; exact congrArg (fun c : ℕ => (![c, 0, 0] : Fin 3 → ℕ)) (by have := k.isLt; have := trips_t2 q; have hq : q.val < 8 := q.isLt; omega))) ((rc_base _ _ _).trans ((ld_l _ _ _ 1 rfl).trans (congrArg (fun x => lwin x 1) (t2_s1 arg3 arg4 arg8 q X_arg3 X_arg4 k _)))) ((View.readCov_skip _ _ _ _ _ rfl).trans ((rc_base _ _ _).trans ((ld_m _ _ _ 1 rfl).trans (congrArg (fun x => mwin x 1) (t2_m1 arg7 arg8 arg9 arg10 q k f_arg7 f_arg8 f_arg9 f_arg10 _ A M hA hM))))) ((View.readCov_skip _ _ _ _ _ rfl).trans ((rc_base _ _ _).trans ((ld_a _ _ _ 1 rfl).trans (congrArg (fun x => awin x 1) (t2_a1 arg5 arg7 arg8 arg9 arg10 q X_arg5 k f_arg7 f_arg8 f_arg9 f_arg10 _ A M Cc hA hM hC)))))
  · exact a_congr (congrArg (k0_pay19 _) (mask_c2 q k)) (ld_v _ _ _ (2 * k.val + 1) 2 (by rw [k0_off38_eq]; exact congrArg (fun c : ℕ => (![c, 144, 0] : Fin 3 → ℕ)) (by have := k.isLt; have := trips_t2 q; have hq : q.val < 8 := q.isLt; omega))) ((rc_base _ _ _).trans ((ld_l _ _ _ 2 rfl).trans (congrArg (fun x => lwin x 2) (t2_s1 arg3 arg4 arg8 q X_arg3 X_arg4 k _)))) ((View.readCov_skip _ _ _ _ _ rfl).trans ((View.readCov_skip _ _ _ _ _ rfl).trans ((rc_base _ _ _).trans ((ld_m _ _ _ 2 rfl).trans (congrArg (fun x => mwin x 2) (t2_m1 arg7 arg8 arg9 arg10 q k f_arg7 f_arg8 f_arg9 f_arg10 _ A M hA hM)))))) ((View.readCov_skip _ _ _ _ _ rfl).trans ((View.readCov_skip _ _ _ _ _ rfl).trans ((rc_base _ _ _).trans ((ld_a _ _ _ 2 rfl).trans (congrArg (fun x => awin x 2) (t2_a1 arg5 arg7 arg8 arg9 arg10 q X_arg5 k f_arg7 f_arg8 f_arg9 f_arg10 _ A M Cc hA hM hC))))))
  · exact a_congr (congrArg (k0_pay19 _) (mask_c2 q k)) (ld_v _ _ _ (2 * k.val + 1) 3 (by rw [k0_off38_eq]; exact congrArg (fun c : ℕ => (![c, 144, 0] : Fin 3 → ℕ)) (by have := k.isLt; have := trips_t2 q; have hq : q.val < 8 := q.isLt; omega))) ((rc_base _ _ _).trans ((ld_l _ _ _ 3 rfl).trans (congrArg (fun x => lwin x 3) (t2_s1 arg3 arg4 arg8 q X_arg3 X_arg4 k _)))) ((View.readCov_skip _ _ _ _ _ rfl).trans ((View.readCov_skip _ _ _ _ _ rfl).trans ((View.readCov_skip _ _ _ _ _ rfl).trans ((rc_base _ _ _).trans ((ld_m _ _ _ 3 rfl).trans (congrArg (fun x => mwin x 3) (t2_m1 arg7 arg8 arg9 arg10 q k f_arg7 f_arg8 f_arg9 f_arg10 _ A M hA hM))))))) ((View.readCov_skip _ _ _ _ _ rfl).trans ((View.readCov_skip _ _ _ _ _ rfl).trans ((View.readCov_skip _ _ _ _ _ rfl).trans ((rc_base _ _ _).trans ((ld_a _ _ _ 3 rfl).trans (congrArg (fun x => awin x 3) (t2_a1 arg5 arg7 arg8 arg9 arg10 q X_arg5 k f_arg7 f_arg8 f_arg9 f_arg10 _ A M Cc hA hM hC)))))))
  · exact a_congr (congrArg (k0_pay19 _) (mask_c2 q k)) (ld_v _ _ _ (2 * k.val + 1) 4 (by rw [k0_off39_eq]; exact congrArg (fun c : ℕ => (![c, 288, 0] : Fin 3 → ℕ)) (by have := k.isLt; have := trips_t2 q; have hq : q.val < 8 := q.isLt; omega))) ((rc_base _ _ _).trans ((ld_l _ _ _ 4 rfl).trans (congrArg (fun x => lwin x 4) (t2_s1 arg3 arg4 arg8 q X_arg3 X_arg4 k _)))) ((View.readCov_skip _ _ _ _ _ rfl).trans ((View.readCov_skip _ _ _ _ _ rfl).trans ((View.readCov_skip _ _ _ _ _ rfl).trans ((View.readCov_skip _ _ _ _ _ rfl).trans ((rc_base _ _ _).trans ((ld_m _ _ _ 4 rfl).trans (congrArg (fun x => mwin x 4) (t2_m1 arg7 arg8 arg9 arg10 q k f_arg7 f_arg8 f_arg9 f_arg10 _ A M hA hM)))))))) ((View.readCov_skip _ _ _ _ _ rfl).trans ((View.readCov_skip _ _ _ _ _ rfl).trans ((View.readCov_skip _ _ _ _ _ rfl).trans ((View.readCov_skip _ _ _ _ _ rfl).trans ((rc_base _ _ _).trans ((ld_a _ _ _ 4 rfl).trans (congrArg (fun x => awin x 4) (t2_a1 arg5 arg7 arg8 arg9 arg10 q X_arg5 k f_arg7 f_arg8 f_arg9 f_arg10 _ A M Cc hA hM hC))))))))
  · exact a_congr (congrArg (k0_pay19 _) (mask_c2 q k)) (ld_v _ _ _ (2 * k.val + 1) 5 (by rw [k0_off39_eq]; exact congrArg (fun c : ℕ => (![c, 288, 0] : Fin 3 → ℕ)) (by have := k.isLt; have := trips_t2 q; have hq : q.val < 8 := q.isLt; omega))) ((rc_base _ _ _).trans ((ld_l _ _ _ 5 rfl).trans (congrArg (fun x => lwin x 5) (t2_s1 arg3 arg4 arg8 q X_arg3 X_arg4 k _)))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((rc_base _ _ _).trans ((ld_m _ _ _ 5 rfl).trans (congrArg (fun x => mwin x 5) (t2_m1 arg7 arg8 arg9 arg10 q k f_arg7 f_arg8 f_arg9 f_arg10 _ A M hA hM))))))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((rc_base _ _ _).trans ((ld_a _ _ _ 5 rfl).trans (congrArg (fun x => awin x 5) (t2_a1 arg5 arg7 arg8 arg9 arg10 q X_arg5 k f_arg7 f_arg8 f_arg9 f_arg10 _ A M Cc hA hM hC)))))))))
  · exact a_congr (congrArg (k0_pay19 _) (mask_c2 q k)) (ld_v _ _ _ (2 * k.val + 1) 6 (by rw [k0_off40_eq]; exact congrArg (fun c : ℕ => (![c, 432, 0] : Fin 3 → ℕ)) (by have := k.isLt; have := trips_t2 q; have hq : q.val < 8 := q.isLt; omega))) ((rc_base _ _ _).trans ((ld_l _ _ _ 6 rfl).trans (congrArg (fun x => lwin x 6) (t2_s1 arg3 arg4 arg8 q X_arg3 X_arg4 k _)))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((rc_base _ _ _).trans ((ld_m _ _ _ 6 rfl).trans (congrArg (fun x => mwin x 6) (t2_m1 arg7 arg8 arg9 arg10 q k f_arg7 f_arg8 f_arg9 f_arg10 _ A M hA hM)))))))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((rc_base _ _ _).trans ((ld_a _ _ _ 6 rfl).trans (congrArg (fun x => awin x 6) (t2_a1 arg5 arg7 arg8 arg9 arg10 q X_arg5 k f_arg7 f_arg8 f_arg9 f_arg10 _ A M Cc hA hM hC))))))))))
  · exact a_congr (congrArg (k0_pay19 _) (mask_c2 q k)) (ld_v _ _ _ (2 * k.val + 1) 7 (by rw [k0_off40_eq]; exact congrArg (fun c : ℕ => (![c, 432, 0] : Fin 3 → ℕ)) (by have := k.isLt; have := trips_t2 q; have hq : q.val < 8 := q.isLt; omega))) ((rc_base _ _ _).trans ((ld_l _ _ _ 7 rfl).trans (congrArg (fun x => lwin x 7) (t2_s1 arg3 arg4 arg8 q X_arg3 X_arg4 k _)))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((rc_base _ _ _).trans ((ld_m _ _ _ 7 rfl).trans (congrArg (fun x => mwin x 7) (t2_m1 arg7 arg8 arg9 arg10 q k f_arg7 f_arg8 f_arg9 f_arg10 _ A M hA hM))))))))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((rc_base _ _ _).trans ((ld_a _ _ _ 7 rfl).trans (congrArg (fun x => awin x 7) (t2_a1 arg5 arg7 arg8 arg9 arg10 q X_arg5 k f_arg7 f_arg8 f_arg9 f_arg10 _ A M Cc hA hM hC)))))))))))

end

end Cert.KernelIdeal.Att
-- ==== Proof.T1.lean ====
module

public import proofs.«01_k».proof.Proof.T2

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The output's heads -/

/-- The numerator rows of head `n`'s accumulator. -/
def nwin (C : Vec F S1152x256 .f32) (n : Fin 8) : Vec F S128x256 .f32 :=
  VecWindow.window (s := S1152x256) C ![144 * n.val, 0] S128x256.size
    (Fin.forall_fin_two.2 ⟨by show 144 * n.val + 128 ≤ 1152; omega, by show 0 + 256 ≤ 256; omega⟩)

/-- The denominator row of head `n`'s accumulator. -/
def dwin (C : Vec F S1152x256 .f32) (n : Fin 8) : Vec F S1x256 .f32 :=
  VecWindow.window (s := S1152x256) C ![144 * n.val + 128, 0] S1x256.size
    (Fin.forall_fin_two.2 ⟨by show 144 * n.val + 128 + 1 ≤ 1152; omega, by show 0 + 256 ≤ 256; omega⟩)

theorem ld_n {sg : RefSig} {κ : Kind} {sp : Space} (v : View sg κ sp S1152x256 .f32) (X : v.ty.Contents (Elt F)) {off : Fin 2 → ℕ} (inb : ∀ a, off a + S128x256.size a ≤ S1152x256.size a)
    (n : Fin 8) (h : off = ![144 * n.val, 0]) :
    v.readAt (Elt F) (Rect.unit (s := S1152x256) off S128x256.size inb).toLoadRect X = nwin (v.read (Elt F) X) n :=
  View.readAt_unit v X inb h _

theorem ld_d {sg : RefSig} {κ : Kind} {sp : Space} (v : View sg κ sp S1152x256 .f32) (X : v.ty.Contents (Elt F)) {off : Fin 2 → ℕ} (inb : ∀ a, off a + S1x256.size a ≤ S1152x256.size a)
    (n : Fin 8) (h : off = ![144 * n.val + 128, 0]) :
    v.readAt (Elt F) (Rect.unit (s := S1152x256) off S1x256.size inb).toLoadRect X = dwin (v.read (Elt F) X) n :=
  View.readAt_unit v X inb h _

/-- The pair of heads `2h`, `2h + 1` of an output head. -/
def e0 (h : Fin 4) : Fin 8 := ⟨2 * h.val, by omega⟩
def e1 (h : Fin 4) : Fin 8 := ⟨2 * h.val + 1, by omega⟩

/-- One head's difference, normalised, from the accumulators. -/
def outH (lam : FVec F S1x1 .f32) (C : Vec F S1152x256 .f32) (g : Vec F S1x128 .f32) (h : Fin 4) : FVec F S256x128 .bf16 :=
  k0_pay1 lam (divf (nwin C (e0 h)) (broadcastTo S128x256 (dwin C (e0 h)) broadcasts_S1x256_S128x256)) (nwin C (e1 h)) (dwin C (e1 h)) g

theorem out_congr {lam : FVec F S1x1 .f32} {n0 n1 : Vec F S128x256 .f32} {d0 d1 : Vec F S1x256 .f32} {g : Vec F S1x128 .f32} {C : Vec F S1152x256 .f32} {h : Fin 4}
    (a : n0 = nwin C (e0 h)) (b : d0 = dwin C (e0 h)) (a' : n1 = nwin C (e1 h)) (b' : d1 = dwin C (e1 h)) :
    k0_pay1 lam (divf n0 (broadcastTo S128x256 d0 broadcasts_S1x256_S128x256)) n1 d1 g = outH lam C g h := by
  subst a b a' b'; rfl

/-- The head a column of the output belongs to. -/
def oh (y : S2048x512.Idx) : Fin 4 := ⟨(y 1).val / 128, by have : (y 1).val < 512 := (y 1).isLt; omega⟩
/-- The tile a row of the output belongs to. -/
def oq (y : S2048x512.Idx) : Fin 8 := ⟨(y 0).val / 256, by have : (y 0).val < 2048 := (y 0).isLt; omega⟩
/-- An element of the output within its tile and head. -/
def oy (y : S2048x512.Idx) : S256x128.Idx := ix2 (⟨(y 0).val % 256, by omega⟩ : Fin 256) (⟨(y 1).val % 128, by omega⟩ : Fin 128)

/-- The whole output of a grid point. -/
def OUT (K : Vec F S2048x1024 .bf16) (Q : Vec F S8x512x256 .bf16) (V : Vec F S8x576x256 .bf16) (lam : FVec F S1x1 .f32) (g : Vec F S1x128 .f32) : Vec F S2048x512 .bf16 :=
  fun y => outH lam (aV K Q V (oq y) ((oq y).val + 1)) g (oh y) (oy y)

/-- A block put at tile `q`, head `h`. -/
theorem put_tile {α : Type} (x : S2048x512.Idx → α) (q h : ℕ) (w : S256x128.Idx → α) (y : S2048x512.Idx) :
    VecWindow.put (s := S2048x512) x ![256 * q, 128 * h] S256x128.size w y
      = if (y 0).val / 256 = q ∧ (y 1).val / 128 = h then w (oy y) else x y := by
  unfold VecWindow.put
  by_cases hh : (y 0).val / 256 = q ∧ (y 1).val / 128 = h
  · rw [if_pos hh, dif_pos (Fin.forall_fin_two.2 ⟨by show 256 * q ≤ (y 0).val ∧ (y 0).val < 256 * q + 256; omega,
      by show 128 * h ≤ (y 1).val ∧ (y 1).val < 128 * h + 128; omega⟩)]
    refine congrArg w (funext fun a => Fin.ext ?_)
    match a with
    | ⟨0, _⟩ => show (y 0).val - 256 * q = (y 0).val % 256; omega
    | ⟨1, _⟩ => show (y 1).val - 128 * h = (y 1).val % 128; omega
  · rw [if_neg hh, dif_neg (fun hall => hh (by
      have h0 : 256 * q ≤ (y 0).val ∧ (y 0).val < 256 * q + 256 := hall 0
      have h1 : 128 * h ≤ (y 1).val ∧ (y 1).val < 128 * h + 128 := hall 1
      omega))]

/-- The output's buffer after the four heads of a tile have been stored. -/
theorem heads_o {sg : RefSig} {κ : Kind} {sp : Space} (v : View sg κ sp S2048x512 .bf16) (f : v.ty.Contents (Elt F)) (q : ℕ)
    {o0 : Fin 2 → ℕ} (i0 : ∀ a, o0 a + S256x128.size a ≤ S2048x512.size a) (e0' : o0 = ![256 * q, 0]) {o1 : Fin 2 → ℕ} (i1 : ∀ a, o1 a + S256x128.size a ≤ S2048x512.size a) (e1' : o1 = ![256 * q, 128]) {o2 : Fin 2 → ℕ} (i2 : ∀ a, o2 a + S256x128.size a ≤ S2048x512.size a) (e2' : o2 = ![256 * q, 256]) {o3 : Fin 2 → ℕ} (i3 : ∀ a, o3 a + S256x128.size a ≤ S2048x512.size a) (e3' : o3 = ![256 * q, 384])
    (w : Fin 4 → Vec F S256x128 .bf16) {p0 p1 p2 p3 : Vec F S256x128 .bf16} (h0 : p0 = w 0) (h1 : p1 = w 1) (h2 : p2 = w 2) (h3 : p3 = w 3) (y : S2048x512.Idx) :
    v.read (Elt F) (v.writes (Elt F) f [⟨Rect.unit (s := S2048x512) o3 S256x128.size i3, p3⟩, ⟨Rect.unit (s := S2048x512) o2 S256x128.size i2, p2⟩, ⟨Rect.unit (s := S2048x512) o1 S256x128.size i1, p1⟩, ⟨Rect.unit (s := S2048x512) o0 S256x128.size i0, p0⟩]) y
      = if (y 0).val / 256 = q then w (oh y) (oy y) else v.read (Elt F) f y := by
  subst h0 h1 h2 h3
  have hy : (oh y).val < 4 := (oh y).isLt
  have key : ∀ n : Fin 4, (y 1).val / 128 = n.val → oh y = n := fun n h => Fin.ext h
  rw [View.read_writes_cons_put (s := S2048x512) (off' := ![256 * q, 128 * 3]) v _ i3 _ _ e3', put_tile]
  rw [View.read_writes_cons_put (s := S2048x512) (off' := ![256 * q, 128 * 2]) v _ i2 _ _ e2', put_tile]
  rw [View.read_writes_cons_put (s := S2048x512) (off' := ![256 * q, 128 * 1]) v _ i1 _ _ e1', put_tile]
  rw [View.read_writes_cons_put (s := S2048x512) (off' := ![256 * q, 128 * 0]) v _ i0 _ _ e0', put_tile]
  rw [show v.writes (Elt F) f [] = f from rfl]
  by_cases hq : (y 0).val / 256 = q
  · simp only [hq, true_and, if_true]
    split
    · rename_i h; rw [key 3 h]
    · split
      · rename_i h; rw [key 2 h]
      · split
        · rename_i h; rw [key 1 h]
        · split
          · rename_i h; rw [key 0 h]
          · exfalso; have : (y 1).val < 512 := (y 1).isLt; omega
  · simp only [hq, false_and, if_false]

/-- Pieces written after others, the last list empty. -/
theorem read_base {sg : RefSig} {κ : Kind} {sp : Space} {s : Shape} {t : EltTy} (v : View sg κ sp s t) (f : v.ty.Contents (Elt F)) (R P H : List (View.Piece (Elt F) s t)) (hR : R = []) :
    v.read (Elt F) (v.writes (Elt F) f (R ++ (P ++ H))) = v.read (Elt F) (v.writes (Elt F) (v.writes (Elt F) f H) P) := by
  subst hR; rw [List.nil_append, View.writes_append]

theorem read_base' {sg : RefSig} {κ : Kind} {sp : Space} {s : Shape} {t : EltTy} (v : View sg κ sp s t) (f : v.ty.Contents (Elt F)) (R P : List (View.Piece (Elt F) s t)) (hR : R = []) :
    v.read (Elt F) (v.writes (Elt F) f (R ++ P)) = v.read (Elt F) (v.writes (Elt F) f P) := by
  subst hR; rfl

section
variable (c : Dev nD) (i : grid0.Coords) (arg1 : Memref sig .tc .vmem S4x64 .f32) (harg1 : arg1.IsWhole) (arg2 : Memref sig .tc .vmem S1x128 .f32) (harg2 : arg2.IsWhole) (arg3 : Memref sig .tc .vmem S8x512x256 .bf16) (harg3 : arg3.IsWhole) (arg4 : Memref sig .tc .vmem S2048x1024 .bf16) (harg4 : arg4.IsWhole) (arg5 : Memref sig .tc .vmem S8x576x256 .bf16) (harg5 : arg5.IsWhole) (arg6 : Memref sig .tc .vmem S2048x512 .bf16) (harg6 : arg6.IsWhole) (arg7 : Memref sig .tc .vmem S8x256x256 .bf16) (harg7 : arg7.IsWhole) (arg8 : Memref sig .tc .vmem S8x256x256 .bf16) (harg8 : arg8.IsWhole) (arg9 : Memref sig .tc .vmem S8x8x256 .f32) (harg9 : arg9.IsWhole) (arg10 : Memref sig .tc .vmem S1152x256 .f32) (harg10 : arg10.IsWhole) (q : Fin k0_t1_loop.trips) (arg11 v3 : BitVec 32) (c2_i32 v35 v37 : BitVec 32) (X_arg3 : BufTy.Contents (Elt F) arg3.view.ty) (X_arg4 : BufTy.Contents (Elt F) arg4.view.ty) (X_arg5 : BufTy.Contents (Elt F) arg5.view.ty)

theorem pb3_nil (v23 : IVec S1x256 32) (v56 : BitVec 32) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) :
    pb_k0_t3 (F := F) Variants.none c none i arg1 harg1 arg2 harg2 arg3 harg3 arg4 harg4 arg5 harg5 arg6 harg6 arg7 harg7 arg8 harg8 arg9 harg9 arg10 harg10 q arg11 v3 v23 c2_i32 v35 v37 v56 X_arg3 X_arg4 X_arg5 G_arg7 G_arg8 G_arg9 G_arg10 (Scf.trips (k0_t3_loop q).lb (k0_t3_loop q).ub (k0_t3_loop q).st) = ([], [], [], []) := by
  rw [show (Scf.trips (k0_t3_loop q).lb (k0_t3_loop q).ub (k0_t3_loop q).st) = 0 from trips_t3 q]; rfl

theorem loop_t2 (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (h7 : arg7.view.read (Elt F) G_arg7 = scores (arg4.view.read (Elt F) X_arg4) (arg3.view.read (Elt F) X_arg3) q 0) (h9 : arg9.view.read (Elt F) G_arg9 = k0_pay302) (h10 : arg10.view.read (Elt F) G_arg10 = k0_pay303) :
    ∀ j : ℕ, j ≤ (q.val + 1) / 2 →
      arg7.view.read (Elt F) (arg7.view.writes (Elt F) G_arg7 (pb_k0_t2 (F := F) Variants.none c none i arg1 harg1 arg2 harg2 arg3 harg3 arg4 harg4 arg5 harg5 arg6 harg6 arg7 harg7 arg8 harg8 arg9 harg9 arg10 harg10 q arg11 v3 (k0_pay301 0#32 1#32 q) c2_i32 v35 v37 X_arg3 X_arg4 X_arg5 G_arg7 G_arg8 G_arg9 G_arg10 j).1) = scores (arg4.view.read (Elt F) X_arg4) (arg3.view.read (Elt F) X_arg3) q (min (2 * j) q.val)
      ∧ arg9.view.read (Elt F) (arg9.view.writes (Elt F) G_arg9 (pb_k0_t2 (F := F) Variants.none c none i arg1 harg1 arg2 harg2 arg3 harg3 arg4 harg4 arg5 harg5 arg6 harg6 arg7 harg7 arg8 harg8 arg9 harg9 arg10 harg10 q arg11 v3 (k0_pay301 0#32 1#32 q) c2_i32 v35 v37 X_arg3 X_arg4 X_arg5 G_arg7 G_arg8 G_arg9 G_arg10 j).2.2.1) = mV (arg4.view.read (Elt F) X_arg4) (arg3.view.read (Elt F) X_arg3) q (2 * j)
      ∧ arg10.view.read (Elt F) (arg10.view.writes (Elt F) G_arg10 (pb_k0_t2 (F := F) Variants.none c none i arg1 harg1 arg2 harg2 arg3 harg3 arg4 harg4 arg5 harg5 arg6 harg6 arg7 harg7 arg8 harg8 arg9 harg9 arg10 harg10 q arg11 v3 (k0_pay301 0#32 1#32 q) c2_i32 v35 v37 X_arg3 X_arg4 X_arg5 G_arg7 G_arg8 G_arg9 G_arg10 j).2.2.2) = aV (arg4.view.read (Elt F) X_arg4) (arg3.view.read (Elt F) X_arg3) (arg5.view.read (Elt F) X_arg5) q (2 * j)
  | 0, _ => ⟨h7.trans (congrArg (scores _ _ q) (Nat.zero_min _).symm), h9, h10⟩
  | j + 1, hj => by
    obtain ⟨e7, e9, e10⟩ := loop_t2 G_arg7 G_arg8 G_arg9 G_arg10 h7 h9 h10 j (by omega)
    rw [show min (2 * j) q.val = 2 * j by omega] at e7
    have hlt : j < (k0_t2_loop q).trips := by rw [trips_t2 q]; omega
    have hs := pb_k0_t2_succ (F := F) Variants.none c none i arg1 harg1 arg2 harg2 arg3 harg3 arg4 harg4 arg5 harg5 arg6 harg6 arg7 harg7 arg8 harg8 arg9 harg9 arg10 harg10 q arg11 v3 (k0_pay301 0#32 1#32 q) c2_i32 v35 v37 X_arg3 X_arg4 X_arg5 G_arg7 G_arg8 G_arg9 G_arg10 ⟨j, hlt⟩
    change (pb_k0_t2 (F := F) Variants.none c none i arg1 harg1 arg2 harg2 arg3 harg3 arg4 harg4 arg5 harg5 arg6 harg6 arg7 harg7 arg8 harg8 arg9 harg9 arg10 harg10 q arg11 v3 (k0_pay301 0#32 1#32 q) c2_i32 v35 v37 X_arg3 X_arg4 X_arg5 G_arg7 G_arg8 G_arg9 G_arg10 (j + 1)) = _ at hs
    rw [hs]
    refine ⟨?_, ?_, ?_⟩
    · rw [show arg7.view.writes (Elt F) G_arg7 (_ ++ _) = _ from View.writes_append _ _ _ _]
      exact (t2_s2 c i arg1 harg1 arg2 harg2 arg3 harg3 arg4 harg4 arg5 harg5 arg6 harg6 arg7 harg7 arg8 harg8 arg9 harg9 arg10 harg10 q arg11 v3 c2_i32 v35 v37 X_arg3 X_arg4 X_arg5 ⟨j, hlt⟩ _ _ _ _).trans rfl
    · rw [show arg9.view.writes (Elt F) G_arg9 (_ ++ _) = _ from View.writes_append _ _ _ _]
      exact (t2_m2 c i arg1 harg1 arg2 harg2 arg3 harg3 arg4 harg4 arg5 harg5 arg6 harg6 arg7 harg7 arg8 harg8 arg9 harg9 arg10 harg10 q arg11 v3 c2_i32 v35 v37 X_arg3 X_arg4 X_arg5 ⟨j, hlt⟩ _ _ _ _ _ _ e7 e9).trans rfl
    · rw [show arg10.view.writes (Elt F) G_arg10 (_ ++ _) = _ from View.writes_append _ _ _ _]
      exact (t2_a2 c i arg1 harg1 arg2 harg2 arg3 harg3 arg4 harg4 arg5 harg5 arg6 harg6 arg7 harg7 arg8 harg8 arg9 harg9 arg10 harg10 q arg11 v3 c2_i32 v35 v37 X_arg3 X_arg4 X_arg5 ⟨j, hlt⟩ _ _ _ _ _ _ _ e7 e9 e10).trans rfl

theorem full9 : arg9.view.read (Elt F) (arg9.view.writes (Elt F) arg9.view.junk [⟨Rect.unit ![0, 0, 0] S8x8x256.size inb_S8x8x256_S8x8x256_0_0_0, k0_pay302⟩]) = k0_pay302 := View.read_writes_full _ _ _ _ _
theorem full10 : arg10.view.read (Elt F) (arg10.view.writes (Elt F) arg10.view.junk [⟨Rect.unit ![0, 0] S1152x256.size inb_S1152x256_S1152x256_0_0, k0_pay303⟩]) = k0_pay303 := View.read_writes_full _ _ _ _ _

variable {c i arg1 harg1 arg2 harg2 arg3 harg3 arg4 harg4 arg5 harg5 arg6 harg6 arg7 harg7 arg8 harg8 arg9 harg9 arg10 harg10 arg11 v3 c2_i32 v35 v37 X_arg3 X_arg4 X_arg5}
variable {G_arg7 : BufTy.Contents (Elt F) arg7.view.ty} {G_arg8 : BufTy.Contents (Elt F) arg8.view.ty}

theorem nil7 {v23 : IVec S1x256 32} {v56 : BitVec 32} {g_arg7 : BufTy.Contents (Elt F) arg7.view.ty} {g_arg8 : BufTy.Contents (Elt F) arg8.view.ty} {g_arg9 : BufTy.Contents (Elt F) arg9.view.ty} {g_arg10 : BufTy.Contents (Elt F) arg10.view.ty} : (pb_k0_t3 (F := F) Variants.none c none i arg1 harg1 arg2 harg2 arg3 harg3 arg4 harg4 arg5 harg5 arg6 harg6 arg7 harg7 arg8 harg8 arg9 harg9 arg10 harg10 q arg11 v3 v23 c2_i32 v35 v37 v56 X_arg3 X_arg4 X_arg5 g_arg7 g_arg8 g_arg9 g_arg10 (Scf.trips (k0_t3_loop q).lb (k0_t3_loop q).ub (k0_t3_loop q).st)).1 = [] := by rw [pb3_nil]
theorem nil9 {v23 : IVec S1x256 32} {v56 : BitVec 32} {g_arg7 : BufTy.Contents (Elt F) arg7.view.ty} {g_arg8 : BufTy.Contents (Elt F) arg8.view.ty} {g_arg9 : BufTy.Contents (Elt F) arg9.view.ty} {g_arg10 : BufTy.Contents (Elt F) arg10.view.ty} : (pb_k0_t3 (F := F) Variants.none c none i arg1 harg1 arg2 harg2 arg3 harg3 arg4 harg4 arg5 harg5 arg6 harg6 arg7 harg7 arg8 harg8 arg9 harg9 arg10 harg10 q arg11 v3 v23 c2_i32 v35 v37 v56 X_arg3 X_arg4 X_arg5 g_arg7 g_arg8 g_arg9 g_arg10 (Scf.trips (k0_t3_loop q).lb (k0_t3_loop q).ub (k0_t3_loop q).st)).2.2.1 = [] := by rw [pb3_nil]
theorem nil10 {v23 : IVec S1x256 32} {v56 : BitVec 32} {g_arg7 : BufTy.Contents (Elt F) arg7.view.ty} {g_arg8 : BufTy.Contents (Elt F) arg8.view.ty} {g_arg9 : BufTy.Contents (Elt F) arg9.view.ty} {g_arg10 : BufTy.Contents (Elt F) arg10.view.ty} : (pb_k0_t3 (F := F) Variants.none c none i arg1 harg1 arg2 harg2 arg3 harg3 arg4 harg4 arg5 harg5 arg6 harg6 arg7 harg7 arg8 harg8 arg9 harg9 arg10 harg10 q arg11 v3 v23 c2_i32 v35 v37 v56 X_arg3 X_arg4 X_arg5 g_arg7 g_arg8 g_arg9 g_arg10 (Scf.trips (k0_t3_loop q).lb (k0_t3_loop q).ub (k0_t3_loop q).st)).2.2.2 = [] := by rw [pb3_nil]

/-- The scores, maxima and accumulators after the pairs' loop. -/
theorem base7 (h7 : arg7.view.read (Elt F) G_arg7 = scores (arg4.view.read (Elt F) X_arg4) (arg3.view.read (Elt F) X_arg3) q 0) :
    arg7.view.read (Elt F) (arg7.view.writes (Elt F) G_arg7 (pb_k0_t2 (F := F) Variants.none c none i arg1 harg1 arg2 harg2 arg3 harg3 arg4 harg4 arg5 harg5 arg6 harg6 arg7 harg7 arg8 harg8 arg9 harg9 arg10 harg10 q arg11 v3 (k0_pay301 0#32 1#32 q) c2_i32 v35 v37 X_arg3 X_arg4 X_arg5 G_arg7 G_arg8 (arg9.view.writes (Elt F) arg9.view.junk [⟨Rect.unit ![0, 0, 0] S8x8x256.size inb_S8x8x256_S8x8x256_0_0_0, k0_pay302⟩]) (arg10.view.writes (Elt F) arg10.view.junk [⟨Rect.unit ![0, 0] S1152x256.size inb_S1152x256_S1152x256_0_0, k0_pay303⟩]) (Scf.trips (k0_t2_loop q).lb (k0_t2_loop q).ub (k0_t2_loop q).st)).1) = scores (arg4.view.read (Elt F) X_arg4) (arg3.view.read (Elt F) X_arg3) q (min (2 * ((q.val + 1) / 2)) q.val) := by
  have h := (loop_t2 c i arg1 harg1 arg2 harg2 arg3 harg3 arg4 harg4 arg5 harg5 arg6 harg6 arg7 harg7 arg8 harg8 arg9 harg9 arg10 harg10 q arg11 v3 c2_i32 v35 v37 X_arg3 X_arg4 X_arg5 _ G_arg8 _ _ h7 (full9 arg9) (full10 arg10) _ le_rfl).1
  rw [show (Scf.trips (k0_t2_loop q).lb (k0_t2_loop q).ub (k0_t2_loop q).st) = (q.val + 1) / 2 from trips_t2 q]; exact h
theorem base9 (h7 : arg7.view.read (Elt F) G_arg7 = scores (arg4.view.read (Elt F) X_arg4) (arg3.view.read (Elt F) X_arg3) q 0) :
    arg9.view.read (Elt F) (arg9.view.writes (Elt F) (arg9.view.writes (Elt F) arg9.view.junk [⟨Rect.unit ![0, 0, 0] S8x8x256.size inb_S8x8x256_S8x8x256_0_0_0, k0_pay302⟩]) (pb_k0_t2 (F := F) Variants.none c none i arg1 harg1 arg2 harg2 arg3 harg3 arg4 harg4 arg5 harg5 arg6 harg6 arg7 harg7 arg8 harg8 arg9 harg9 arg10 harg10 q arg11 v3 (k0_pay301 0#32 1#32 q) c2_i32 v35 v37 X_arg3 X_arg4 X_arg5 G_arg7 G_arg8 (arg9.view.writes (Elt F) arg9.view.junk [⟨Rect.unit ![0, 0, 0] S8x8x256.size inb_S8x8x256_S8x8x256_0_0_0, k0_pay302⟩]) (arg10.view.writes (Elt F) arg10.view.junk [⟨Rect.unit ![0, 0] S1152x256.size inb_S1152x256_S1152x256_0_0, k0_pay303⟩]) (Scf.trips (k0_t2_loop q).lb (k0_t2_loop q).ub (k0_t2_loop q).st)).2.2.1) = mV (arg4.view.read (Elt F) X_arg4) (arg3.view.read (Elt F) X_arg3) q (2 * ((q.val + 1) / 2)) := by
  have h := (loop_t2 c i arg1 harg1 arg2 harg2 arg3 harg3 arg4 harg4 arg5 harg5 arg6 harg6 arg7 harg7 arg8 harg8 arg9 harg9 arg10 harg10 q arg11 v3 c2_i32 v35 v37 X_arg3 X_arg4 X_arg5 _ G_arg8 _ _ h7 (full9 arg9) (full10 arg10) _ le_rfl).2.1
  rw [show (Scf.trips (k0_t2_loop q).lb (k0_t2_loop q).ub (k0_t2_loop q).st) = (q.val + 1) / 2 from trips_t2 q]; exact h
theorem base10 (h7 : arg7.view.read (Elt F) G_arg7 = scores (arg4.view.read (Elt F) X_arg4) (arg3.view.read (Elt F) X_arg3) q 0) :
    arg10.view.read (Elt F) (arg10.view.writes (Elt F) (arg10.view.writes (Elt F) arg10.view.junk [⟨Rect.unit ![0, 0] S1152x256.size inb_S1152x256_S1152x256_0_0, k0_pay303⟩]) (pb_k0_t2 (F := F) Variants.none c none i arg1 harg1 arg2 harg2 arg3 harg3 arg4 harg4 arg5 harg5 arg6 harg6 arg7 harg7 arg8 harg8 arg9 harg9 arg10 harg10 q arg11 v3 (k0_pay301 0#32 1#32 q) c2_i32 v35 v37 X_arg3 X_arg4 X_arg5 G_arg7 G_arg8 (arg9.view.writes (Elt F) arg9.view.junk [⟨Rect.unit ![0, 0, 0] S8x8x256.size inb_S8x8x256_S8x8x256_0_0_0, k0_pay302⟩]) (arg10.view.writes (Elt F) arg10.view.junk [⟨Rect.unit ![0, 0] S1152x256.size inb_S1152x256_S1152x256_0_0, k0_pay303⟩]) (Scf.trips (k0_t2_loop q).lb (k0_t2_loop q).ub (k0_t2_loop q).st)).2.2.2) = aV (arg4.view.read (Elt F) X_arg4) (arg3.view.read (Elt F) X_arg3) (arg5.view.read (Elt F) X_arg5) q (2 * ((q.val + 1) / 2)) := by
  have h := (loop_t2 c i arg1 harg1 arg2 harg2 arg3 harg3 arg4 harg4 arg5 harg5 arg6 harg6 arg7 harg7 arg8 harg8 arg9 harg9 arg10 harg10 q arg11 v3 c2_i32 v35 v37 X_arg3 X_arg4 X_arg5 _ G_arg8 _ _ h7 (full9 arg9) (full10 arg10) _ le_rfl).2.2
  rw [show (Scf.trips (k0_t2_loop q).lb (k0_t2_loop q).ub (k0_t2_loop q).st) = (q.val + 1) / 2 from trips_t2 q]; exact h

end

end Cert.KernelIdeal.Att
-- ==== Proof.Trip.lean ====
module

public import proofs.«01_k».proof.Proof.Gen.KernelIdeal.Loops
public import proofs.«01_k».proof.Proof.Gen.KernelIdeal.Frame
public import Idealize.ShloMosaic.Lib.VecWindow

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The buffers one trip of the outer loop touches: the blocks it reads at `X_·`, the ones it writes at `f_·`. -/
abbrev Trip (c : Dev nD) (arg1 : Memref sig .tc .vmem S4x64 .f32) (arg2 : Memref sig .tc .vmem S1x128 .f32) (arg3 : Memref sig .tc .vmem S8x512x256 .bf16) (arg4 : Memref sig .tc .vmem S2048x1024 .bf16) (arg5 : Memref sig .tc .vmem S8x576x256 .bf16) (arg6 : Memref sig .tc .vmem S2048x512 .bf16) (arg7 : Memref sig .tc .vmem S8x256x256 .bf16) (arg8 : Memref sig .tc .vmem S8x256x256 .bf16) (arg9 : Memref sig .tc .vmem S8x8x256 .f32) (arg10 : Memref sig .tc .vmem S1152x256 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10))

/-- One trip of the outer loop at an odd tile: no first issue, and no chunk left after the pairs. -/
@[irreducible] def tripOdd (c : Dev nD) (i : grid0.Coords) (arg1 : Memref sig .tc .vmem S4x64 .f32) (harg1 : arg1.IsWhole) (arg2 : Memref sig .tc .vmem S1x128 .f32) (harg2 : arg2.IsWhole) (arg3 : Memref sig .tc .vmem S8x512x256 .bf16) (harg3 : arg3.IsWhole) (arg4 : Memref sig .tc .vmem S2048x1024 .bf16) (harg4 : arg4.IsWhole) (arg5 : Memref sig .tc .vmem S8x576x256 .bf16) (harg5 : arg5.IsWhole) (arg6 : Memref sig .tc .vmem S2048x512 .bf16) (harg6 : arg6.IsWhole) (arg7 : Memref sig .tc .vmem S8x256x256 .bf16) (harg7 : arg7.IsWhole) (arg8 : Memref sig .tc .vmem S8x256x256 .bf16) (harg8 : arg8.IsWhole) (arg9 : Memref sig .tc .vmem S8x8x256 .f32) (harg9 : arg9.IsWhole) (arg10 : Memref sig .tc .vmem S1152x256 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) (h1 : ¬ k0_cond1 k = 1#1) (h2 : ¬ k0_cond2 k = 1#1) :
    Σ' (L_arg6 : (BufTy.Contents (Elt F) arg6.view.ty → BufTy.Contents (Elt F) arg7.view.ty → BufTy.Contents (Elt F) arg8.view.ty → BufTy.Contents (Elt F) arg9.view.ty → BufTy.Contents (Elt F) arg10.view.ty → List (View.Piece (Elt F) S2048x512 .bf16))) (L_arg7 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg7.view.ty)) (L_arg8 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg8.view.ty)) (L_arg9 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg9.view.ty)) , { L_arg10 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg10.view.ty) // ∀ (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty),
      Trip (F := F) c arg1 arg2 arg3 arg4 arg5 arg6 arg7 arg8 arg9 arg10 X_arg1 X_arg2 X_arg3 X_arg4 X_arg5 f_arg6 f_arg7 f_arg8 f_arg9 f_arg10
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 k ())
          (fun _ => Trip (F := F) c arg1 arg2 arg3 arg4 arg5 arg6 arg7 arg8 arg9 arg10 X_arg1 X_arg2 X_arg3 X_arg4 X_arg5 (arg6.view.writes (Elt F) f_arg6 (L_arg6 f_arg6 f_arg7 f_arg8 f_arg9 f_arg10)) (L_arg7 f_arg6 f_arg7 f_arg8 f_arg9 f_arg10) (L_arg8 f_arg6 f_arg7 f_arg8 f_arg9 f_arg10) (L_arg9 f_arg6 f_arg7 f_arg8 f_arg9 f_arg10) (L_arg10 f_arg6 f_arg7 f_arg8 f_arg9 f_arg10)) } := by
  refine ⟨?_, ?_, ?_, ?_, ?_, fun f_arg6 f_arg7 f_arg8 f_arg9 f_arg10 => ?run⟩
  case run =>
    unfold k0_t1_body
    iintro ⟨H_arg1, H_arg2, H_arg3, H_arg4, H_arg5, H_arg6, H_arg7, H_arg8, H_arg9, H_arg10⟩
    sl_exec
    sl_step
    sl_close

/-- One trip of the outer loop at an even tile past the first: no first issue, one chunk left after the pairs. -/
@[irreducible] def tripEven (c : Dev nD) (i : grid0.Coords) (arg1 : Memref sig .tc .vmem S4x64 .f32) (harg1 : arg1.IsWhole) (arg2 : Memref sig .tc .vmem S1x128 .f32) (harg2 : arg2.IsWhole) (arg3 : Memref sig .tc .vmem S8x512x256 .bf16) (harg3 : arg3.IsWhole) (arg4 : Memref sig .tc .vmem S2048x1024 .bf16) (harg4 : arg4.IsWhole) (arg5 : Memref sig .tc .vmem S8x576x256 .bf16) (harg5 : arg5.IsWhole) (arg6 : Memref sig .tc .vmem S2048x512 .bf16) (harg6 : arg6.IsWhole) (arg7 : Memref sig .tc .vmem S8x256x256 .bf16) (harg7 : arg7.IsWhole) (arg8 : Memref sig .tc .vmem S8x256x256 .bf16) (harg8 : arg8.IsWhole) (arg9 : Memref sig .tc .vmem S8x8x256 .f32) (harg9 : arg9.IsWhole) (arg10 : Memref sig .tc .vmem S1152x256 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) (h1 : ¬ k0_cond1 k = 1#1) (h2 : k0_cond2 k = 1#1) :
    Σ' (L_arg6 : (BufTy.Contents (Elt F) arg6.view.ty → BufTy.Contents (Elt F) arg7.view.ty → BufTy.Contents (Elt F) arg8.view.ty → BufTy.Contents (Elt F) arg9.view.ty → BufTy.Contents (Elt F) arg10.view.ty → List (View.Piece (Elt F) S2048x512 .bf16))) (L_arg7 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg7.view.ty)) (L_arg8 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg8.view.ty)) (L_arg9 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg9.view.ty)) , { L_arg10 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg10.view.ty) // ∀ (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty),
      Trip (F := F) c arg1 arg2 arg3 arg4 arg5 arg6 arg7 arg8 arg9 arg10 X_arg1 X_arg2 X_arg3 X_arg4 X_arg5 f_arg6 f_arg7 f_arg8 f_arg9 f_arg10
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 k ())
          (fun _ => Trip (F := F) c arg1 arg2 arg3 arg4 arg5 arg6 arg7 arg8 arg9 arg10 X_arg1 X_arg2 X_arg3 X_arg4 X_arg5 (arg6.view.writes (Elt F) f_arg6 (L_arg6 f_arg6 f_arg7 f_arg8 f_arg9 f_arg10)) (L_arg7 f_arg6 f_arg7 f_arg8 f_arg9 f_arg10) (L_arg8 f_arg6 f_arg7 f_arg8 f_arg9 f_arg10) (L_arg9 f_arg6 f_arg7 f_arg8 f_arg9 f_arg10) (L_arg10 f_arg6 f_arg7 f_arg8 f_arg9 f_arg10)) } := by
  refine ⟨?_, ?_, ?_, ?_, ?_, fun f_arg6 f_arg7 f_arg8 f_arg9 f_arg10 => ?run⟩
  case run =>
    unfold k0_t1_body
    iintro ⟨H_arg1, H_arg2, H_arg3, H_arg4, H_arg5, H_arg6, H_arg7, H_arg8, H_arg9, H_arg10⟩
    sl_exec
    sl_step
    sl_close

/-- One trip of the outer loop at the first tile: the scores of its one chunk are issued first. -/
@[irreducible] def tripFirst (c : Dev nD) (i : grid0.Coords) (arg1 : Memref sig .tc .vmem S4x64 .f32) (harg1 : arg1.IsWhole) (arg2 : Memref sig .tc .vmem S1x128 .f32) (harg2 : arg2.IsWhole) (arg3 : Memref sig .tc .vmem S8x512x256 .bf16) (harg3 : arg3.IsWhole) (arg4 : Memref sig .tc .vmem S2048x1024 .bf16) (harg4 : arg4.IsWhole) (arg5 : Memref sig .tc .vmem S8x576x256 .bf16) (harg5 : arg5.IsWhole) (arg6 : Memref sig .tc .vmem S2048x512 .bf16) (harg6 : arg6.IsWhole) (arg7 : Memref sig .tc .vmem S8x256x256 .bf16) (harg7 : arg7.IsWhole) (arg8 : Memref sig .tc .vmem S8x256x256 .bf16) (harg8 : arg8.IsWhole) (arg9 : Memref sig .tc .vmem S8x8x256 .f32) (harg9 : arg9.IsWhole) (arg10 : Memref sig .tc .vmem S1152x256 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) (h1 : k0_cond1 k = 1#1) (h2 : k0_cond2 k = 1#1) :
    Σ' (L_arg6 : (BufTy.Contents (Elt F) arg6.view.ty → BufTy.Contents (Elt F) arg7.view.ty → BufTy.Contents (Elt F) arg8.view.ty → BufTy.Contents (Elt F) arg9.view.ty → BufTy.Contents (Elt F) arg10.view.ty → List (View.Piece (Elt F) S2048x512 .bf16))) (L_arg7 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg7.view.ty)) (L_arg8 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg8.view.ty)) (L_arg9 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg9.view.ty)) , { L_arg10 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg10.view.ty) // ∀ (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty),
      Trip (F := F) c arg1 arg2 arg3 arg4 arg5 arg6 arg7 arg8 arg9 arg10 X_arg1 X_arg2 X_arg3 X_arg4 X_arg5 f_arg6 f_arg7 f_arg8 f_arg9 f_arg10
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 k ())
          (fun _ => Trip (F := F) c arg1 arg2 arg3 arg4 arg5 arg6 arg7 arg8 arg9 arg10 X_arg1 X_arg2 X_arg3 X_arg4 X_arg5 (arg6.view.writes (Elt F) f_arg6 (L_arg6 f_arg6 f_arg7 f_arg8 f_arg9 f_arg10)) (L_arg7 f_arg6 f_arg7 f_arg8 f_arg9 f_arg10) (L_arg8 f_arg6 f_arg7 f_arg8 f_arg9 f_arg10) (L_arg9 f_arg6 f_arg7 f_arg8 f_arg9 f_arg10) (L_arg10 f_arg6 f_arg7 f_arg8 f_arg9 f_arg10)) } := by
  refine ⟨?_, ?_, ?_, ?_, ?_, fun f_arg6 f_arg7 f_arg8 f_arg9 f_arg10 => ?run⟩
  case run =>
    unfold k0_t1_body
    iintro ⟨H_arg1, H_arg2, H_arg3, H_arg4, H_arg5, H_arg6, H_arg7, H_arg8, H_arg9, H_arg10⟩
    sl_exec
    sl_step
    sl_close

end Cert.KernelIdeal.Att
-- ==== Proof.Tile.lean ====
module

public import proofs.«01_k».proof.Proof.T1
public import proofs.«01_k».proof.Proof.Trip

@[expose] public section

set_option maxRecDepth 16384
set_option maxHeartbeats 4000000

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## One tile -/

theorem cond2_even : ∀ q : Fin k0_t1_loop.trips, k0_cond2 q = 1#1 → q.val % 2 = 0 := by decide +kernel
theorem cond2_odd : ∀ q : Fin k0_t1_loop.trips, ¬ k0_cond2 q = 1#1 → q.val % 2 = 1 := by decide +kernel
theorem cond1_zero : ∀ q : Fin k0_t1_loop.trips, k0_cond1 q = 1#1 → q.val = 0 := by decide +kernel
theorem cond1_pos : ∀ q : Fin k0_t1_loop.trips, ¬ k0_cond1 q = 1#1 → 0 < q.val := by decide +kernel
theorem cond12 : ∀ q : Fin k0_t1_loop.trips, k0_cond1 q = 1#1 → k0_cond2 q = 1#1 := by decide +kernel

/-- The tile after `q`, the last one's being itself. -/
def nxt (q : Fin 8) : Fin 8 := ⟨min (q.val + 1) 7, by omega⟩

section
variable (c : Dev nD) (i : grid0.Coords) (arg1 : Memref sig .tc .vmem S4x64 .f32) (harg1 : arg1.IsWhole) (arg2 : Memref sig .tc .vmem S1x128 .f32) (harg2 : arg2.IsWhole) (arg3 : Memref sig .tc .vmem S8x512x256 .bf16) (harg3 : arg3.IsWhole) (arg4 : Memref sig .tc .vmem S2048x1024 .bf16) (harg4 : arg4.IsWhole) (arg5 : Memref sig .tc .vmem S8x576x256 .bf16) (harg5 : arg5.IsWhole) (arg6 : Memref sig .tc .vmem S2048x512 .bf16) (harg6 : arg6.IsWhole) (arg7 : Memref sig .tc .vmem S8x256x256 .bf16) (harg7 : arg7.IsWhole) (arg8 : Memref sig .tc .vmem S8x256x256 .bf16) (harg8 : arg8.IsWhole) (arg9 : Memref sig .tc .vmem S8x8x256 .f32) (harg9 : arg9.IsWhole) (arg10 : Memref sig .tc .vmem S1152x256 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (q : Fin k0_t1_loop.trips)

/-- What the scores' buffer holds after the tile: the next tile's first scores. -/
theorem scoresOdd (h1 : ¬ k0_cond1 q = 1#1) (h2 : ¬ k0_cond2 q = 1#1) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) :
    arg7.view.read (Elt F) ((tripOdd (F := F) c i arg1 harg1 arg2 harg2 arg3 harg3 arg4 harg4 arg5 harg5 arg6 harg6 arg7 harg7 arg8 harg8 arg9 harg9 arg10 harg10 X_arg1 X_arg2 X_arg3 X_arg4 X_arg5 q h1 h2).2.1 f_arg6 f_arg7 f_arg8 f_arg9 f_arg10) = scores (arg4.view.read (Elt F) X_arg4) (arg3.view.read (Elt F) X_arg3) (nxt q) 0 := by
  unfold tripOdd
  refine heads_s _ _ _ _ _ _ _ _ _ _ _ (fun n => k0_pay9 (kwin (arg4.view.read (Elt F) X_arg4) 0 n) (qwin (arg3.view.read (Elt F) X_arg3) (nxt q) n)) ?_ ?_ ?_ ?_ ?_ ?_ ?_ ?_
  · exact issue_congr (ld_k arg4.view X_arg4 _ 0 0 rfl) (ld_q arg3.view X_arg3 _ (nxt q) 0 (k0_off93_eq q))
  · exact issue_congr (ld_k arg4.view X_arg4 _ 0 1 rfl) (ld_q arg3.view X_arg3 _ (nxt q) 1 (k0_off94_eq q))
  · exact issue_congr (ld_k arg4.view X_arg4 _ 0 2 rfl) (ld_q arg3.view X_arg3 _ (nxt q) 2 (k0_off95_eq q))
  · exact issue_congr (ld_k arg4.view X_arg4 _ 0 3 rfl) (ld_q arg3.view X_arg3 _ (nxt q) 3 (k0_off96_eq q))
  · exact issue_congr (ld_k arg4.view X_arg4 _ 0 4 rfl) (ld_q arg3.view X_arg3 _ (nxt q) 4 (k0_off97_eq q))
  · exact issue_congr (ld_k arg4.view X_arg4 _ 0 5 rfl) (ld_q arg3.view X_arg3 _ (nxt q) 5 (k0_off98_eq q))
  · exact issue_congr (ld_k arg4.view X_arg4 _ 0 6 rfl) (ld_q arg3.view X_arg3 _ (nxt q) 6 (k0_off99_eq q))
  · exact issue_congr (ld_k arg4.view X_arg4 _ 0 7 rfl) (ld_q arg3.view X_arg3 _ (nxt q) 7 (k0_off100_eq q))

/-- What the output's buffer holds after the tile. -/
theorem outOdd (h1 : ¬ k0_cond1 q = 1#1) (h2 : ¬ k0_cond2 q = 1#1) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (h7 : arg7.view.read (Elt F) f_arg7 = scores (arg4.view.read (Elt F) X_arg4) (arg3.view.read (Elt F) X_arg3) q 0) (y : S2048x512.Idx) :
    arg6.view.read (Elt F) (arg6.view.writes (Elt F) f_arg6 ((tripOdd (F := F) c i arg1 harg1 arg2 harg2 arg3 harg3 arg4 harg4 arg5 harg5 arg6 harg6 arg7 harg7 arg8 harg8 arg9 harg9 arg10 harg10 X_arg1 X_arg2 X_arg3 X_arg4 X_arg5 q h1 h2).1 f_arg6 f_arg7 f_arg8 f_arg9 f_arg10)) y
      = if (y 0).val / 256 = q.val then OUT (arg4.view.read (Elt F) X_arg4) (arg3.view.read (Elt F) X_arg3) (arg5.view.read (Elt F) X_arg5) (k0_pay300 (View.readAt (Elt F) arg1.view (Rect.unit ![0, 0] S4x64.size inb_S4x64_S4x64_0_0).toLoadRect X_arg1)) (View.readAt (Elt F) arg2.view (Rect.unit ![0, 0] S1x128.size inb_S1x128_S1x128_0_0).toLoadRect X_arg2) y else arg6.view.read (Elt F) f_arg6 y := by
  unfold tripOdd
  refine (heads_o arg6.view f_arg6 q.val _ (k0_off101_eq q) _ (k0_off102_eq q) _ (k0_off103_eq q) _ (k0_off104_eq q)
    (fun h => outH (k0_pay300 (View.readAt (Elt F) arg1.view (Rect.unit ![0, 0] S4x64.size inb_S4x64_S4x64_0_0).toLoadRect X_arg1)) (aV (arg4.view.read (Elt F) X_arg4) (arg3.view.read (Elt F) X_arg3) (arg5.view.read (Elt F) X_arg5) q (q.val + 1)) (View.readAt (Elt F) arg2.view (Rect.unit ![0, 0] S1x128.size inb_S1x128_S1x128_0_0).toLoadRect X_arg2) h) ?_ ?_ ?_ ?_ y).trans ?_
  · exact out_congr (h := 0) ((rc_base _ _ _).trans ((ld_n _ _ _ 0 rfl).trans (congrArg (fun x => nwin x 0) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1)))))) ((rc_base _ _ _).trans ((ld_d _ _ _ 0 rfl).trans (congrArg (fun x => dwin x 0) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1)))))) ((rc_base _ _ _).trans ((ld_n _ _ _ 1 rfl).trans (congrArg (fun x => nwin x 1) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1)))))) ((rc_base _ _ _).trans ((ld_d _ _ _ 1 rfl).trans (congrArg (fun x => dwin x 1) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1))))))
  · exact out_congr (h := 1) ((rc_base _ _ _).trans ((ld_n _ _ _ 2 rfl).trans (congrArg (fun x => nwin x 2) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1)))))) ((rc_base _ _ _).trans ((ld_d _ _ _ 2 rfl).trans (congrArg (fun x => dwin x 2) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1)))))) ((rc_base _ _ _).trans ((ld_n _ _ _ 3 rfl).trans (congrArg (fun x => nwin x 3) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1)))))) ((rc_base _ _ _).trans ((ld_d _ _ _ 3 rfl).trans (congrArg (fun x => dwin x 3) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1))))))
  · exact out_congr (h := 2) ((rc_base _ _ _).trans ((ld_n _ _ _ 4 rfl).trans (congrArg (fun x => nwin x 4) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1)))))) ((rc_base _ _ _).trans ((ld_d _ _ _ 4 rfl).trans (congrArg (fun x => dwin x 4) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1)))))) ((rc_base _ _ _).trans ((ld_n _ _ _ 5 rfl).trans (congrArg (fun x => nwin x 5) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1)))))) ((rc_base _ _ _).trans ((ld_d _ _ _ 5 rfl).trans (congrArg (fun x => dwin x 5) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1))))))
  · exact out_congr (h := 3) ((rc_base _ _ _).trans ((ld_n _ _ _ 6 rfl).trans (congrArg (fun x => nwin x 6) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1)))))) ((rc_base _ _ _).trans ((ld_d _ _ _ 6 rfl).trans (congrArg (fun x => dwin x 6) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1)))))) ((rc_base _ _ _).trans ((ld_n _ _ _ 7 rfl).trans (congrArg (fun x => nwin x 7) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1)))))) ((rc_base _ _ _).trans ((ld_d _ _ _ 7 rfl).trans (congrArg (fun x => dwin x 7) (((read_base _ _ _ _ _ (nil10 q)).trans (base10 q h7)).trans (congrArg (aV (arg4.view.read (Elt F) X_arg4) (arg3.view.read (Elt F) X_arg3) (arg5.view.read (Elt F) X_arg5) q) (by have := cond2_odd q h2; omega : 2 * ((q.val + 1) / 2) = q.val + 1))))))
  · by_cases hq : (y 0).val / 256 = q.val
    · rw [if_pos hq, if_pos hq]
      have hoq : oq y = q := Fin.ext hq
      unfold OUT; rw [hoq]
    · rw [if_neg hq, if_neg hq]

theorem even_mask : ∀ q : Fin k0_t1_loop.trips, tripEven.sl.v285 q = BitVec.ofNat 32 q.val := by decide +kernel

/-- What the scores' buffer holds after the tile: the next tile's first scores. -/
theorem scoresEven (h1 : ¬ k0_cond1 q = 1#1) (h2 : k0_cond2 q = 1#1) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) :
    arg7.view.read (Elt F) ((tripEven (F := F) c i arg1 harg1 arg2 harg2 arg3 harg3 arg4 harg4 arg5 harg5 arg6 harg6 arg7 harg7 arg8 harg8 arg9 harg9 arg10 harg10 X_arg1 X_arg2 X_arg3 X_arg4 X_arg5 q h1 h2).2.1 f_arg6 f_arg7 f_arg8 f_arg9 f_arg10) = scores (arg4.view.read (Elt F) X_arg4) (arg3.view.read (Elt F) X_arg3) (nxt q) 0 := by
  unfold tripEven
  refine heads_s _ _ _ _ _ _ _ _ _ _ _ (fun n => k0_pay9 (kwin (arg4.view.read (Elt F) X_arg4) 0 n) (qwin (arg3.view.read (Elt F) X_arg3) (nxt q) n)) ?_ ?_ ?_ ?_ ?_ ?_ ?_ ?_
  · exact issue_congr (ld_k arg4.view X_arg4 _ 0 0 rfl) (ld_q arg3.view X_arg3 _ (nxt q) 0 (k0_off93_eq q))
  · exact issue_congr (ld_k arg4.view X_arg4 _ 0 1 rfl) (ld_q arg3.view X_arg3 _ (nxt q) 1 (k0_off94_eq q))
  · exact issue_congr (ld_k arg4.view X_arg4 _ 0 2 rfl) (ld_q arg3.view X_arg3 _ (nxt q) 2 (k0_off95_eq q))
  · exact issue_congr (ld_k arg4.view X_arg4 _ 0 3 rfl) (ld_q arg3.view X_arg3 _ (nxt q) 3 (k0_off96_eq q))
  · exact issue_congr (ld_k arg4.view X_arg4 _ 0 4 rfl) (ld_q arg3.view X_arg3 _ (nxt q) 4 (k0_off97_eq q))
  · exact issue_congr (ld_k arg4.view X_arg4 _ 0 5 rfl) (ld_q arg3.view X_arg3 _ (nxt q) 5 (k0_off98_eq q))
  · exact issue_congr (ld_k arg4.view X_arg4 _ 0 6 rfl) (ld_q arg3.view X_arg3 _ (nxt q) 6 (k0_off99_eq q))
  · exact issue_congr (ld_k arg4.view X_arg4 _ 0 7 rfl) (ld_q arg3.view X_arg3 _ (nxt q) 7 (k0_off100_eq q))

/-- The accumulators after the tile's last chunk. -/
theorem accEven (h1 : ¬ k0_cond1 q = 1#1) (h2 : k0_cond2 q = 1#1) (f_arg7 : BufTy.Contents (Elt F) arg7.view.ty) (f_arg8 : BufTy.Contents (Elt F) arg8.view.ty) (h7 : arg7.view.read (Elt F) f_arg7 = scores (arg4.view.read (Elt F) X_arg4) (arg3.view.read (Elt F) X_arg3) q 0) :
    arg10.view.read (Elt F) (arg10.view.writes (Elt F) arg10.view.junk (tripEven.sl.H_arg10_8 c i arg1 harg1 arg2 harg2 arg3 harg3 arg4 harg4 arg5 harg5 arg6 harg6 arg7 harg7 arg8 harg8 arg9 harg9 arg10 harg10 X_arg3 X_arg4 X_arg5 q h2 f_arg7 f_arg8)) = aV (arg4.view.read (Elt F) X_arg4) (arg3.view.read (Elt F) X_arg3) (arg5.view.read (Elt F) X_arg5) q (q.val + 1) := by
  have he := cond2_even q h2
  refine heads_a _ _ _ _ _ _ _ _ _ _ _ (fun n => k0_pay24 (maskV q q.val) (vwin (arg5.view.read (Elt F) X_arg5) q.val n) (lwin (scores (arg4.view.read (Elt F) X_arg4) (arg3.view.read (Elt F) X_arg3) q q.val) n) (mwin (mV (arg4.view.read (Elt F) X_arg4) (arg3.view.read (Elt F) X_arg3) q q.val) n) (awin (aV (arg4.view.read (Elt F) X_arg4) (arg3.view.read (Elt F) X_arg3) (arg5.view.read (Elt F) X_arg5) q q.val) n)) ?_ ?_ ?_ ?_ ?_ ?_ ?_ ?_
  · exact a_congr (congrArg (k0_pay19 _) (even_mask q)) (ld_v _ _ _ q.val 0 (by rw [k0_off89_eq]; exact congrArg (fun c : ℕ => (![c, 0, 0] : Fin 3 → ℕ)) (by have hq : q.val < 8 := q.isLt; omega))) ((ld_l _ _ _ 0 rfl).trans (congrArg (fun x => lwin x 0) (((read_base' _ _ _ _ (nil7 q)).trans (base7 q h7)).trans (congrArg (scores (arg4.view.read (Elt F) X_arg4) (arg3.view.read (Elt F) X_arg3) q) (by omega : min (2 * ((q.val + 1) / 2)) q.val = q.val))))) (((rc_base _ _ _).trans ((ld_m _ _ _ 0 rfl).trans (congrArg (fun x => mwin x 0) (((read_base _ _ _ _ _ (nil9 q)).trans (base9 q h7)).trans (congrArg (mV (arg4.view.read (Elt F) X_arg4) (arg3.view.read (Elt F) X_arg3) q) (by omega : 2 * ((q.val + 1) / 2) = q.val))))))) (((rc_base _ _ _).trans ((ld_a _ _ _ 0 rfl).trans (congrArg (fun x => awin x 0) (((read_base _ _ _ _ _ (nil10 q)).trans (base10 q h7)).trans (congrArg (aV (arg4.view.read (Elt F) X_arg4) (arg3.view.read (Elt F) X_arg3) (arg5.view.read (Elt F) X_arg5) q) (by omega : 2 * ((q.val + 1) / 2) = q.val)))))))
  · exact a_congr (congrArg (k0_pay19 _) (even_mask q)) (ld_v _ _ _ q.val 1 (by rw [k0_off89_eq]; exact congrArg (fun c : ℕ => (![c, 0, 0] : Fin 3 → ℕ)) (by have hq : q.val < 8 := q.isLt; omega))) ((ld_l _ _ _ 1 rfl).trans (congrArg (fun x => lwin x 1) (((read_base' _ _ _ _ (nil7 q)).trans (base7 q h7)).trans (congrArg (scores (arg4.view.read (Elt F) X_arg4) (arg3.view.read (Elt F) X_arg3) q) (by omega : min (2 * ((q.val + 1) / 2)) q.val = q.val))))) ((View.readCov_skip _ _ _ _ _ rfl).trans (((rc_base _ _ _).trans ((ld_m _ _ _ 1 rfl).trans (congrArg (fun x => mwin x 1) (((read_base _ _ _ _ _ (nil9 q)).trans (base9 q h7)).trans (congrArg (mV (arg4.view.read (Elt F) X_arg4) (arg3.view.read (Elt F) X_arg3) q) (by omega : 2 * ((q.val + 1) / 2) = q.val)))))))) ((View.readCov_skip _ _ _ _ _ rfl).trans (((rc_base _ _ _).trans ((ld_a _ _ _ 1 rfl).trans (congrArg (fun x => awin x 1) (((read_base _ _ _ _ _ (nil10 q)).trans (base10 q h7)).trans (congrArg (aV (arg4.view.read (Elt F) X_arg4) (arg3.view.read (Elt F) X_arg3) (arg5.view.read (Elt F) X_arg5) q) (by omega : 2 * ((q.val + 1) / 2) = q.val))))))))
  · exact a_congr (congrArg (k0_pay19 _) (even_mask q)) (ld_v _ _ _ q.val 2 (by rw [k0_off90_eq]; exact congrArg (fun c : ℕ => (![c, 144, 0] : Fin 3 → ℕ)) (by have hq : q.val < 8 := q.isLt; omega))) ((ld_l _ _ _ 2 rfl).trans (congrArg (fun x => lwin x 2) (((read_base' _ _ _ _ (nil7 q)).trans (base7 q h7)).trans (congrArg (scores (arg4.view.read (Elt F) X_arg4) (arg3.view.read (Elt F) X_arg3) q) (by omega : min (2 * ((q.val + 1) / 2)) q.val = q.val))))) ((View.readCov_skip _ _ _ _ _ rfl).trans ((View.readCov_skip _ _ _ _ _ rfl).trans (((rc_base _ _ _).trans ((ld_m _ _ _ 2 rfl).trans (congrArg (fun x => mwin x 2) (((read_base _ _ _ _ _ (nil9 q)).trans (base9 q h7)).trans (congrArg (mV (arg4.view.read (Elt F) X_arg4) (arg3.view.read (Elt F) X_arg3) q) (by omega : 2 * ((q.val + 1) / 2) = q.val))))))))) ((View.readCov_skip _ _ _ _ _ rfl).trans ((View.readCov_skip _ _ _ _ _ rfl).trans (((rc_base _ _ _).trans ((ld_a _ _ _ 2 rfl).trans (congrArg (fun x => awin x 2) (((read_base _ _ _ _ _ (nil10 q)).trans (base10 q h7)).trans (congrArg (aV (arg4.view.read (Elt F) X_arg4) (arg3.view.read (Elt F) X_arg3) (arg5.view.read (Elt F) X_arg5) q) (by omega : 2 * ((q.val + 1) / 2) = q.val)))))))))
  · exact a_congr (congrArg (k0_pay19 _) (even_mask q)) (ld_v _ _ _ q.val 3 (by rw [k0_off90_eq]; exact congrArg (fun c : ℕ => (![c, 144, 0] : Fin 3 → ℕ)) (by have hq : q.val < 8 := q.isLt; omega))) ((ld_l _ _ _ 3 rfl).trans (congrArg (fun x => lwin x 3) (((read_base' _ _ _ _ (nil7 q)).trans (base7 q h7)).trans (congrArg (scores (arg4.view.read (Elt F) X_arg4) (arg3.view.read (Elt F) X_arg3) q) (by omega : min (2 * ((q.val + 1) / 2)) q.val = q.val))))) ((View.readCov_skip _ _ _ _ _ rfl).trans ((View.readCov_skip _ _ _ _ _ rfl).trans ((View.readCov_skip _ _ _ _ _ rfl).trans (((rc_base _ _ _).trans ((ld_m _ _ _ 3 rfl).trans (congrArg (fun x => mwin x 3) (((read_base _ _ _ _ _ (nil9 q)).trans (base9 q h7)).trans (congrArg (mV (arg4.view.read (Elt F) X_arg4) (arg3.view.read (Elt F) X_arg3) q) (by omega : 2 * ((q.val + 1) / 2) = q.val)))))))))) ((View.readCov_skip _ _ _ _ _ rfl).trans ((View.readCov_skip _ _ _ _ _ rfl).trans ((View.readCov_skip _ _ _ _ _ rfl).trans (((rc_base _ _ _).trans ((ld_a _ _ _ 3 rfl).trans (congrArg (fun x => awin x 3) (((read_base _ _ _ _ _ (nil10 q)).trans (base10 q h7)).trans (congrArg (aV (arg4.view.read (Elt F) X_arg4) (arg3.view.read (Elt F) X_arg3) (arg5.view.read (Elt F) X_arg5) q) (by omega : 2 * ((q.val + 1) / 2) = q.val))))))))))
  · exact a_congr (congrArg (k0_pay19 _) (even_mask q)) (ld_v _ _ _ q.val 4 (by rw [k0_off91_eq]; exact congrArg (fun c : ℕ => (![c, 288, 0] : Fin 3 → ℕ)) (by have hq : q.val < 8 := q.isLt; omega))) ((ld_l _ _ _ 4 rfl).trans (congrArg (fun x => lwin x 4) (((read_base' _ _ _ _ (nil7 q)).trans (base7 q h7)).trans (congrArg (scores (arg4.view.read (Elt F) X_arg4) (arg3.view.read (Elt F) X_arg3) q) (by omega : min (2 * ((q.val + 1) / 2)) q.val = q.val))))) ((View.readCov_skip _ _ _ _ _ rfl).trans ((View.readCov_skip _ _ _ _ _ rfl).trans ((View.readCov_skip _ _ _ _ _ rfl).trans ((View.readCov_skip _ _ _ _ _ rfl).trans (((rc_base _ _ _).trans ((ld_m _ _ _ 4 rfl).trans (congrArg (fun x => mwin x 4) (((read_base _ _ _ _ _ (nil9 q)).trans (base9 q h7)).trans (congrArg (mV (arg4.view.read (Elt F) X_arg4) (arg3.view.read (Elt F) X_arg3) q) (by omega : 2 * ((q.val + 1) / 2) = q.val))))))))))) ((View.readCov_skip _ _ _ _ _ rfl).trans ((View.readCov_skip _ _ _ _ _ rfl).trans ((View.readCov_skip _ _ _ _ _ rfl).trans ((View.readCov_skip _ _ _ _ _ rfl).trans (((rc_base _ _ _).trans ((ld_a _ _ _ 4 rfl).trans (congrArg (fun x => awin x 4) (((read_base _ _ _ _ _ (nil10 q)).trans (base10 q h7)).trans (congrArg (aV (arg4.view.read (Elt F) X_arg4) (arg3.view.read (Elt F) X_arg3) (arg5.view.read (Elt F) X_arg5) q) (by omega : 2 * ((q.val + 1) / 2) = q.val)))))))))))
  · exact a_congr (congrArg (k0_pay19 _) (even_mask q)) (ld_v _ _ _ q.val 5 (by rw [k0_off91_eq]; exact congrArg (fun c : ℕ => (![c, 288, 0] : Fin 3 → ℕ)) (by have hq : q.val < 8 := q.isLt; omega))) ((ld_l _ _ _ 5 rfl).trans (congrArg (fun x => lwin x 5) (((read_base' _ _ _ _ (nil7 q)).trans (base7 q h7)).trans (congrArg (scores (arg4.view.read (Elt F) X_arg4) (arg3.view.read (Elt F) X_arg3) q) (by omega : min (2 * ((q.val + 1) / 2)) q.val = q.val))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (((rc_base _ _ _).trans ((ld_m _ _ _ 5 rfl).trans (congrArg (fun x => mwin x 5) (((read_base _ _ _ _ _ (nil9 q)).trans (base9 q h7)).trans (congrArg (mV (arg4.view.read (Elt F) X_arg4) (arg3.view.read (Elt F) X_arg3) q) (by omega : 2 * ((q.val + 1) / 2) = q.val)))))))))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (((rc_base _ _ _).trans ((ld_a _ _ _ 5 rfl).trans (congrArg (fun x => awin x 5) (((read_base _ _ _ _ _ (nil10 q)).trans (base10 q h7)).trans (congrArg (aV (arg4.view.read (Elt F) X_arg4) (arg3.view.read (Elt F) X_arg3) (arg5.view.read (Elt F) X_arg5) q) (by omega : 2 * ((q.val + 1) / 2) = q.val))))))))))))
  · exact a_congr (congrArg (k0_pay19 _) (even_mask q)) (ld_v _ _ _ q.val 6 (by rw [k0_off92_eq]; exact congrArg (fun c : ℕ => (![c, 432, 0] : Fin 3 → ℕ)) (by have hq : q.val < 8 := q.isLt; omega))) ((ld_l _ _ _ 6 rfl).trans (congrArg (fun x => lwin x 6) (((read_base' _ _ _ _ (nil7 q)).trans (base7 q h7)).trans (congrArg (scores (arg4.view.read (Elt F) X_arg4) (arg3.view.read (Elt F) X_arg3) q) (by omega : min (2 * ((q.val + 1) / 2)) q.val = q.val))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (((rc_base _ _ _).trans ((ld_m _ _ _ 6 rfl).trans (congrArg (fun x => mwin x 6) (((read_base _ _ _ _ _ (nil9 q)).trans (base9 q h7)).trans (congrArg (mV (arg4.view.read (Elt F) X_arg4) (arg3.view.read (Elt F) X_arg3) q) (by omega : 2 * ((q.val + 1) / 2) = q.val))))))))))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (((rc_base _ _ _).trans ((ld_a _ _ _ 6 rfl).trans (congrArg (fun x => awin x 6) (((read_base _ _ _ _ _ (nil10 q)).trans (base10 q h7)).trans (congrArg (aV (arg4.view.read (Elt F) X_arg4) (arg3.view.read (Elt F) X_arg3) (arg5.view.read (Elt F) X_arg5) q) (by omega : 2 * ((q.val + 1) / 2) = q.val)))))))))))))
  · exact a_congr (congrArg (k0_pay19 _) (even_mask q)) (ld_v _ _ _ q.val 7 (by rw [k0_off92_eq]; exact congrArg (fun c : ℕ => (![c, 432, 0] : Fin 3 → ℕ)) (by have hq : q.val < 8 := q.isLt; omega))) ((ld_l _ _ _ 7 rfl).trans (congrArg (fun x => lwin x 7) (((read_base' _ _ _ _ (nil7 q)).trans (base7 q h7)).trans (congrArg (scores (arg4.view.read (Elt F) X_arg4) (arg3.view.read (Elt F) X_arg3) q) (by omega : min (2 * ((q.val + 1) / 2)) q.val = q.val))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (((rc_base _ _ _).trans ((ld_m _ _ _ 7 rfl).trans (congrArg (fun x => mwin x 7) (((read_base _ _ _ _ _ (nil9 q)).trans (base9 q h7)).trans (congrArg (mV (arg4.view.read (Elt F) X_arg4) (arg3.view.read (Elt F) X_arg3) q) (by omega : 2 * ((q.val + 1) / 2) = q.val)))))))))))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (((rc_base _ _ _).trans ((ld_a _ _ _ 7 rfl).trans (congrArg (fun x => awin x 7) (((read_base _ _ _ _ _ (nil10 q)).trans (base10 q h7)).trans (congrArg (aV (arg4.view.read (Elt F) X_arg4) (arg3.view.read (Elt F) X_arg3) (arg5.view.read (Elt F) X_arg5) q) (by omega : 2 * ((q.val + 1) / 2) = q.val))))))))))))))

/-- What the output's buffer holds after the tile. -/
theorem outEven (h1 : ¬ k0_cond1 q = 1#1) (h2 : k0_cond2 q = 1#1) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (h7 : arg7.view.read (Elt F) f_arg7 = scores (arg4.view.read (Elt F) X_arg4) (arg3.view.read (Elt F) X_arg3) q 0) (y : S2048x512.Idx) :
    arg6.view.read (Elt F) (arg6.view.writes (Elt F) f_arg6 ((tripEven (F := F) c i arg1 harg1 arg2 harg2 arg3 harg3 arg4 harg4 arg5 harg5 arg6 harg6 arg7 harg7 arg8 harg8 arg9 harg9 arg10 harg10 X_arg1 X_arg2 X_arg3 X_arg4 X_arg5 q h1 h2).1 f_arg6 f_arg7 f_arg8 f_arg9 f_arg10)) y
      = if (y 0).val / 256 = q.val then OUT (arg4.view.read (Elt F) X_arg4) (arg3.view.read (Elt F) X_arg3) (arg5.view.read (Elt F) X_arg5) (k0_pay300 (View.readAt (Elt F) arg1.view (Rect.unit ![0, 0] S4x64.size inb_S4x64_S4x64_0_0).toLoadRect X_arg1)) (View.readAt (Elt F) arg2.view (Rect.unit ![0, 0] S1x128.size inb_S1x128_S1x128_0_0).toLoadRect X_arg2) y else arg6.view.read (Elt F) f_arg6 y := by
  unfold tripEven
  refine (heads_o arg6.view f_arg6 q.val _ (k0_off101_eq q) _ (k0_off102_eq q) _ (k0_off103_eq q) _ (k0_off104_eq q)
    (fun h => outH (k0_pay300 (View.readAt (Elt F) arg1.view (Rect.unit ![0, 0] S4x64.size inb_S4x64_S4x64_0_0).toLoadRect X_arg1)) (aV (arg4.view.read (Elt F) X_arg4) (arg3.view.read (Elt F) X_arg3) (arg5.view.read (Elt F) X_arg5) q (q.val + 1)) (View.readAt (Elt F) arg2.view (Rect.unit ![0, 0] S1x128.size inb_S1x128_S1x128_0_0).toLoadRect X_arg2) h) ?_ ?_ ?_ ?_ y).trans ?_
  · exact out_congr (h := 0) ((rc_base _ _ _).trans ((ld_n _ _ _ 0 rfl).trans (congrArg (fun x => nwin x 0) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7)))) ((rc_base _ _ _).trans ((ld_d _ _ _ 0 rfl).trans (congrArg (fun x => dwin x 0) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7)))) ((rc_base _ _ _).trans ((ld_n _ _ _ 1 rfl).trans (congrArg (fun x => nwin x 1) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7)))) ((rc_base _ _ _).trans ((ld_d _ _ _ 1 rfl).trans (congrArg (fun x => dwin x 1) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7))))
  · exact out_congr (h := 1) ((rc_base _ _ _).trans ((ld_n _ _ _ 2 rfl).trans (congrArg (fun x => nwin x 2) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7)))) ((rc_base _ _ _).trans ((ld_d _ _ _ 2 rfl).trans (congrArg (fun x => dwin x 2) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7)))) ((rc_base _ _ _).trans ((ld_n _ _ _ 3 rfl).trans (congrArg (fun x => nwin x 3) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7)))) ((rc_base _ _ _).trans ((ld_d _ _ _ 3 rfl).trans (congrArg (fun x => dwin x 3) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7))))
  · exact out_congr (h := 2) ((rc_base _ _ _).trans ((ld_n _ _ _ 4 rfl).trans (congrArg (fun x => nwin x 4) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7)))) ((rc_base _ _ _).trans ((ld_d _ _ _ 4 rfl).trans (congrArg (fun x => dwin x 4) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7)))) ((rc_base _ _ _).trans ((ld_n _ _ _ 5 rfl).trans (congrArg (fun x => nwin x 5) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7)))) ((rc_base _ _ _).trans ((ld_d _ _ _ 5 rfl).trans (congrArg (fun x => dwin x 5) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7))))
  · exact out_congr (h := 3) ((rc_base _ _ _).trans ((ld_n _ _ _ 6 rfl).trans (congrArg (fun x => nwin x 6) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7)))) ((rc_base _ _ _).trans ((ld_d _ _ _ 6 rfl).trans (congrArg (fun x => dwin x 6) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7)))) ((rc_base _ _ _).trans ((ld_n _ _ _ 7 rfl).trans (congrArg (fun x => nwin x 7) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7)))) ((rc_base _ _ _).trans ((ld_d _ _ _ 7 rfl).trans (congrArg (fun x => dwin x 7) (accEven c i arg1 harg1 arg2 harg2 arg3 harg3 arg4 harg4 arg5 harg5 arg6 harg6 arg7 harg7 arg8 harg8 arg9 harg9 arg10 harg10 X_arg3 X_arg4 X_arg5 q h1 h2 f_arg7 f_arg8 h7))))
  · by_cases hq : (y 0).val / 256 = q.val
    · rw [if_pos hq, if_pos hq]
      have hoq : oq y = q := Fin.ext hq
      unfold OUT; rw [hoq]
    · rw [if_neg hq, if_neg hq]

theorem first_mask : ∀ q : Fin k0_t1_loop.trips, tripFirst.sl.v285 q = BitVec.ofNat 32 q.val := by decide +kernel
/-- The scores the first tile begins with. -/
theorem first7 (h1 : k0_cond1 q = 1#1) (f : BufTy.Contents (Elt F) arg7.view.ty) :
    arg7.view.read (Elt F) (arg7.view.writes (Elt F) f (tripFirst.sl.H_arg7_8 arg3 arg4 X_arg3 X_arg4 q h1)) = scores (arg4.view.read (Elt F) X_arg4) (arg3.view.read (Elt F) X_arg3) q 0 := by
  refine heads_s _ _ [] _ _ _ _ _ _ _ _ (fun n => k0_pay9 (kwin (arg4.view.read (Elt F) X_arg4) 0 n) (qwin (arg3.view.read (Elt F) X_arg3) q n)) ?_ ?_ ?_ ?_ ?_ ?_ ?_ ?_
  · exact issue_congr (ld_k arg4.view X_arg4 _ 0 0 rfl) (ld_q arg3.view X_arg3 _ q 0 (k0_off1_eq q))
  · exact issue_congr (ld_k arg4.view X_arg4 _ 0 1 rfl) (ld_q arg3.view X_arg3 _ q 1 (k0_off2_eq q))
  · exact issue_congr (ld_k arg4.view X_arg4 _ 0 2 rfl) (ld_q arg3.view X_arg3 _ q 2 (k0_off3_eq q))
  · exact issue_congr (ld_k arg4.view X_arg4 _ 0 3 rfl) (ld_q arg3.view X_arg3 _ q 3 (k0_off4_eq q))
  · exact issue_congr (ld_k arg4.view X_arg4 _ 0 4 rfl) (ld_q arg3.view X_arg3 _ q 4 (k0_off5_eq q))
  · exact issue_congr (ld_k arg4.view X_arg4 _ 0 5 rfl) (ld_q arg3.view X_arg3 _ q 5 (k0_off6_eq q))
  · exact issue_congr (ld_k arg4.view X_arg4 _ 0 6 rfl) (ld_q arg3.view X_arg3 _ q 6 (k0_off7_eq q))
  · exact issue_congr (ld_k arg4.view X_arg4 _ 0 7 rfl) (ld_q arg3.view X_arg3 _ q 7 (k0_off8_eq q))

/-- What the scores' buffer holds after the tile: the next tile's first scores. -/
theorem scoresFirst (h1 : k0_cond1 q = 1#1) (h2 : k0_cond2 q = 1#1) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) :
    arg7.view.read (Elt F) ((tripFirst (F := F) c i arg1 harg1 arg2 harg2 arg3 harg3 arg4 harg4 arg5 harg5 arg6 harg6 arg7 harg7 arg8 harg8 arg9 harg9 arg10 harg10 X_arg1 X_arg2 X_arg3 X_arg4 X_arg5 q h1 h2).2.1 f_arg6 f_arg7 f_arg8 f_arg9 f_arg10) = scores (arg4.view.read (Elt F) X_arg4) (arg3.view.read (Elt F) X_arg3) (nxt q) 0 := by
  unfold tripFirst
  refine heads_s _ _ _ _ _ _ _ _ _ _ _ (fun n => k0_pay9 (kwin (arg4.view.read (Elt F) X_arg4) 0 n) (qwin (arg3.view.read (Elt F) X_arg3) (nxt q) n)) ?_ ?_ ?_ ?_ ?_ ?_ ?_ ?_
  · exact issue_congr (ld_k arg4.view X_arg4 _ 0 0 rfl) (ld_q arg3.view X_arg3 _ (nxt q) 0 (k0_off93_eq q))
  · exact issue_congr (ld_k arg4.view X_arg4 _ 0 1 rfl) (ld_q arg3.view X_arg3 _ (nxt q) 1 (k0_off94_eq q))
  · exact issue_congr (ld_k arg4.view X_arg4 _ 0 2 rfl) (ld_q arg3.view X_arg3 _ (nxt q) 2 (k0_off95_eq q))
  · exact issue_congr (ld_k arg4.view X_arg4 _ 0 3 rfl) (ld_q arg3.view X_arg3 _ (nxt q) 3 (k0_off96_eq q))
  · exact issue_congr (ld_k arg4.view X_arg4 _ 0 4 rfl) (ld_q arg3.view X_arg3 _ (nxt q) 4 (k0_off97_eq q))
  · exact issue_congr (ld_k arg4.view X_arg4 _ 0 5 rfl) (ld_q arg3.view X_arg3 _ (nxt q) 5 (k0_off98_eq q))
  · exact issue_congr (ld_k arg4.view X_arg4 _ 0 6 rfl) (ld_q arg3.view X_arg3 _ (nxt q) 6 (k0_off99_eq q))
  · exact issue_congr (ld_k arg4.view X_arg4 _ 0 7 rfl) (ld_q arg3.view X_arg3 _ (nxt q) 7 (k0_off100_eq q))

/-- The accumulators after the tile's last chunk. -/
theorem accFirst (h1 : k0_cond1 q = 1#1) (h2 : k0_cond2 q = 1#1) (f_arg8 : BufTy.Contents (Elt F) arg8.view.ty) :
    arg10.view.read (Elt F) (arg10.view.writes (Elt F) arg10.view.junk (tripFirst.sl.H_arg10_8 c i arg1 harg1 arg2 harg2 arg3 harg3 arg4 harg4 arg5 harg5 arg6 harg6 arg7 harg7 arg8 harg8 arg9 harg9 arg10 harg10 X_arg3 X_arg4 X_arg5 q h1 h2 f_arg8)) = aV (arg4.view.read (Elt F) X_arg4) (arg3.view.read (Elt F) X_arg3) (arg5.view.read (Elt F) X_arg5) q (q.val + 1) := by
  have he := cond2_even q h2
  refine heads_a _ _ _ _ _ _ _ _ _ _ _ (fun n => k0_pay24 (maskV q q.val) (vwin (arg5.view.read (Elt F) X_arg5) q.val n) (lwin (scores (arg4.view.read (Elt F) X_arg4) (arg3.view.read (Elt F) X_arg3) q q.val) n) (mwin (mV (arg4.view.read (Elt F) X_arg4) (arg3.view.read (Elt F) X_arg3) q q.val) n) (awin (aV (arg4.view.read (Elt F) X_arg4) (arg3.view.read (Elt F) X_arg3) (arg5.view.read (Elt F) X_arg5) q q.val) n)) ?_ ?_ ?_ ?_ ?_ ?_ ?_ ?_
  · exact a_congr (congrArg (k0_pay19 _) (first_mask q)) (ld_v _ _ _ q.val 0 (by rw [k0_off89_eq]; exact congrArg (fun c : ℕ => (![c, 0, 0] : Fin 3 → ℕ)) (by have hq : q.val < 8 := q.isLt; omega))) ((rc_base _ _ _).trans ((ld_l _ _ _ 0 rfl).trans (congrArg (fun x => lwin x 0) (((read_base _ _ _ _ _ (nil7 q)).trans (base7 q (first7 arg3 arg4 arg7 X_arg3 X_arg4 q h1 _))).trans (congrArg (scores (arg4.view.read (Elt F) X_arg4) (arg3.view.read (Elt F) X_arg3) q) (by omega : min (2 * ((q.val + 1) / 2)) q.val = q.val)))))) (((rc_base _ _ _).trans ((ld_m _ _ _ 0 rfl).trans (congrArg (fun x => mwin x 0) (((read_base _ _ _ _ _ (nil9 q)).trans (base9 q (first7 arg3 arg4 arg7 X_arg3 X_arg4 q h1 _))).trans (congrArg (mV (arg4.view.read (Elt F) X_arg4) (arg3.view.read (Elt F) X_arg3) q) (by omega : 2 * ((q.val + 1) / 2) = q.val))))))) (((rc_base _ _ _).trans ((ld_a _ _ _ 0 rfl).trans (congrArg (fun x => awin x 0) (((read_base _ _ _ _ _ (nil10 q)).trans (base10 q (first7 arg3 arg4 arg7 X_arg3 X_arg4 q h1 _))).trans (congrArg (aV (arg4.view.read (Elt F) X_arg4) (arg3.view.read (Elt F) X_arg3) (arg5.view.read (Elt F) X_arg5) q) (by omega : 2 * ((q.val + 1) / 2) = q.val)))))))
  · exact a_congr (congrArg (k0_pay19 _) (first_mask q)) (ld_v _ _ _ q.val 1 (by rw [k0_off89_eq]; exact congrArg (fun c : ℕ => (![c, 0, 0] : Fin 3 → ℕ)) (by have hq : q.val < 8 := q.isLt; omega))) ((rc_base _ _ _).trans ((ld_l _ _ _ 1 rfl).trans (congrArg (fun x => lwin x 1) (((read_base _ _ _ _ _ (nil7 q)).trans (base7 q (first7 arg3 arg4 arg7 X_arg3 X_arg4 q h1 _))).trans (congrArg (scores (arg4.view.read (Elt F) X_arg4) (arg3.view.read (Elt F) X_arg3) q) (by omega : min (2 * ((q.val + 1) / 2)) q.val = q.val)))))) ((View.readCov_skip _ _ _ _ _ rfl).trans (((rc_base _ _ _).trans ((ld_m _ _ _ 1 rfl).trans (congrArg (fun x => mwin x 1) (((read_base _ _ _ _ _ (nil9 q)).trans (base9 q (first7 arg3 arg4 arg7 X_arg3 X_arg4 q h1 _))).trans (congrArg (mV (arg4.view.read (Elt F) X_arg4) (arg3.view.read (Elt F) X_arg3) q) (by omega : 2 * ((q.val + 1) / 2) = q.val)))))))) ((View.readCov_skip _ _ _ _ _ rfl).trans (((rc_base _ _ _).trans ((ld_a _ _ _ 1 rfl).trans (congrArg (fun x => awin x 1) (((read_base _ _ _ _ _ (nil10 q)).trans (base10 q (first7 arg3 arg4 arg7 X_arg3 X_arg4 q h1 _))).trans (congrArg (aV (arg4.view.read (Elt F) X_arg4) (arg3.view.read (Elt F) X_arg3) (arg5.view.read (Elt F) X_arg5) q) (by omega : 2 * ((q.val + 1) / 2) = q.val))))))))
  · exact a_congr (congrArg (k0_pay19 _) (first_mask q)) (ld_v _ _ _ q.val 2 (by rw [k0_off90_eq]; exact congrArg (fun c : ℕ => (![c, 144, 0] : Fin 3 → ℕ)) (by have hq : q.val < 8 := q.isLt; omega))) ((rc_base _ _ _).trans ((ld_l _ _ _ 2 rfl).trans (congrArg (fun x => lwin x 2) (((read_base _ _ _ _ _ (nil7 q)).trans (base7 q (first7 arg3 arg4 arg7 X_arg3 X_arg4 q h1 _))).trans (congrArg (scores (arg4.view.read (Elt F) X_arg4) (arg3.view.read (Elt F) X_arg3) q) (by omega : min (2 * ((q.val + 1) / 2)) q.val = q.val)))))) ((View.readCov_skip _ _ _ _ _ rfl).trans ((View.readCov_skip _ _ _ _ _ rfl).trans (((rc_base _ _ _).trans ((ld_m _ _ _ 2 rfl).trans (congrArg (fun x => mwin x 2) (((read_base _ _ _ _ _ (nil9 q)).trans (base9 q (first7 arg3 arg4 arg7 X_arg3 X_arg4 q h1 _))).trans (congrArg (mV (arg4.view.read (Elt F) X_arg4) (arg3.view.read (Elt F) X_arg3) q) (by omega : 2 * ((q.val + 1) / 2) = q.val))))))))) ((View.readCov_skip _ _ _ _ _ rfl).trans ((View.readCov_skip _ _ _ _ _ rfl).trans (((rc_base _ _ _).trans ((ld_a _ _ _ 2 rfl).trans (congrArg (fun x => awin x 2) (((read_base _ _ _ _ _ (nil10 q)).trans (base10 q (first7 arg3 arg4 arg7 X_arg3 X_arg4 q h1 _))).trans (congrArg (aV (arg4.view.read (Elt F) X_arg4) (arg3.view.read (Elt F) X_arg3) (arg5.view.read (Elt F) X_arg5) q) (by omega : 2 * ((q.val + 1) / 2) = q.val)))))))))
  · exact a_congr (congrArg (k0_pay19 _) (first_mask q)) (ld_v _ _ _ q.val 3 (by rw [k0_off90_eq]; exact congrArg (fun c : ℕ => (![c, 144, 0] : Fin 3 → ℕ)) (by have hq : q.val < 8 := q.isLt; omega))) ((rc_base _ _ _).trans ((ld_l _ _ _ 3 rfl).trans (congrArg (fun x => lwin x 3) (((read_base _ _ _ _ _ (nil7 q)).trans (base7 q (first7 arg3 arg4 arg7 X_arg3 X_arg4 q h1 _))).trans (congrArg (scores (arg4.view.read (Elt F) X_arg4) (arg3.view.read (Elt F) X_arg3) q) (by omega : min (2 * ((q.val + 1) / 2)) q.val = q.val)))))) ((View.readCov_skip _ _ _ _ _ rfl).trans ((View.readCov_skip _ _ _ _ _ rfl).trans ((View.readCov_skip _ _ _ _ _ rfl).trans (((rc_base _ _ _).trans ((ld_m _ _ _ 3 rfl).trans (congrArg (fun x => mwin x 3) (((read_base _ _ _ _ _ (nil9 q)).trans (base9 q (first7 arg3 arg4 arg7 X_arg3 X_arg4 q h1 _))).trans (congrArg (mV (arg4.view.read (Elt F) X_arg4) (arg3.view.read (Elt F) X_arg3) q) (by omega : 2 * ((q.val + 1) / 2) = q.val)))))))))) ((View.readCov_skip _ _ _ _ _ rfl).trans ((View.readCov_skip _ _ _ _ _ rfl).trans ((View.readCov_skip _ _ _ _ _ rfl).trans (((rc_base _ _ _).trans ((ld_a _ _ _ 3 rfl).trans (congrArg (fun x => awin x 3) (((read_base _ _ _ _ _ (nil10 q)).trans (base10 q (first7 arg3 arg4 arg7 X_arg3 X_arg4 q h1 _))).trans (congrArg (aV (arg4.view.read (Elt F) X_arg4) (arg3.view.read (Elt F) X_arg3) (arg5.view.read (Elt F) X_arg5) q) (by omega : 2 * ((q.val + 1) / 2) = q.val))))))))))
  · exact a_congr (congrArg (k0_pay19 _) (first_mask q)) (ld_v _ _ _ q.val 4 (by rw [k0_off91_eq]; exact congrArg (fun c : ℕ => (![c, 288, 0] : Fin 3 → ℕ)) (by have hq : q.val < 8 := q.isLt; omega))) ((rc_base _ _ _).trans ((ld_l _ _ _ 4 rfl).trans (congrArg (fun x => lwin x 4) (((read_base _ _ _ _ _ (nil7 q)).trans (base7 q (first7 arg3 arg4 arg7 X_arg3 X_arg4 q h1 _))).trans (congrArg (scores (arg4.view.read (Elt F) X_arg4) (arg3.view.read (Elt F) X_arg3) q) (by omega : min (2 * ((q.val + 1) / 2)) q.val = q.val)))))) ((View.readCov_skip _ _ _ _ _ rfl).trans ((View.readCov_skip _ _ _ _ _ rfl).trans ((View.readCov_skip _ _ _ _ _ rfl).trans ((View.readCov_skip _ _ _ _ _ rfl).trans (((rc_base _ _ _).trans ((ld_m _ _ _ 4 rfl).trans (congrArg (fun x => mwin x 4) (((read_base _ _ _ _ _ (nil9 q)).trans (base9 q (first7 arg3 arg4 arg7 X_arg3 X_arg4 q h1 _))).trans (congrArg (mV (arg4.view.read (Elt F) X_arg4) (arg3.view.read (Elt F) X_arg3) q) (by omega : 2 * ((q.val + 1) / 2) = q.val))))))))))) ((View.readCov_skip _ _ _ _ _ rfl).trans ((View.readCov_skip _ _ _ _ _ rfl).trans ((View.readCov_skip _ _ _ _ _ rfl).trans ((View.readCov_skip _ _ _ _ _ rfl).trans (((rc_base _ _ _).trans ((ld_a _ _ _ 4 rfl).trans (congrArg (fun x => awin x 4) (((read_base _ _ _ _ _ (nil10 q)).trans (base10 q (first7 arg3 arg4 arg7 X_arg3 X_arg4 q h1 _))).trans (congrArg (aV (arg4.view.read (Elt F) X_arg4) (arg3.view.read (Elt F) X_arg3) (arg5.view.read (Elt F) X_arg5) q) (by omega : 2 * ((q.val + 1) / 2) = q.val)))))))))))
  · exact a_congr (congrArg (k0_pay19 _) (first_mask q)) (ld_v _ _ _ q.val 5 (by rw [k0_off91_eq]; exact congrArg (fun c : ℕ => (![c, 288, 0] : Fin 3 → ℕ)) (by have hq : q.val < 8 := q.isLt; omega))) ((rc_base _ _ _).trans ((ld_l _ _ _ 5 rfl).trans (congrArg (fun x => lwin x 5) (((read_base _ _ _ _ _ (nil7 q)).trans (base7 q (first7 arg3 arg4 arg7 X_arg3 X_arg4 q h1 _))).trans (congrArg (scores (arg4.view.read (Elt F) X_arg4) (arg3.view.read (Elt F) X_arg3) q) (by omega : min (2 * ((q.val + 1) / 2)) q.val = q.val)))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (((rc_base _ _ _).trans ((ld_m _ _ _ 5 rfl).trans (congrArg (fun x => mwin x 5) (((read_base _ _ _ _ _ (nil9 q)).trans (base9 q (first7 arg3 arg4 arg7 X_arg3 X_arg4 q h1 _))).trans (congrArg (mV (arg4.view.read (Elt F) X_arg4) (arg3.view.read (Elt F) X_arg3) q) (by omega : 2 * ((q.val + 1) / 2) = q.val)))))))))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (((rc_base _ _ _).trans ((ld_a _ _ _ 5 rfl).trans (congrArg (fun x => awin x 5) (((read_base _ _ _ _ _ (nil10 q)).trans (base10 q (first7 arg3 arg4 arg7 X_arg3 X_arg4 q h1 _))).trans (congrArg (aV (arg4.view.read (Elt F) X_arg4) (arg3.view.read (Elt F) X_arg3) (arg5.view.read (Elt F) X_arg5) q) (by omega : 2 * ((q.val + 1) / 2) = q.val))))))))))))
  · exact a_congr (congrArg (k0_pay19 _) (first_mask q)) (ld_v _ _ _ q.val 6 (by rw [k0_off92_eq]; exact congrArg (fun c : ℕ => (![c, 432, 0] : Fin 3 → ℕ)) (by have hq : q.val < 8 := q.isLt; omega))) ((rc_base _ _ _).trans ((ld_l _ _ _ 6 rfl).trans (congrArg (fun x => lwin x 6) (((read_base _ _ _ _ _ (nil7 q)).trans (base7 q (first7 arg3 arg4 arg7 X_arg3 X_arg4 q h1 _))).trans (congrArg (scores (arg4.view.read (Elt F) X_arg4) (arg3.view.read (Elt F) X_arg3) q) (by omega : min (2 * ((q.val + 1) / 2)) q.val = q.val)))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (((rc_base _ _ _).trans ((ld_m _ _ _ 6 rfl).trans (congrArg (fun x => mwin x 6) (((read_base _ _ _ _ _ (nil9 q)).trans (base9 q (first7 arg3 arg4 arg7 X_arg3 X_arg4 q h1 _))).trans (congrArg (mV (arg4.view.read (Elt F) X_arg4) (arg3.view.read (Elt F) X_arg3) q) (by omega : 2 * ((q.val + 1) / 2) = q.val))))))))))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (((rc_base _ _ _).trans ((ld_a _ _ _ 6 rfl).trans (congrArg (fun x => awin x 6) (((read_base _ _ _ _ _ (nil10 q)).trans (base10 q (first7 arg3 arg4 arg7 X_arg3 X_arg4 q h1 _))).trans (congrArg (aV (arg4.view.read (Elt F) X_arg4) (arg3.view.read (Elt F) X_arg3) (arg5.view.read (Elt F) X_arg5) q) (by omega : 2 * ((q.val + 1) / 2) = q.val)))))))))))))
  · exact a_congr (congrArg (k0_pay19 _) (first_mask q)) (ld_v _ _ _ q.val 7 (by rw [k0_off92_eq]; exact congrArg (fun c : ℕ => (![c, 432, 0] : Fin 3 → ℕ)) (by have hq : q.val < 8 := q.isLt; omega))) ((rc_base _ _ _).trans ((ld_l _ _ _ 7 rfl).trans (congrArg (fun x => lwin x 7) (((read_base _ _ _ _ _ (nil7 q)).trans (base7 q (first7 arg3 arg4 arg7 X_arg3 X_arg4 q h1 _))).trans (congrArg (scores (arg4.view.read (Elt F) X_arg4) (arg3.view.read (Elt F) X_arg3) q) (by omega : min (2 * ((q.val + 1) / 2)) q.val = q.val)))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (((rc_base _ _ _).trans ((ld_m _ _ _ 7 rfl).trans (congrArg (fun x => mwin x 7) (((read_base _ _ _ _ _ (nil9 q)).trans (base9 q (first7 arg3 arg4 arg7 X_arg3 X_arg4 q h1 _))).trans (congrArg (mV (arg4.view.read (Elt F) X_arg4) (arg3.view.read (Elt F) X_arg3) q) (by omega : 2 * ((q.val + 1) / 2) = q.val)))))))))))))) ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (((rc_base _ _ _).trans ((ld_a _ _ _ 7 rfl).trans (congrArg (fun x => awin x 7) (((read_base _ _ _ _ _ (nil10 q)).trans (base10 q (first7 arg3 arg4 arg7 X_arg3 X_arg4 q h1 _))).trans (congrArg (aV (arg4.view.read (Elt F) X_arg4) (arg3.view.read (Elt F) X_arg3) (arg5.view.read (Elt F) X_arg5) q) (by omega : 2 * ((q.val + 1) / 2) = q.val))))))))))))))

/-- What the output's buffer holds after the tile. -/
theorem outFirst (h1 : k0_cond1 q = 1#1) (h2 : k0_cond2 q = 1#1) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (y : S2048x512.Idx) :
    arg6.view.read (Elt F) (arg6.view.writes (Elt F) f_arg6 ((tripFirst (F := F) c i arg1 harg1 arg2 harg2 arg3 harg3 arg4 harg4 arg5 harg5 arg6 harg6 arg7 harg7 arg8 harg8 arg9 harg9 arg10 harg10 X_arg1 X_arg2 X_arg3 X_arg4 X_arg5 q h1 h2).1 f_arg6 f_arg7 f_arg8 f_arg9 f_arg10)) y
      = if (y 0).val / 256 = q.val then OUT (arg4.view.read (Elt F) X_arg4) (arg3.view.read (Elt F) X_arg3) (arg5.view.read (Elt F) X_arg5) (k0_pay300 (View.readAt (Elt F) arg1.view (Rect.unit ![0, 0] S4x64.size inb_S4x64_S4x64_0_0).toLoadRect X_arg1)) (View.readAt (Elt F) arg2.view (Rect.unit ![0, 0] S1x128.size inb_S1x128_S1x128_0_0).toLoadRect X_arg2) y else arg6.view.read (Elt F) f_arg6 y := by
  unfold tripFirst
  refine (heads_o arg6.view f_arg6 q.val _ (k0_off101_eq q) _ (k0_off102_eq q) _ (k0_off103_eq q) _ (k0_off104_eq q)
    (fun h => outH (k0_pay300 (View.readAt (Elt F) arg1.view (Rect.unit ![0, 0] S4x64.size inb_S4x64_S4x64_0_0).toLoadRect X_arg1)) (aV (arg4.view.read (Elt F) X_arg4) (arg3.view.read (Elt F) X_arg3) (arg5.view.read (Elt F) X_arg5) q (q.val + 1)) (View.readAt (Elt F) arg2.view (Rect.unit ![0, 0] S1x128.size inb_S1x128_S1x128_0_0).toLoadRect X_arg2) h) ?_ ?_ ?_ ?_ y).trans ?_
  · exact out_congr (h := 0) ((rc_base _ _ _).trans ((ld_n _ _ _ 0 rfl).trans (congrArg (fun x => nwin x 0) (accFirst c i arg1 harg1 arg2 harg2 arg3 harg3 arg4 harg4 arg5 harg5 arg6 harg6 arg7 harg7 arg8 harg8 arg9 harg9 arg10 harg10 X_arg3 X_arg4 X_arg5 q h1 h2 f_arg8)))) ((rc_base _ _ _).trans ((ld_d _ _ _ 0 rfl).trans (congrArg (fun x => dwin x 0) (accFirst c i arg1 harg1 arg2 harg2 arg3 harg3 arg4 harg4 arg5 harg5 arg6 harg6 arg7 harg7 arg8 harg8 arg9 harg9 arg10 harg10 X_arg3 X_arg4 X_arg5 q h1 h2 f_arg8)))) ((rc_base _ _ _).trans ((ld_n _ _ _ 1 rfl).trans (congrArg (fun x => nwin x 1) (accFirst c i arg1 harg1 arg2 harg2 arg3 harg3 arg4 harg4 arg5 harg5 arg6 harg6 arg7 harg7 arg8 harg8 arg9 harg9 arg10 harg10 X_arg3 X_arg4 X_arg5 q h1 h2 f_arg8)))) ((rc_base _ _ _).trans ((ld_d _ _ _ 1 rfl).trans (congrArg (fun x => dwin x 1) (accFirst c i arg1 harg1 arg2 harg2 arg3 harg3 arg4 harg4 arg5 harg5 arg6 harg6 arg7 harg7 arg8 harg8 arg9 harg9 arg10 harg10 X_arg3 X_arg4 X_arg5 q h1 h2 f_arg8))))
  · exact out_congr (h := 1) ((rc_base _ _ _).trans ((ld_n _ _ _ 2 rfl).trans (congrArg (fun x => nwin x 2) (accFirst c i arg1 harg1 arg2 harg2 arg3 harg3 arg4 harg4 arg5 harg5 arg6 harg6 arg7 harg7 arg8 harg8 arg9 harg9 arg10 harg10 X_arg3 X_arg4 X_arg5 q h1 h2 f_arg8)))) ((rc_base _ _ _).trans ((ld_d _ _ _ 2 rfl).trans (congrArg (fun x => dwin x 2) (accFirst c i arg1 harg1 arg2 harg2 arg3 harg3 arg4 harg4 arg5 harg5 arg6 harg6 arg7 harg7 arg8 harg8 arg9 harg9 arg10 harg10 X_arg3 X_arg4 X_arg5 q h1 h2 f_arg8)))) ((rc_base _ _ _).trans ((ld_n _ _ _ 3 rfl).trans (congrArg (fun x => nwin x 3) (accFirst c i arg1 harg1 arg2 harg2 arg3 harg3 arg4 harg4 arg5 harg5 arg6 harg6 arg7 harg7 arg8 harg8 arg9 harg9 arg10 harg10 X_arg3 X_arg4 X_arg5 q h1 h2 f_arg8)))) ((rc_base _ _ _).trans ((ld_d _ _ _ 3 rfl).trans (congrArg (fun x => dwin x 3) (accFirst c i arg1 harg1 arg2 harg2 arg3 harg3 arg4 harg4 arg5 harg5 arg6 harg6 arg7 harg7 arg8 harg8 arg9 harg9 arg10 harg10 X_arg3 X_arg4 X_arg5 q h1 h2 f_arg8))))
  · exact out_congr (h := 2) ((rc_base _ _ _).trans ((ld_n _ _ _ 4 rfl).trans (congrArg (fun x => nwin x 4) (accFirst c i arg1 harg1 arg2 harg2 arg3 harg3 arg4 harg4 arg5 harg5 arg6 harg6 arg7 harg7 arg8 harg8 arg9 harg9 arg10 harg10 X_arg3 X_arg4 X_arg5 q h1 h2 f_arg8)))) ((rc_base _ _ _).trans ((ld_d _ _ _ 4 rfl).trans (congrArg (fun x => dwin x 4) (accFirst c i arg1 harg1 arg2 harg2 arg3 harg3 arg4 harg4 arg5 harg5 arg6 harg6 arg7 harg7 arg8 harg8 arg9 harg9 arg10 harg10 X_arg3 X_arg4 X_arg5 q h1 h2 f_arg8)))) ((rc_base _ _ _).trans ((ld_n _ _ _ 5 rfl).trans (congrArg (fun x => nwin x 5) (accFirst c i arg1 harg1 arg2 harg2 arg3 harg3 arg4 harg4 arg5 harg5 arg6 harg6 arg7 harg7 arg8 harg8 arg9 harg9 arg10 harg10 X_arg3 X_arg4 X_arg5 q h1 h2 f_arg8)))) ((rc_base _ _ _).trans ((ld_d _ _ _ 5 rfl).trans (congrArg (fun x => dwin x 5) (accFirst c i arg1 harg1 arg2 harg2 arg3 harg3 arg4 harg4 arg5 harg5 arg6 harg6 arg7 harg7 arg8 harg8 arg9 harg9 arg10 harg10 X_arg3 X_arg4 X_arg5 q h1 h2 f_arg8))))
  · exact out_congr (h := 3) ((rc_base _ _ _).trans ((ld_n _ _ _ 6 rfl).trans (congrArg (fun x => nwin x 6) (accFirst c i arg1 harg1 arg2 harg2 arg3 harg3 arg4 harg4 arg5 harg5 arg6 harg6 arg7 harg7 arg8 harg8 arg9 harg9 arg10 harg10 X_arg3 X_arg4 X_arg5 q h1 h2 f_arg8)))) ((rc_base _ _ _).trans ((ld_d _ _ _ 6 rfl).trans (congrArg (fun x => dwin x 6) (accFirst c i arg1 harg1 arg2 harg2 arg3 harg3 arg4 harg4 arg5 harg5 arg6 harg6 arg7 harg7 arg8 harg8 arg9 harg9 arg10 harg10 X_arg3 X_arg4 X_arg5 q h1 h2 f_arg8)))) ((rc_base _ _ _).trans ((ld_n _ _ _ 7 rfl).trans (congrArg (fun x => nwin x 7) (accFirst c i arg1 harg1 arg2 harg2 arg3 harg3 arg4 harg4 arg5 harg5 arg6 harg6 arg7 harg7 arg8 harg8 arg9 harg9 arg10 harg10 X_arg3 X_arg4 X_arg5 q h1 h2 f_arg8)))) ((rc_base _ _ _).trans ((ld_d _ _ _ 7 rfl).trans (congrArg (fun x => dwin x 7) (accFirst c i arg1 harg1 arg2 harg2 arg3 harg3 arg4 harg4 arg5 harg5 arg6 harg6 arg7 harg7 arg8 harg8 arg9 harg9 arg10 harg10 X_arg3 X_arg4 X_arg5 q h1 h2 f_arg8))))
  · by_cases hq : (y 0).val / 256 = q.val
    · rw [if_pos hq, if_pos hq]
      have hoq : oq y = q := Fin.ext hq
      unfold OUT; rw [hoq]
    · rw [if_neg hq, if_neg hq]

end

end Cert.KernelIdeal.Att
-- ==== Proof.Run.lean ====
module

public import proofs.«01_k».proof.Proof.Tile

@[expose] public section

set_option maxRecDepth 16384
set_option maxHeartbeats 1000000

noncomputable section

namespace Cert.KernelIdeal.Att

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The outer loop -/

/-- The tile the scores' buffer holds the first scores of before trip `k`. -/
def tq (k : ℕ) : Fin 8 := ⟨min k 7, by omega⟩

section
variable (c : Dev nD) (i : grid0.Coords) (arg1 : Memref sig .tc .vmem S4x64 .f32) (harg1 : arg1.IsWhole) (arg2 : Memref sig .tc .vmem S1x128 .f32) (harg2 : arg2.IsWhole) (arg3 : Memref sig .tc .vmem S8x512x256 .bf16) (harg3 : arg3.IsWhole) (arg4 : Memref sig .tc .vmem S2048x1024 .bf16) (harg4 : arg4.IsWhole) (arg5 : Memref sig .tc .vmem S8x576x256 .bf16) (harg5 : arg5.IsWhole) (arg6 : Memref sig .tc .vmem S2048x512 .bf16) (harg6 : arg6.IsWhole) (arg7 : Memref sig .tc .vmem S8x256x256 .bf16) (harg7 : arg7.IsWhole) (arg8 : Memref sig .tc .vmem S8x256x256 .bf16) (harg8 : arg8.IsWhole) (arg9 : Memref sig .tc .vmem S8x8x256 .f32) (harg9 : arg9.IsWhole) (arg10 : Memref sig .tc .vmem S1152x256 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty)

/-- Before trip `k`: the output's rows of the tiles before `k` are done, and past the first trip the next tile's first
scores are in their buffer. -/
def inv (k : ℕ) : sProp 𝕄 :=
  iprop(∃ f_arg6 f_arg7 f_arg8 f_arg9 f_arg10, Trip (F := F) c arg1 arg2 arg3 arg4 arg5 arg6 arg7 arg8 arg9 arg10 X_arg1 X_arg2 X_arg3 X_arg4 X_arg5 f_arg6 f_arg7 f_arg8 f_arg9 f_arg10 ∗ ⌜(0 < k → arg7.view.read (Elt F) f_arg7 = scores (arg4.view.read (Elt F) X_arg4) (arg3.view.read (Elt F) X_arg3) (tq k) 0)
    ∧ ∀ y : S2048x512.Idx, (y 0).val < 256 * k → arg6.view.read (Elt F) f_arg6 y = OUT (arg4.view.read (Elt F) X_arg4) (arg3.view.read (Elt F) X_arg3) (arg5.view.read (Elt F) X_arg5) (k0_pay300 (View.readAt (Elt F) arg1.view (Rect.unit ![0, 0] S4x64.size inb_S4x64_S4x64_0_0).toLoadRect X_arg1)) (View.readAt (Elt F) arg2.view (Rect.unit ![0, 0] S1x128.size inb_S1x128_S1x128_0_0).toLoadRect X_arg2) y⌝)

theorem inv_step (k : Fin k0_t1_loop.trips) :
    inv (F := F) c arg1 arg2 arg3 arg4 arg5 arg6 arg7 arg8 arg9 arg10 X_arg1 X_arg2 X_arg3 X_arg4 X_arg5 k.val
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 k ())
          (fun _ => inv (F := F) c arg1 arg2 arg3 arg4 arg5 arg6 arg7 arg8 arg9 arg10 X_arg1 X_arg2 X_arg3 X_arg4 X_arg5 (k.val + 1)) := by
  have hk : k.val < 8 := k.isLt
  unfold inv
  istart
  iintro ⟨%f_arg6, %f_arg7, %f_arg8, %f_arg9, %f_arg10, HT, %hf⟩
  obtain ⟨h7, h6⟩ := hf
  have fin : ∀ f : BufTy.Contents (Elt F) arg6.view.ty, (∀ y : S2048x512.Idx, arg6.view.read (Elt F) f y
      = if (y 0).val / 256 = k.val then OUT (arg4.view.read (Elt F) X_arg4) (arg3.view.read (Elt F) X_arg3) (arg5.view.read (Elt F) X_arg5) (k0_pay300 (View.readAt (Elt F) arg1.view (Rect.unit ![0, 0] S4x64.size inb_S4x64_S4x64_0_0).toLoadRect X_arg1)) (View.readAt (Elt F) arg2.view (Rect.unit ![0, 0] S1x128.size inb_S1x128_S1x128_0_0).toLoadRect X_arg2) y else arg6.view.read (Elt F) f_arg6 y) →
      ∀ y : S2048x512.Idx, (y 0).val < 256 * (k.val + 1) → arg6.view.read (Elt F) f y = OUT (arg4.view.read (Elt F) X_arg4) (arg3.view.read (Elt F) X_arg3) (arg5.view.read (Elt F) X_arg5) (k0_pay300 (View.readAt (Elt F) arg1.view (Rect.unit ![0, 0] S4x64.size inb_S4x64_S4x64_0_0).toLoadRect X_arg1)) (View.readAt (Elt F) arg2.view (Rect.unit ![0, 0] S1x128.size inb_S1x128_S1x128_0_0).toLoadRect X_arg2) y := by
    intro f hf y hy
    rw [hf y]
    by_cases hq : (y 0).val / 256 = k.val
    · rw [if_pos hq]
    · rw [if_neg hq]; exact h6 y (by omega)
  have go : ∀ (L : BufTy.Contents (Elt F) arg6.view.ty) (g7 : BufTy.Contents (Elt F) arg7.view.ty) (g8 : BufTy.Contents (Elt F) arg8.view.ty) (g9 : BufTy.Contents (Elt F) arg9.view.ty) (g10 : BufTy.Contents (Elt F) arg10.view.ty),
      arg7.view.read (Elt F) g7 = scores (arg4.view.read (Elt F) X_arg4) (arg3.view.read (Elt F) X_arg3) (nxt k) 0 →
      (∀ y : S2048x512.Idx, arg6.view.read (Elt F) L y = if (y 0).val / 256 = k.val then OUT (arg4.view.read (Elt F) X_arg4) (arg3.view.read (Elt F) X_arg3) (arg5.view.read (Elt F) X_arg5) (k0_pay300 (View.readAt (Elt F) arg1.view (Rect.unit ![0, 0] S4x64.size inb_S4x64_S4x64_0_0).toLoadRect X_arg1)) (View.readAt (Elt F) arg2.view (Rect.unit ![0, 0] S1x128.size inb_S1x128_S1x128_0_0).toLoadRect X_arg2) y else arg6.view.read (Elt F) f_arg6 y) →
      Trip (F := F) c arg1 arg2 arg3 arg4 arg5 arg6 arg7 arg8 arg9 arg10 X_arg1 X_arg2 X_arg3 X_arg4 X_arg5 L g7 g8 g9 g10 ⊢ inv (F := F) c arg1 arg2 arg3 arg4 arg5 arg6 arg7 arg8 arg9 arg10 X_arg1 X_arg2 X_arg3 X_arg4 X_arg5 (k.val + 1) := by
    intro L g7 g8 g9 g10 e7 e6
    unfold inv
    iintro HT
    iexists L, g7, g8, g9, g10
    isplitl [HT]; · iexact HT
    ipureintro
    exact ⟨fun _ => e7, fin L e6⟩
  by_cases h1 : k0_cond1 k = 1#1
  · have h2 := cond12 k h1
    have hr := ((tripFirst (F := F) c i arg1 harg1 arg2 harg2 arg3 harg3 arg4 harg4 arg5 harg5 arg6 harg6 arg7 harg7 arg8 harg8 arg9 harg9 arg10 harg10 X_arg1 X_arg2 X_arg3 X_arg4 X_arg5 k h1 h2).2.2.2.2.2 f_arg6 f_arg7 f_arg8 f_arg9 f_arg10).trans (wp_mono _ _ _ fun _ => go _ _ _ _ _ (scoresFirst c i arg1 harg1 arg2 harg2 arg3 harg3 arg4 harg4 arg5 harg5 arg6 harg6 arg7 harg7 arg8 harg8 arg9 harg9 arg10 harg10 X_arg1 X_arg2 X_arg3 X_arg4 X_arg5 k h1 h2 f_arg6 f_arg7 f_arg8 f_arg9 f_arg10) (outFirst c i arg1 harg1 arg2 harg2 arg3 harg3 arg4 harg4 arg5 harg5 arg6 harg6 arg7 harg7 arg8 harg8 arg9 harg9 arg10 harg10 X_arg1 X_arg2 X_arg3 X_arg4 X_arg5 k h1 h2 f_arg6 f_arg7 f_arg8 f_arg9 f_arg10))
    iapply hr; iexact HT
  · have e7 : arg7.view.read (Elt F) f_arg7 = scores (arg4.view.read (Elt F) X_arg4) (arg3.view.read (Elt F) X_arg3) k 0 := (h7 (cond1_pos k h1)).trans
      (congrArg (fun q => scores (arg4.view.read (Elt F) X_arg4) (arg3.view.read (Elt F) X_arg3) q 0) (Fin.ext (by show min k.val 7 = k.val; omega)))
    by_cases h2 : k0_cond2 k = 1#1
    · have hr := ((tripEven (F := F) c i arg1 harg1 arg2 harg2 arg3 harg3 arg4 harg4 arg5 harg5 arg6 harg6 arg7 harg7 arg8 harg8 arg9 harg9 arg10 harg10 X_arg1 X_arg2 X_arg3 X_arg4 X_arg5 k h1 h2).2.2.2.2.2 f_arg6 f_arg7 f_arg8 f_arg9 f_arg10).trans (wp_mono _ _ _ fun _ => go _ _ _ _ _ (scoresEven c i arg1 harg1 arg2 harg2 arg3 harg3 arg4 harg4 arg5 harg5 arg6 harg6 arg7 harg7 arg8 harg8 arg9 harg9 arg10 harg10 X_arg1 X_arg2 X_arg3 X_arg4 X_arg5 k h1 h2 f_arg6 f_arg7 f_arg8 f_arg9 f_arg10) (outEven c i arg1 harg1 arg2 harg2 arg3 harg3 arg4 harg4 arg5 harg5 arg6 harg6 arg7 harg7 arg8 harg8 arg9 harg9 arg10 harg10 X_arg1 X_arg2 X_arg3 X_arg4 X_arg5 k h1 h2 f_arg6 f_arg7 f_arg8 f_arg9 f_arg10 e7))
      iapply hr; iexact HT
    · have hr := ((tripOdd (F := F) c i arg1 harg1 arg2 harg2 arg3 harg3 arg4 harg4 arg5 harg5 arg6 harg6 arg7 harg7 arg8 harg8 arg9 harg9 arg10 harg10 X_arg1 X_arg2 X_arg3 X_arg4 X_arg5 k h1 h2).2.2.2.2.2 f_arg6 f_arg7 f_arg8 f_arg9 f_arg10).trans (wp_mono _ _ _ fun _ => go _ _ _ _ _ (scoresOdd c i arg1 harg1 arg2 harg2 arg3 harg3 arg4 harg4 arg5 harg5 arg6 harg6 arg7 harg7 arg8 harg8 arg9 harg9 arg10 harg10 X_arg1 X_arg2 X_arg3 X_arg4 X_arg5 k h1 h2 f_arg6 f_arg7 f_arg8 f_arg9 f_arg10) (outOdd c i arg1 harg1 arg2 harg2 arg3 harg3 arg4 harg4 arg5 harg5 arg6 harg6 arg7 harg7 arg8 harg8 arg9 harg9 arg10 harg10 X_arg1 X_arg2 X_arg3 X_arg4 X_arg5 k h1 h2 f_arg6 f_arg7 f_arg8 f_arg9 f_arg10 e7))
      iapply hr; iexact HT
end

/-! ## The body's triple -/

/-- The output's block after the body, from the input windows' blocks. -/
def out0_5 (x0 : Vec F S4x64 .f32) (x1 : Vec F S1x128 .f32) (x2 : Vec F S8x512x256 .bf16) (x3 : Vec F S2048x1024 .bf16) (x4 : Vec F S8x576x256 .bf16) : Vec F S2048x512 .bf16 :=
  OUT x3 x2 x4 (k0_pay300 (View.ld x0 (Rect.unit (s := S4x64) ![0, 0] S4x64.size inb_S4x64_S4x64_0_0))) (View.ld x1 (Rect.unit (s := S1x128) ![0, 0] S1x128.size inb_S1x128_S1x128_0_0))

theorem sound_kernel (c : Dev nD) (i : grid0.Coords) (arg1 : Memref sig .tc .vmem S4x64 .f32) (harg1 : arg1.IsWhole) (arg2 : Memref sig .tc .vmem S1x128 .f32) (harg2 : arg2.IsWhole) (arg3 : Memref sig .tc .vmem S8x512x256 .bf16) (harg3 : arg3.IsWhole) (arg4 : Memref sig .tc .vmem S2048x1024 .bf16) (harg4 : arg4.IsWhole) (arg5 : Memref sig .tc .vmem S8x576x256 .bf16) (harg5 : arg5.IsWhole) (arg6 : Memref sig .tc .vmem S2048x512 .bf16) (harg6 : arg6.IsWhole) (arg7 : Memref sig .tc .vmem S8x256x256 .bf16) (harg7 : arg7.IsWhole) (arg8 : Memref sig .tc .vmem S8x256x256 .bf16) (harg8 : arg8.IsWhole) (arg9 : Memref sig .tc .vmem S8x8x256 .f32) (harg9 : arg9.IsWhole) (arg10 : Memref sig .tc .vmem S1152x256 .f32) (harg10 : arg10.IsWhole) (x0 : Vec F S4x64 .f32) (x1 : Vec F S1x128 .f32) (x2 : Vec F S8x512x256 .bf16) (x3 : Vec F S2048x1024 .bf16) (x4 : Vec F S8x576x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) Set.univ (cc0_diff_attn i arg1 harg1 arg2 harg2 arg3 harg3 arg4 harg4 arg5 harg5 arg6 harg6 arg7 harg7 arg8 harg8 arg9 harg9 arg10 harg10) K := by
  simp only [cc0_diff_attn_eq_skeleton]; unfold cc0_diff_attn_skel
  unfold owns
  iintro ⟨⟨%X_arg1, %hf0, H1⟩, ⟨%X_arg2, %hf1, H2⟩, ⟨%X_arg3, %hf2, H3⟩, ⟨%X_arg4, %hf3, H4⟩, ⟨%X_arg5, %hf4, H5⟩, ⟨%d6, %f_arg6, -, H6⟩, ⟨%d7, %f_arg7, -, H7⟩, ⟨%d8, %f_arg8, -, H8⟩, ⟨%d9, %f_arg9, -, H9⟩, ⟨%d10, %f_arg10, -, H10⟩, Hk⟩
  subst hf0 hf1 hf2 hf3 hf4
  have hl := Scf.wp_for_bind (Fr := frame) (wpE := wpE (defs₀ (F := F)) Variants.none (c : Thread nD τ) none) (Es := Set.univ) k0_t1_loop.lb k0_t1_loop.ub k0_t1_loop.st k0_t1_ok ()
    (k0_t1_body (F := F) i arg1 harg1 arg2 harg2 arg3 harg3 arg4 harg4 arg5 harg5 arg6 harg6 arg7 harg7 arg8 harg8 arg9 harg9 arg10 harg10) (fun k _ => inv (F := F) c arg1 arg2 arg3 arg4 arg5 arg6 arg7 arg8 arg9 arg10 X_arg1 X_arg2 X_arg3 X_arg4 X_arg5 k) (fun k _ => inv_step c i arg1 harg1 arg2 harg2 arg3 harg3 arg4 harg4 arg5 harg5 arg6 harg6 arg7 harg7 arg8 harg8 arg9 harg9 arg10 harg10 X_arg1 X_arg2 X_arg3 X_arg4 X_arg5 k) (kk := fun _ => pure ⟨⟩) (Q := K)
  iapply hl $$ [H1 H2 H3 H4 H5 H6 H7 H8 H9 H10]
  · unfold inv
    iexists f_arg6, f_arg7, f_arg8, f_arg9, f_arg10
    isplitl
    · unfold Trip
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · ipureintro
      exact ⟨fun h => absurd h (by omega), fun y hy => absurd hy (by omega)⟩
  iintro %acc HI
  unfold inv
  icases HI with ⟨%g6, %g7, %g8, %g9, %g10, HT, %hg⟩
  unfold Trip
  icases HT with ⟨H1, H2, H3, H4, H5, H6, H7, H8, H9, H10⟩
  sl_step
  iapply Hk
  isplitl [H1]; · iexists X_arg1; isplitr; · ipureintro; rfl
                  iexact H1
  isplitl [H2]; · iexists X_arg2; isplitr; · ipureintro; rfl
                  iexact H2
  isplitl [H3]; · iexists X_arg3; isplitr; · ipureintro; rfl
                  iexact H3
  isplitl [H4]; · iexists X_arg4; isplitr; · ipureintro; rfl
                  iexact H4
  isplitl [H5]; · iexists X_arg5; isplitr; · ipureintro; rfl
                  iexact H5
  isplitl [H6]
  · iexists g6; isplitr
    · ipureintro
      funext y
      have hy : (y 0).val < 2048 := (y 0).isLt
      exact hg.2 y (by rw [show Scf.trips k0_t1_loop.lb k0_t1_loop.ub k0_t1_loop.st = 8 from trips_t1]; omega)
    · iexact H6
  isplitl [H7]; · iexists _, g7; isplitr; · ipureintro; rfl
                  iexact H7
  isplitl [H8]; · iexists _, g8; isplitr; · ipureintro; rfl
                  iexact H8
  isplitl [H9]; · iexists _, g9; isplitr; · ipureintro; rfl
                  iexact H9
  iexists _, g10; isplitr; · ipureintro; rfl
  iexact H10

end Cert.KernelIdeal.Att
-- ==== Proof.Fr.lean ====
module

public import proofs.«01_k».proof.Proof.Run
public import Idealize.ShloMosaic.Lib.Pipeline.FrameBody
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline's data: each input's buffer at its block, the output's at the body's function of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem left5 (c : Dev nD) (t : Fin cfg0.N) : (dats m 0 c).after 5 t = out0_5 (iblk m c 0 t) (iblk m c 1 t) (iblk m c 2 t) (iblk m c 3 t) (iblk m c 4 t) := by dsimp only [dats]
theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem found0 (c : Dev nD) (t : Fin cfg0.N) (d) : (dats m 0 c).before 0 t d = iblk m c 0 t :=
  before0_0_of m (dats m 0 c) (A_eq m c 0) (left0 m c) t d
theorem found1 (c : Dev nD) (t : Fin cfg0.N) (d) : (dats m 0 c).before 1 t d = iblk m c 1 t :=
  before0_1_of m (dats m 0 c) (A_eq m c 1) (left1 m c) t d
theorem found2 (c : Dev nD) (t : Fin cfg0.N) (d) : (dats m 0 c).before 2 t d = iblk m c 2 t :=
  before0_2_of m (dats m 0 c) (A_eq m c 2) (left2 m c) t d
theorem found3 (c : Dev nD) (t : Fin cfg0.N) (d) : (dats m 0 c).before 3 t d = iblk m c 3 t :=
  before0_3_of m (dats m 0 c) (A_eq m c 3) (left3 m c) t d
theorem found4 (c : Dev nD) (t : Fin cfg0.N) (d) : (dats m 0 c).before 4 t d = iblk m c 4 t :=
  before0_4_of m (dats m 0 c) (A_eq m c 4) (left4 m c) t d

/-- What the body holds at point `t` before it, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))

/-- and after it. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

/-- The scratch buffers and the generator's register, as the body takes them. -/
theorem rest_eq (c : Dev nD) : (Pipeline.ΦA spec0 c : sProp 𝕄) = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)) ∗ ∃ r, prngReg c r) := by
  unfold Pipeline.ΦA
  rw [scopedRest0_eq]
  simp only [owns_whole]

theorem sound_body (c : Dev nD) (t : Fin cfg0.N) :
    pre m c t ⊢ wp frame (wpE (defs₀ (F := F)) Variants.none c none) Set.univ (bodyAt0 t) (fun _ => post m c t) := by
  unfold pre post bodyAt0
  simp only [found0, found1, found2, found3, found4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    left0, left1, left2, left3, left4, left5, rest_eq]
  iintro ⟨⟨⟨S0, S1, S2, S3⟩, HP⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 HP]
  · isplitl [S0 S1 S2 S3]
    · isplitl [S0]; · iexact S0
      isplitl [S1]; · iexact S1
      isplitl [S2]; · iexact S2
      iexact S3
    · iexact HP
  isplitl [Ho]; · iexact Ho
  isplitl [H0]; · iexact H0
  isplitl [H1]; · iexact H1
  isplitl [H2]; · iexact H2
  isplitl [H3]; · iexact H3
  isplitl [H4]; · iexact H4
  iexact H5

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch: every execution ends, each array at what the data computes, the counters at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run m ρ))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (args_kept m ρ) ((θ_run defs _ _).mono (fun _ h => h.2) (run m ρ))

/-- The run at the output's array. -/
theorem run_out : θ_run defs (onTc (τ := τ) (main (F := F))) ⟨m, fun _ => 0, ρ⟩ (fun r => ∀ c : Dev nD,
      r.2.mem ((c.tc : Thread nD τ).loc main_v18) = (dats m 0 c).arrAt 5 cfg0.N
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  (θ_run defs _ _).mono (fun _ h c => ⟨(h.1 c).1 5, h.2 c⟩)
    (θ_run_and ((θ_run defs _ _).mono (fun _ h => h.1) (run m ρ)) (args_kept m ρ))

end Cert.KernelIdeal.Att
-- ==== Proof.Words.lean ====
module

public import proofs.«01_k».proof.Kernel
public import proofs.«01_k».proof.Proof.Gen.Kernel
public import proofs.«01_k».proof.Proof.Fr

@[expose] public section

set_option maxRecDepth 100000
set_option maxHeartbeats 4000000

noncomputable section

/-! The attention's program with its constants read from their words is the program whose constants are named,
    at the reading of a name that is its word: so its frame is the other's. -/

namespace Cert.Words

open Idealize.ShloMosaic Idealize.ShloMosaic.TcCoe
open Idealize.SL Idealize.SL.Sem

/-- A named constant read as its word. -/
@[reducible] def words (F : FTy → Type) [FloatOps F] : Named F := ⟨fun _ _ {φ} bits => Scalar.ofBits φ bits⟩

variable {F : FTy → Type} [FloatOps F]

theorem body_eq : Cert.Kernel.cc0_diff_attn (F := F) = (letI := words F; Cert.KernelIdeal.cc0_diff_attn (F := F)) := rfl

theorem table_eq : Cert.Kernel.defs₀ (F := F) = (letI := words F; Cert.KernelIdeal.defs₀ (F := F)) := by
  funext p l a
  cases p with
  | tc => match l, a with | 0, (t, s) => rfl
  | scScalar _ => rfl
  | scVector _ _ => rfl

theorem defs_eq : Cert.Kernel.defs (F := F) = (letI := words F; Cert.KernelIdeal.defs (F := F)) :=
  congrArg (Pipeline.defs (Cert.Kernel.pcfgs (F := F))) table_eq

theorem main_eq : Cert.Kernel.main (F := F) = (letI := words F; Cert.KernelIdeal.main (F := F)) := rfl

/-- A run of the one is a run of the other. -/
theorem run_of {D D' : Defs Cert.Kernel.nD Cert.Kernel.τ Cert.Kernel.sig (Elt F) (Pipeline.Sig Cert.Kernel.Λ₀ (Fin 1) fun p => (Cert.Kernel.pcfgs (F := F) p).Adm)} (hD : D = D')
    {M M' : Dev Cert.Kernel.nD → Prog (TpuEff Cert.Kernel.nD Cert.Kernel.τ Cert.Kernel.sig (Elt F) (Pipeline.Sig Cert.Kernel.Λ₀ (Fin 1) fun p => (Cert.Kernel.pcfgs (F := F) p).Adm) .tc) PUnit} (hM : M = M') {s Q}
    (h : θ_run D' (onTc (τ := Cert.Kernel.τ) M') s Q) : θ_run D (onTc (τ := Cert.Kernel.τ) M) s Q := by
  subst hD hM; exact h

theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) :=
  run_of defs_eq main_eq (letI := words F; Cert.KernelIdeal.Att.frame (F := F) m ρ)

end Cert.Words

end
-- ==== Proof.Soft.lean ====
module

public import Idealize.ShloMosaic.PureOps.Ideal
public import Idealize.ShloMosaic.Lib.IdealHost

@[expose] public section

noncomputable section

namespace Cert.Soft

open Idealize.ShloMosaic

/-! ## The running softmax over the extended reals

A logit is any extended real, `⊥` where it is masked. A weight `2 ^ (x - m)` of a logit `x` no greater than `m` is a real
number, zero where `x` or `m` is not. -/

/-- The weight of a logit against a maximum. -/
def wt (x m : EReal) : ℝ := (Ideal.exp2 (x - m)).toReal

theorem exp2_sub (x m : EReal) (h : x ≤ m) : Ideal.exp2 (x - m) = (wt x m : EReal) := by
  unfold wt
  induction x using EReal.rec with
  | bot => rw [EReal.bot_sub]; rfl
  | top =>
    rw [top_le_iff.1 h, EReal.sub_top]; rfl
  | coe x =>
    induction m using EReal.rec with
    | bot => exact absurd h (by simp)
    | top => rw [EReal.sub_top]; rfl
    | coe m => rw [← EReal.coe_sub]; rfl

theorem wt_bot (m : EReal) : wt ⊥ m = 0 := by unfold wt; rw [EReal.bot_sub]; rfl
theorem wt_to_top (x : EReal) : wt x ⊤ = 0 := by
  unfold wt; rw [EReal.sub_top]; rfl

theorem wt_coe (x m : ℝ) : wt x m = (2 : ℝ) ^ (x - m) := by
  unfold wt; rw [← EReal.coe_sub]; rfl

theorem wt_nonneg (x m : EReal) : 0 ≤ wt x m := by
  unfold wt
  refine EReal.toReal_nonneg ?_
  generalize x - m = z
  induction z using EReal.rec with
  | bot => exact le_refl _
  | top => exact le_top
  | coe r => exact EReal.coe_nonneg.2 (Real.rpow_nonneg (by norm_num) r)

theorem wt_mul (x m m' : EReal) (h : x ≤ m) (h' : m ≤ m') : wt x m * wt m m' = wt x m' := by
  induction x using EReal.rec with
  | bot => rw [wt_bot, wt_bot, zero_mul]
  | top =>
    rw [top_le_iff.1 h] at h' ⊢
    rw [top_le_iff.1 h', wt_to_top, zero_mul]
  | coe x =>
    induction m' using EReal.rec with
    | bot => exact absurd (h.trans h') (by simp)
    | top => rw [wt_to_top, wt_to_top, mul_zero]
    | coe m' =>
      induction m using EReal.rec with
      | bot => exact absurd h (by simp)
      | top => exact absurd h' (by simp)
      | coe m =>
        rw [wt_coe, wt_coe, wt_coe, ← Real.rpow_add (by norm_num)]
        congr 1; ring

/-- The natural exponential's weight is the binary one of the logits over `log 2`. -/
theorem exp_sub (x m : EReal) (h : x ≤ m) :
    Ideal.exp (x - m) = (wt (((Real.log 2)⁻¹ : ℝ) * x) (((Real.log 2)⁻¹ : ℝ) * m) : EReal) := by
  have hk : 0 < (Real.log 2)⁻¹ := inv_pos.2 (Real.log_pos (by norm_num))
  induction x using EReal.rec with
  | bot => rw [EReal.bot_sub, EReal.coe_mul_bot_of_pos hk, wt_bot]; rfl
  | top => rw [top_le_iff.1 h, EReal.sub_top, EReal.coe_mul_top_of_pos hk, wt_to_top]; rfl
  | coe x =>
    induction m using EReal.rec with
    | bot => exact absurd h (by simp)
    | top => rw [EReal.sub_top, EReal.coe_mul_top_of_pos hk, wt_to_top]; rfl
    | coe m =>
      rw [← EReal.coe_sub, ← EReal.coe_mul, ← EReal.coe_mul, wt_coe, ← mul_sub]
      show ((Real.exp (x - m) : ℝ) : EReal) = _
      rw [Real.rpow_def_of_pos (by norm_num), ← mul_assoc, mul_inv_cancel₀ (Real.log_pos (by norm_num)).ne', one_mul]

/-- The maximum of the logits before `n`. -/
def top (l : ℕ → EReal) (n : ℕ) : EReal := (Finset.range n).sup l

theorem le_top' (l : ℕ → EReal) (n s : ℕ) (h : s < n) : l s ≤ top l n := Finset.le_sup (f := l) (Finset.mem_range.2 h)

theorem top_mono (l : ℕ → EReal) (a b : ℕ) (h : a ≤ b) : top l a ≤ top l b :=
  Finset.sup_mono (Finset.range_mono h)

/-- The weighted sum of the values before `n` against a maximum. -/
def acc (l : ℕ → EReal) (v : ℕ → ℝ) (n : ℕ) (m : EReal) : ℝ := ∑ s ∈ Finset.range n, wt (l s) m * v s

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem top_add (l : ℕ → EReal) (n k : ℕ) :
    top l (n + k) = max (top l n) (Finset.univ.fold max ⊥ fun i : Fin k => l (n + i.val)) := by
  have e : (Finset.univ.fold max ⊥ fun i : Fin k => l (n + i.val)) = Finset.univ.sup fun i : Fin k => l (n + i.val) := rfl
  rw [e]
  apply le_antisymm
  · refine Finset.sup_le fun s hs => ?_
    by_cases h : s < n
    · exact le_max_of_le_left (le_top' l n s h)
    · have hs' := Finset.mem_range.1 hs
      refine le_max_of_le_right ?_
      have := Finset.le_sup (f := fun i : Fin k => l (n + i.val)) (Finset.mem_univ (⟨s - n, by omega⟩ : Fin k))
      simpa [show n + (s - n) = s by omega] using this
  · refine max_le (top_mono l n (n + k) (by omega)) (Finset.sup_le fun i _ => le_top' l (n + k) _ (by have := i.isLt; omega))

/-- One chunk's step of the accumulator. -/
theorem step (l : ℕ → EReal) (v : ℕ → ℝ) (n k : ℕ) :
    (acc l v n (top l n) : EReal) * Ideal.exp2 (top l n - top l (n + k))
        + ∑ i : Fin k, (v (n + i.val) : EReal) * Ideal.exp2 (l (n + i.val) - top l (n + k))
      = (acc l v (n + k) (top l (n + k)) : EReal) := by
  rw [exp2_sub _ _ (top_mono l n (n + k) (by omega)), ← EReal.coe_mul]
  have e : ∀ i : Fin k, (v (n + i.val) : EReal) * Ideal.exp2 (l (n + i.val) - top l (n + k))
      = ((wt (l (n + i.val)) (top l (n + k)) * v (n + i.val) : ℝ) : EReal) := fun i => by
    rw [exp2_sub _ _ (le_top' l (n + k) _ (by have := i.isLt; omega)), ← EReal.coe_mul, mul_comm]
  rw [Finset.sum_congr rfl fun i _ => e i, ← coe_sum, ← EReal.coe_add]
  congr 1
  unfold acc
  rw [Finset.sum_range_add, Finset.sum_mul, ← Fin.sum_univ_eq_sum_range (fun x => wt (l (n + x)) (top l (n + k)) * v (n + x)) k]
  congr 1
  refine Finset.sum_congr rfl fun s hs => ?_
  rw [mul_right_comm, wt_mul _ _ _ (le_top' l n s (Finset.mem_range.1 hs)) (top_mono l n (n + k) (by omega))]

/-- Masked logits add nothing. -/
theorem top_masked (l : ℕ → EReal) (n k : ℕ) (h : ∀ s, n ≤ s → l s = ⊥) (hk : n ≤ k) : top l k = top l n := by
  refine le_antisymm (Finset.sup_le fun s _ => ?_) (top_mono l n k hk)
  by_cases hs : s < n
  · exact le_top' l n s hs
  · rw [h s (by omega)]; exact bot_le

theorem acc_masked (l : ℕ → EReal) (v : ℕ → ℝ) (n k : ℕ) (m : EReal) (h : ∀ s, n ≤ s → l s = ⊥) (hk : n ≤ k) : acc l v k m = acc l v n m := by
  unfold acc
  refine (Finset.sum_subset (Finset.range_mono hk) fun s _ hs => ?_).symm
  rw [h s (by simpa using hs), wt_bot, zero_mul]

end Cert.Soft

end
-- ==== Proof.Diff.lean ====
module

public import proofs.«01_k».proof.Proof.Soft

@[expose] public section

noncomputable section

namespace Cert.Soft

open Idealize.ShloMosaic

/-! ## The difference of two softmaxes under the norm

Where both denominators are real and not zero the two sides are the same real number. Where one is zero (logits that
reach an infinity) a row is infinite on one side, and infinite or zero on the other, and the norm of each is zero. -/

/-- The norm of one head's output, with its gain and the last factor. -/
def rms (y : Fin 128 → EReal) (g : EReal) (e : Fin 128) : EReal :=
  y e * Ideal.rsqrt (Ideal.div (∑ x, y x * y x) (Ideal.ofBits .f32 0x43000000#32) + Ideal.ofBits .f32 0x358637BD#32) * g
    * Ideal.ofBits .f32 0x3F4CCCCD#32

theorem mul_self_nonneg' (x : EReal) : 0 ≤ x * x := by
  induction x using EReal.rec with
  | bot => rw [EReal.bot_mul_bot]; exact le_top
  | top => rw [EReal.top_mul_top]; exact le_top
  | coe r => rw [← EReal.coe_mul]; exact EReal.coe_nonneg.2 (mul_self_nonneg r)

theorem n128 : Ideal.ofBits .f32 0x43000000#32 = ((128 : ℝ) : EReal) := by
  simp [Ideal.ofBits, Ideal.ieee, -EReal.coe_mul]
  norm_num

theorem eps_ne_bot : Ideal.ofBits .f32 0x358637BD#32 ≠ ⊥ := by
  simp [Ideal.ofBits, Ideal.ieee]
  rw [← EReal.coe_mul]
  exact EReal.coe_ne_bot _

/-- A row with an infinite element. -/
theorem rms_inf (y : Fin 128 → EReal) (g : EReal) (e x : Fin 128) (h : y x = ⊤ ∨ y x = ⊥) : rms y g e = 0 := by
  have h1 : y x * y x = ⊤ := by rcases h with h | h <;> rw [h] <;> rfl
  have h2 : ∑ x, y x * y x = ⊤ := by
    refine top_le_iff.1 ?_
    rw [← h1]
    exact Finset.single_le_sum (f := fun x => y x * y x) (fun i _ => mul_self_nonneg' (y i)) (Finset.mem_univ x)
  have h3 : Ideal.div (⊤ : EReal) ((128 : ℝ) : EReal) = ⊤ := by
    unfold Ideal.div
    rw [if_neg (by norm_num), ← EReal.coe_inv, EReal.top_mul_coe_of_pos (by norm_num)]
  unfold rms
  rw [h2, n128, h3, EReal.top_add_of_ne_bot eps_ne_bot]
  show y e * (0 : EReal) * g * _ = 0
  rw [mul_zero, zero_mul, zero_mul]

theorem rms_zero (y : Fin 128 → EReal) (g : EReal) (e : Fin 128) (h : y e = 0) : rms y g e = 0 := by
  unfold rms
  rw [h, zero_mul, zero_mul, zero_mul]

/-- A sum of real multiples of one infinity, not all of them zero. -/
theorem sum_inf {ι : Type} [Fintype ι] (v : ι → ℝ) (c : EReal) (hc : c = ⊤ ∨ c = ⊥) (i : ι) (hi : v i ≠ 0) :
    (∑ s, (v s : EReal) * c = ⊤) ∨ (∑ s, (v s : EReal) * c = ⊥) := by
  classical
  have tri : ∀ s, (v s : EReal) * c = 0 ∨ (v s : EReal) * c = ⊤ ∨ (v s : EReal) * c = ⊥ := fun s => by
    rcases lt_trichotomy (v s) 0 with h | h | h
    · rcases hc with rfl | rfl
      · exact .inr (.inr (EReal.coe_mul_top_of_neg h))
      · exact .inr (.inl (EReal.coe_mul_bot_of_neg h))
    · exact .inl (by rw [h]; simp)
    · rcases hc with rfl | rfl
      · exact .inr (.inl (EReal.coe_mul_top_of_pos h))
      · exact .inr (.inr (EReal.coe_mul_bot_of_pos h))
  have hii : (v i : EReal) * c ≠ 0 := by
    rcases lt_trichotomy (v i) 0 with h | h | h
    · rcases hc with rfl | rfl
      · rw [EReal.coe_mul_top_of_neg h]; exact EReal.bot_ne_zero
      · rw [EReal.coe_mul_bot_of_neg h]; exact EReal.top_ne_zero
    · exact absurd h hi
    · rcases hc with rfl | rfl
      · rw [EReal.coe_mul_top_of_pos h]; exact EReal.top_ne_zero
      · rw [EReal.coe_mul_bot_of_pos h]; exact EReal.bot_ne_zero
  by_cases hb : ∃ s, (v s : EReal) * c = ⊥
  · obtain ⟨s, hs⟩ := hb
    right
    rw [← Finset.add_sum_erase _ _ (Finset.mem_univ s), hs, EReal.bot_add]
  · have hb' : ∀ s, (v s : EReal) * c ≠ ⊥ := fun s hs => hb ⟨s, hs⟩
    left
    refine top_le_iff.1 ?_
    have : (v i : EReal) * c = ⊤ := by
      rcases tri i with h | h | h
      · exact absurd h hii
      · exact h
      · exact absurd h (hb' i)
    rw [← this]
    refine Finset.single_le_sum (f := fun s => (v s : EReal) * c) (fun s _ => ?_) (Finset.mem_univ i)
    rcases tri s with h | h | h
    · rw [h]
    · rw [h]; exact le_top
    · exact absurd h (hb' s)

theorem div_coe (a d : ℝ) (h : d ≠ 0) : Ideal.div (a : EReal) (d : EReal) = ((a * d⁻¹ : ℝ) : EReal) := by
  unfold Ideal.div
  rw [if_neg (by exact_mod_cast h), ← EReal.coe_inv, ← EReal.coe_mul]

theorem div_zero_zero : Ideal.div ((0 : ℝ) : EReal) ((0 : ℝ) : EReal) = ⊥ := by
  unfold Ideal.div; simp

variable (l0 l1 : ℕ → EReal) (v : ℕ → Fin 128 → ℝ) (lam : ℝ) (N : ℕ) (T0 T1 : EReal)

/-- A denominator. -/
def den (l : ℕ → EReal) (N : ℕ) (T : EReal) : ℝ := acc l (fun _ => 1) N T

theorem den_eq (l : ℕ → EReal) (N : ℕ) (T : EReal) : den l N T = ∑ s ∈ Finset.range N, wt (l s) T := by
  unfold den acc; simp

theorem wt_of_den (l : ℕ → EReal) (N : ℕ) (T : EReal) (h : den l N T = 0) (s : ℕ) (hs : s < N) : wt (l s) T = 0 := by
  rw [den_eq] at h
  exact (Finset.sum_eq_zero_iff_of_nonneg fun i _ => wt_nonneg _ _).1 h s (Finset.mem_range.2 hs)

theorem acc_of_den (l : ℕ → EReal) (w : ℕ → ℝ) (N : ℕ) (T : EReal) (h : den l N T = 0) : acc l w N T = 0 :=
  Finset.sum_eq_zero fun s hs => by rw [wt_of_den l N T h s (Finset.mem_range.1 hs), zero_mul]

/-- The kernel's row: the two quotients, then their difference. -/
def rowK (e : Fin 128) : EReal :=
  Ideal.div (acc l0 (fun s => v s e) N T0 : EReal) (den l0 N T0 : EReal)
    - (lam : EReal) * Ideal.div (acc l1 (fun s => v s e) N T1 : EReal) (den l1 N T1 : EReal)

/-- The difference of the two softmaxes at a key. -/
def dif (s : ℕ) : EReal :=
  Ideal.div (wt (l0 s) T0 : EReal) (den l0 N T0 : EReal) - (lam : EReal) * Ideal.div (wt (l1 s) T1 : EReal) (den l1 N T1 : EReal)

/-- The reference's row: the difference of the softmaxes, times the values. -/
def rowR (e : Fin 128) : EReal := ∑ s : Fin N, (v s.val e : EReal) * dif l0 l1 lam N T0 T1 s.val

theorem rms_const (c : EReal) (hc : c = ⊤ ∨ c = ⊥) (g : EReal) (e : Fin 128) (hk : rowK l0 l1 v lam N T0 T1 e = ⊤ ∨ rowK l0 l1 v lam N T0 T1 e = ⊥)
    (hr : ∀ s, s < N → dif l0 l1 lam N T0 T1 s = c) :
    rms (rowK l0 l1 v lam N T0 T1) g e = rms (rowR l0 l1 v lam N T0 T1) g e := by
  rw [rms_inf _ _ _ e hk]
  have hrow : ∀ x, rowR l0 l1 v lam N T0 T1 x = ∑ s : Fin N, (v s.val x : EReal) * c := fun x =>
    Finset.sum_congr rfl fun s _ => by rw [hr s.val s.isLt]
  by_cases h : ∃ x, ∃ s : Fin N, v s.val x ≠ 0
  · obtain ⟨x, s, hs⟩ := h
    refine (rms_inf _ _ _ x ?_).symm
    rw [hrow]
    exact sum_inf (fun s : Fin N => v s.val x) c hc s hs
  · refine (rms_zero _ _ _ ?_).symm
    rw [hrow]
    refine Finset.sum_eq_zero fun s _ => ?_
    have : v s.val e = 0 := by
      by_contra h'
      exact h ⟨e, s, h'⟩
    rw [this]; simp

theorem lam_div (a d : ℝ) (h : lam = 0 ∨ d ≠ 0) : (lam : EReal) * Ideal.div (a : EReal) (d : EReal) = ((lam * (a * d⁻¹) : ℝ) : EReal) := by
  rcases h with h | h
  · rw [h]; simp
  · rw [div_coe _ _ h, ← EReal.coe_mul]

theorem rms_eq (g : EReal) (e : Fin 128) :
    rms (rowK l0 l1 v lam N T0 T1) g e = rms (rowR l0 l1 v lam N T0 T1) g e := by
  by_cases h0 : den l0 N T0 = 0
  · refine rms_const l0 l1 v lam N T0 T1 ⊥ (.inr rfl) g e (.inr ?_) fun s hs => ?_
    · unfold rowK
      rw [acc_of_den l0 _ N T0 h0, h0, div_zero_zero, EReal.bot_sub]
    · unfold dif
      rw [wt_of_den l0 N T0 h0 s hs, h0, div_zero_zero, EReal.bot_sub]
  · by_cases h1 : lam = 0 ∨ den l1 N T1 ≠ 0
    · have e1 : rowK l0 l1 v lam N T0 T1 = rowR l0 l1 v lam N T0 T1 := by
        funext x
        unfold rowK rowR dif
        rw [lam_div lam _ _ h1, div_coe _ _ h0, ← EReal.coe_sub]
        have e2 : ∀ s : Fin N, (v s.val x : EReal) * (Ideal.div (wt (l0 s.val) T0 : EReal) (den l0 N T0 : EReal)
            - (lam : EReal) * Ideal.div (wt (l1 s.val) T1 : EReal) (den l1 N T1 : EReal))
            = ((v s.val x * (wt (l0 s.val) T0 * (den l0 N T0)⁻¹ - lam * (wt (l1 s.val) T1 * (den l1 N T1)⁻¹)) : ℝ) : EReal) := fun s => by
          rw [lam_div lam _ _ h1, div_coe _ _ h0, ← EReal.coe_sub, ← EReal.coe_mul]
        rw [Finset.sum_congr rfl fun s _ => e2 s, ← coe_sum]
        congr 1
        rw [Fin.sum_univ_eq_sum_range (fun s => v s x * (wt (l0 s) T0 * (den l0 N T0)⁻¹ - lam * (wt (l1 s) T1 * (den l1 N T1)⁻¹))) N]
        unfold acc
        rw [Finset.sum_mul, Finset.sum_mul, Finset.mul_sum, ← Finset.sum_sub_distrib]
        exact Finset.sum_congr rfl fun s _ => by ring
      rw [e1]
    · have hl : lam ≠ 0 := fun h => h1 (.inl h)
      have hd : den l1 N T1 = 0 := by
        by_contra h
        exact h1 (.inr h)
      have key : ∀ r : ℝ, (r : EReal) - (lam : EReal) * ⊥ = if 0 < lam then ⊤ else ⊥ := fun r => by
        by_cases hp : 0 < lam
        · rw [if_pos hp, EReal.coe_mul_bot_of_pos hp, EReal.coe_sub_bot]
        · rw [if_neg hp, EReal.coe_mul_bot_of_neg (lt_of_le_of_ne (not_lt.1 hp) hl), EReal.sub_top]
      have hc : (if 0 < lam then (⊤ : EReal) else ⊥) = ⊤ ∨ (if 0 < lam then (⊤ : EReal) else ⊥) = ⊥ := by
        by_cases hp : 0 < lam
        · exact .inl (if_pos hp)
        · exact .inr (if_neg hp)
      refine rms_const l0 l1 v lam N T0 T1 _ hc g e ?_ fun s hs => ?_
      · have : rowK l0 l1 v lam N T0 T1 e = if 0 < lam then (⊤ : EReal) else ⊥ := by
          unfold rowK
          rw [acc_of_den l1 _ N T1 hd, hd, div_zero_zero, div_coe _ _ h0, key]
        rw [this]; exact hc
      · unfold dif
        rw [wt_of_den l1 N T1 hd s hs, hd, div_zero_zero, div_coe _ _ h0, key]

end Cert.Soft

end
-- ==== Proof.Pay.lean ====
module

public import proofs.«01_k».proof.Proof.T1
public import proofs.«01_k».proof.Proof.Diff
public import Idealize.ShloMosaic.Lib.IdealHost
public import Idealize.ShloMosaic.Lib.WordCmp

@[expose] public section

set_option maxRecDepth 16384

noncomputable section

namespace Cert.KernelIdeal.Att

open Cert.KernelIdeal Cert.KernelIdeal.Gen
open Idealize.ShloMosaic Idealize.ShloMosaic.TcCoe
open Cert.Soft

/-! ## The kernel's arithmetic at an index, over the extended reals -/

theorem named_mask : (Named.named κ "mask" (0xF1800000#32 : BitVec FTy.f32.bits) : Ideal .f32) = (⊥ : EReal) :=
  IdealRules.named_const.ideal_named_scalar _ _ _ _ rfl

theorem ofBits_bot : Ideal.ofBits .bf16 0xFF80#16 = ⊥ := by simp [Ideal.ofBits, Ideal.ieee]

theorem pay302 (y : S8x8x256.Idx) : (k0_pay302 (F := Ideal)) y = (⊥ : EReal) := by
  pointwise [k0_pay302]
  exact named_mask

theorem pay303 (y : S1152x256.Idx) : (k0_pay303 (F := Ideal)) y = (0 : EReal) := by
  pointwise [k0_pay303]

theorem pay9 (k : Vec Ideal S256x64 .bf16) (q : Vec Ideal S1x64x256 .bf16) (i j : Fin 256) :
    k0_pay9 k q (ix3 (0 : Fin 1) i j) = ∑ d : Fin 64, k (ix2 i d) * q (ix3 (0 : Fin 1) d j) := by
  pointwise [k0_pay9]

theorem pay25 (mk : FVec Ideal S256x256 .bf16) (l : Vec Ideal S1x256x256 .bf16) (m : Vec Ideal S1x1x256 .f32) (r : Fin 8) (j : Fin 256) :
    k0_pay25 mk l m (ix3 (0 : Fin 1) r j) = max (m (ix3 (0 : Fin 1) (0 : Fin 1) j)) (Finset.univ.fold max ⊥ fun i : Fin 256 => l (ix3 (0 : Fin 1) i j) + mk (ix2 i j)) := by
  pointwise [k0_pay25, k0_pay23, k0_pay22, k0_pay21]
  rw [ofBits_bot]

theorem pay24 (mk : FVec Ideal S256x256 .bf16) (v : Vec Ideal S1x144x256 .bf16) (l : Vec Ideal S1x256x256 .bf16) (m : Vec Ideal S1x1x256 .f32) (a : Vec Ideal S144x256 .f32) (r : Fin 144) (j : Fin 256) (m' : EReal)
    (hm : m' = max (m (ix3 (0 : Fin 1) (0 : Fin 1) j)) (Finset.univ.fold max ⊥ fun i : Fin 256 => l (ix3 (0 : Fin 1) i j) + mk (ix2 i j))) :
    k0_pay24 mk v l m a (ix2 r j) = a (ix2 r j) * Ideal.exp2 (m (ix3 (0 : Fin 1) (0 : Fin 1) j) - m')
      + ∑ i : Fin 256, v (ix3 (0 : Fin 1) r i) * Ideal.exp2 (l (ix3 (0 : Fin 1) i j) + mk (ix2 i j) - m') := by
  subst hm
  pointwise [k0_pay24, k0_pay23, k0_pay22, k0_pay21, k0_pay20]
  rw [ofBits_bot]
  rfl

theorem mask_at (q : Fin 8) (c : ℕ) (i j : Fin 256) (hc : c < 8) :
    maskV (F := Ideal) q c (ix2 i j) = (if 256 * c + i.val ≤ 256 * q.val + j.val then (0 : EReal) else ⊥) := by
  pointwise [maskV, k0_pay19, k0_pay301]
  have hi := i.isLt
  have hj := j.isLt
  have hq := q.isLt
  have e1 : IntOp.addi (Scalar.muli (BitVec.ofNat 32 c) 256#32) (BitVec.ofNat 32 i.val) = BitVec.ofNat 32 (256 * c + i.val) := by
    show BitVec.ofNat 32 c * 256#32 + BitVec.ofNat 32 i.val = _
    apply BitVec.eq_of_toNat_eq
    simp only [BitVec.toNat_add, BitVec.toNat_mul, BitVec.toNat_ofNat]
    omega
  have e2 : IntOp.addi (Scalar.muli (Scf.iv 0#32 1#32 q.val) 256#32) (BitVec.ofNat 32 j.val) = BitVec.ofNat 32 (256 * q.val + j.val) := by
    show (0#32 + BitVec.ofNat 32 q.val * 1#32) * 256#32 + BitVec.ofNat 32 j.val = _
    apply BitVec.eq_of_toNat_eq
    simp only [BitVec.toNat_add, BitVec.toNat_mul, BitVec.toNat_ofNat]
    omega
  rw [e1, e2, Scalar.select, named_mask, show (1 : BitVec 1) = 1#1 from rfl]
  have key := WordCmp.cmpi_sle_ofNat_eq_one_iff (w := 32) (a := 256 * c + i.val) (b := 256 * q.val + j.val) (by omega) (by omega)
  by_cases h : 256 * c + i.val ≤ 256 * q.val + j.val
  · rw [if_pos (key.2 h), if_pos h]
  · rw [if_neg (fun h' => h (key.1 h')), if_neg h]

theorem pay300 (x : Vec Ideal S4x64 .f32) :
    k0_pay300 x (ix2 (0 : Fin 1) (0 : Fin 1)) = Ideal.exp (∑ d : Fin 64, x (ix2 (0 : Fin 4) d) * x (ix2 (1 : Fin 4) d)) - Ideal.exp (∑ d : Fin 64, x (ix2 (2 : Fin 4) d) * x (ix2 (3 : Fin 4) d)) + Ideal.ofBits .f32 0x3E4CCCCD#32 := by
  pointwise [k0_pay300]

theorem pay1 (lam : FVec Ideal S1x1 .f32) (n0 n1 : Vec Ideal S128x256 .f32) (d1 : Vec Ideal S1x256 .f32) (g : Vec Ideal S1x128 .f32) (j : Fin 256) (e : Fin 128) :
    k0_pay1 lam n0 n1 d1 g (ix2 j e)
      = rms (fun x => n0 (ix2 x j) - lam (ix2 (0 : Fin 1) (0 : Fin 1)) * Ideal.div (n1 (ix2 x j)) (d1 (ix2 (0 : Fin 1) j))) (g (ix2 (0 : Fin 1) e)) e := by
  pointwise [k0_pay1, rms]

end Cert.KernelIdeal.Att

end
-- ==== Proof.Acc.lean ====
module

public import proofs.«01_k».proof.Proof.Pay
public import proofs.«01_k».proof.Proof.Soft

@[expose] public section

set_option maxRecDepth 16384

noncomputable section

namespace Cert.KernelIdeal.Att

open Cert.KernelIdeal Cert.KernelIdeal.Gen
open Idealize.ShloMosaic Idealize.ShloMosaic.TcCoe
open Cert.Soft

/-! ## The running maxima and the accumulators over the extended reals -/

/-- The masked logits of head `n`, query `j` of tile `q`, by key. -/
def lgt (K : Vec Ideal S2048x1024 .bf16) (Q : Vec Ideal S8x512x256 .bf16) (q n : Fin 8) (j : Fin 256) (s : ℕ) : EReal :=
  (∑ d : Fin 64, K (ix2 (⟨s % 2048, by omega⟩ : Fin 2048) (⟨128 * n.val + d.val, by omega⟩ : Fin 1024))
      * Q (ix3 q (⟨64 * n.val + d.val, by omega⟩ : Fin 512) j))
    + (if s ≤ 256 * q.val + j.val then (0 : EReal) else ⊥)

/-- Row `r` of the values of head `n`'s pair, by key. -/
def vrow (V : Vec Ideal S8x576x256 .bf16) (n : Fin 8) (r : Fin 144) (s : ℕ) : EReal :=
  V (ix3 (⟨s / 256 % 8, by omega⟩ : Fin 8) (⟨144 * (n.val / 2) + r.val, by omega⟩ : Fin 576) (⟨s % 256, by omega⟩ : Fin 256))

theorem ix3_congr {a b c : ℕ} {α : Type} (f : (⟨3, ![a, b, c]⟩ : Shape).Idx → α) {x x' : Fin a} {y y' : Fin b} {z z' : Fin c}
    (hx : x.val = x'.val) (hy : y.val = y'.val) (hz : z.val = z'.val) : f (ix3 x y z) = f (ix3 x' y' z') := by
  rw [Fin.ext hx, Fin.ext hy, Fin.ext hz]

theorem ix2_congr {a b : ℕ} {α : Type} (f : (⟨2, ![a, b]⟩ : Shape).Idx → α) {x x' : Fin a} {y y' : Fin b}
    (hx : x.val = x'.val) (hy : y.val = y'.val) : f (ix2 x y) = f (ix2 x' y') := by
  rw [Fin.ext hx, Fin.ext hy]

/-- A window at an index, of three axes. -/
theorem win3 {a b c a' b' c' : ℕ} {α : Type} (f : (⟨3, ![a, b, c]⟩ : Shape).Idx → α) (off : Fin 3 → ℕ) (h) (x : Fin a') (y : Fin b') (z : Fin c')
    (x' : Fin a) (y' : Fin b) (z' : Fin c) (hx : off 0 + x.val = x'.val) (hy : off 1 + y.val = y'.val) (hz : off 2 + z.val = z'.val) :
    VecWindow.window (s := ⟨3, ![a, b, c]⟩) f off (⟨3, ![a', b', c']⟩ : Shape).size h (ix3 x y z) = f (ix3 x' y' z') := by
  unfold VecWindow.window
  refine congrArg f (funext fun i => Fin.ext ?_)
  match i with
  | ⟨0, _⟩ => exact (congrArg (off 0 + ·) (Nat.one_mul _)).trans hx
  | ⟨1, _⟩ => exact (congrArg (off 1 + ·) (Nat.one_mul _)).trans hy
  | ⟨2, _⟩ => exact (congrArg (off 2 + ·) (Nat.one_mul _)).trans hz

theorem win2 {a b a' b' : ℕ} {α : Type} (f : (⟨2, ![a, b]⟩ : Shape).Idx → α) (off : Fin 2 → ℕ) (h) (x : Fin a') (y : Fin b')
    (x' : Fin a) (y' : Fin b) (hx : off 0 + x.val = x'.val) (hy : off 1 + y.val = y'.val) :
    VecWindow.window (s := ⟨2, ![a, b]⟩) f off (⟨2, ![a', b']⟩ : Shape).size h (ix2 x y) = f (ix2 x' y') := by
  unfold VecWindow.window
  refine congrArg f (funext fun i => Fin.ext ?_)
  match i with
  | ⟨0, _⟩ => exact (congrArg (off 0 + ·) (Nat.one_mul _)).trans hx
  | ⟨1, _⟩ => exact (congrArg (off 1 + ·) (Nat.one_mul _)).trans hy

section
variable (K : Vec Ideal S2048x1024 .bf16) (Q : Vec Ideal S8x512x256 .bf16) (V : Vec Ideal S8x576x256 .bf16) (q n : Fin 8) (j : Fin 256)

/-- A masked score of chunk `c`. -/
theorem score_at (c : ℕ) (hc : c < 8) (i : Fin 256) :
    lwin (scores K Q q c) n (ix3 (0 : Fin 1) i j) + maskV (F := Ideal) q c (ix2 i j) = lgt K Q q n j (256 * c + i.val) := by
  rw [mask_at q c i j hc]
  unfold lgt
  congr 1
  have e : lwin (scores K Q q c) n (ix3 (0 : Fin 1) i j) = scores K Q q c (ix3 n i j) :=
    win3 _ _ _ _ _ _ _ _ _ (by show n.val + 0 = n.val; omega) (by show 0 + i.val = i.val; omega) (by show 0 + j.val = j.val; omega)
  rw [e]
  refine (pay9 (kwin K c n) (qwin Q q n) i j).trans (Finset.sum_congr rfl fun d _ => ?_)
  congr 1
  · exact win2 _ _ _ _ _ _ _ (by show 256 * (c % 8) + i.val = (256 * c + i.val) % 2048; omega) (by show 128 * n.val + d.val = _; rfl)
  · exact win3 _ _ _ _ _ _ _ _ _ (by show q.val + 0 = q.val; omega) (by show 64 * n.val + d.val = _; rfl) (by show 0 + j.val = j.val; omega)

/-- The running maximum after `c` chunks. -/
theorem mV_at : ∀ c : ℕ, c ≤ 8 → ∀ r : Fin 8, mV K Q q c (ix3 n r j) = top (lgt K Q q n j) (256 * c)
  | 0, _, r => (pay302 _).trans rfl
  | c + 1, hc, r => by
    have hw : mwin (mV K Q q c) n (ix3 (0 : Fin 1) (0 : Fin 1) j) = top (lgt K Q q n j) (256 * c) :=
      (win3 _ _ _ _ _ _ n (0 : Fin 8) j (by show n.val + 0 = n.val; omega) rfl (by show 0 + j.val = j.val; omega)).trans (mV_at c (by omega) 0)
    refine (pay25 (maskV q c) (lwin (scores K Q q c) n) (mwin (mV K Q q c) n) r j).trans ?_
    rw [hw, show 256 * (c + 1) = 256 * c + 256 by ring, top_add]
    congr 1
    refine congrArg (fun f => Finset.univ.fold max ⊥ f) (funext fun i => ?_)
    exact score_at K Q q n j c (by omega) i

/-- The accumulator after `c` chunks, of real values. -/
theorem aV_at (v : ℕ → ℝ) (r : Fin 144) (hv : ∀ s, vrow V n r s = (v s : EReal)) :
    ∀ c : ℕ, c ≤ 8 → aV K Q V q c (ix2 (⟨144 * n.val + r.val, by omega⟩ : Fin 1152) j)
      = (acc (lgt K Q q n j) v (256 * c) (top (lgt K Q q n j) (256 * c)) : EReal)
  | 0, _ => (pay303 _).trans (by simp [acc])
  | c + 1, hc => by
    have hw : mwin (mV K Q q c) n (ix3 (0 : Fin 1) (0 : Fin 1) j) = top (lgt K Q q n j) (256 * c) :=
      (win3 _ _ _ _ _ _ n (0 : Fin 8) j (by show n.val + 0 = n.val; omega) rfl (by show 0 + j.val = j.val; omega)).trans (mV_at K Q q n j c (by omega) 0)
    have hn : hd (ix2 (⟨144 * n.val + r.val, by omega⟩ : Fin 1152) j) = n := Fin.ext (by show (144 * n.val + r.val) / 144 = n.val; omega)
    have hr : rw144 (ix2 (⟨144 * n.val + r.val, by omega⟩ : Fin 1152) j) = r := Fin.ext (by show (144 * n.val + r.val) % 144 = r.val; omega)
    have ht : top (lgt K Q q n j) (256 * (c + 1)) = max (mwin (mV K Q q c) n (ix3 (0 : Fin 1) (0 : Fin 1) j))
        (Finset.univ.fold max ⊥ fun i : Fin 256 => lwin (scores K Q q c) n (ix3 (0 : Fin 1) i j) + maskV (F := Ideal) q c (ix2 i j)) := by
      rw [hw, show 256 * (c + 1) = 256 * c + 256 by ring, top_add]
      congr 1
      refine congrArg (fun f => Finset.univ.fold max ⊥ f) (funext fun i => ?_)
      exact (score_at K Q q n j c (by omega) i).symm
    show k0_pay24 (maskV q c) (vwin V c (hd _)) (lwin (scores K Q q c) (hd _)) (mwin (mV K Q q c) (hd _)) (awin (aV K Q V q c) (hd _)) (ix2 (rw144 _) j) = _
    rw [hn, hr]
    refine (pay24 (maskV q c) (vwin V c n) (lwin (scores K Q q c) n) (mwin (mV K Q q c) n) (awin (aV K Q V q c) n) r j _ ht).trans ?_
    have ha : awin (aV K Q V q c) n (ix2 r j) = aV K Q V q c (ix2 (⟨144 * n.val + r.val, by omega⟩ : Fin 1152) j) :=
      win2 _ _ _ _ _ _ _ (by show 144 * n.val + r.val = _; rfl) (by show 0 + j.val = j.val; omega)
    rw [hw, ha, aV_at v r hv c (by omega), show 256 * (c + 1) = 256 * c + 256 by ring]
    rw [← step]
    congr 1
    refine Finset.sum_congr rfl fun i _ => ?_
    rw [score_at K Q q n j c (by omega) i, ← hv]
    congr 1
    exact win3 _ _ _ _ _ _ _ _ _ (by show c % 8 + 0 = (256 * c + i.val) / 256 % 8; omega) (by show 144 * (n.val / 2) + r.val = _; rfl)
      (by show 0 + i.val = (256 * c + i.val) % 256; omega)

end

end Cert.KernelIdeal.Att

end
-- ==== Proof.Out.lean ====
module

public import proofs.«01_k».proof.Proof.Acc

@[expose] public section

set_option maxRecDepth 16384

noncomputable section

namespace Cert.KernelIdeal.Att

open Cert.KernelIdeal Cert.KernelIdeal.Gen
open Idealize.ShloMosaic Idealize.ShloMosaic.TcCoe
open Cert.Soft

/-! ## A grid point's output at an index -/

/-- A logit past the query is masked. -/
theorem lgt_masked (K : Vec Ideal S2048x1024 .bf16) (Q : Vec Ideal S8x512x256 .bf16) (q n : Fin 8) (j : Fin 256) (s : ℕ)
    (h : 256 * (q.val + 1) ≤ s) : lgt K Q q n j s = ⊥ := by
  unfold lgt
  rw [if_neg (by have := j.isLt; omega), EReal.add_bot]

/-- An accumulator row after a tile's chunks is the sum over all the keys. -/
theorem aV_all (K : Vec Ideal S2048x1024 .bf16) (Q : Vec Ideal S8x512x256 .bf16) (V : Vec Ideal S8x576x256 .bf16) (q n : Fin 8) (j : Fin 256)
    (v : ℕ → ℝ) (r : Fin 144) (hv : ∀ s, vrow V n r s = (v s : EReal)) (i : Fin 1152) (hi : i.val = 144 * n.val + r.val) :
    aV K Q V q (q.val + 1) (ix2 i j) = (acc (lgt K Q q n j) v 2048 (top (lgt K Q q n j) 2048) : EReal) := by
  have e : i = (⟨144 * n.val + r.val, by omega⟩ : Fin 1152) := Fin.ext hi
  have hq := q.isLt
  rw [e, aV_at K Q V q n j v r hv (q.val + 1) (by omega),
    top_masked (lgt K Q q n j) (256 * (q.val + 1)) 2048 (fun s hs => lgt_masked K Q q n j s hs) (by omega),
    acc_masked (lgt K Q q n j) v (256 * (q.val + 1)) 2048 _ (fun s hs => lgt_masked K Q q n j s hs) (by omega)]

theorem nwin_at (C : Vec Ideal S1152x256 .f32) (n : Fin 8) (x : Fin 128) (j : Fin 256) :
    nwin C n (ix2 x j) = C (ix2 (⟨144 * n.val + x.val, by omega⟩ : Fin 1152) j) :=
  win2 _ _ _ _ _ _ _ (by show 144 * n.val + x.val = _; rfl) (by show 0 + j.val = j.val; omega)

theorem dwin_at (C : Vec Ideal S1152x256 .f32) (n : Fin 8) (j : Fin 256) :
    dwin C n (ix2 (0 : Fin 1) j) = C (ix2 (⟨144 * n.val + 128, by omega⟩ : Fin 1152) j) :=
  win2 _ _ _ _ _ _ _ (by show 144 * n.val + 128 + 0 = _; rfl) (by show 0 + j.val = j.val; omega)

theorem quot_at (n0 : Vec Ideal S128x256 .f32) (d0 : Vec Ideal S1x256 .f32) (x : Fin 128) (j : Fin 256) :
    (divf n0 (broadcastTo S128x256 d0 broadcasts_S1x256_S128x256) : FVec Ideal S128x256 .f32) (ix2 x j) = Ideal.div (n0 (ix2 x j)) (d0 (ix2 (0 : Fin 1) j)) := by
  pointwise []

/-- The output at query `j` of tile `q`, head `h`, column `e`. -/
theorem out_at (K : Vec Ideal S2048x1024 .bf16) (Q : Vec Ideal S8x512x256 .bf16) (V : Vec Ideal S8x576x256 .bf16) (lam : FVec Ideal S1x1 .f32) (g : Vec Ideal S1x128 .f32)
    (q : Fin 8) (j : Fin 256) (h : Fin 4) (e : Fin 128) (r : Fin 2048) (x : Fin 512) (hr : r.val = 256 * q.val + j.val) (hx : x.val = 128 * h.val + e.val)
    (v : ℕ → Fin 128 → ℝ)
    (hv : ∀ (r : Fin 128) s, V (ix3 (⟨s / 256 % 8, by omega⟩ : Fin 8) (⟨144 * h.val + r.val, by omega⟩ : Fin 576) (⟨s % 256, by omega⟩ : Fin 256)) = (v s r : EReal))
    (h1 : ∀ s, V (ix3 (⟨s / 256 % 8, by omega⟩ : Fin 8) (⟨144 * h.val + 128, by omega⟩ : Fin 576) (⟨s % 256, by omega⟩ : Fin 256)) = ((1 : ℝ) : EReal))
    (lm : ℝ) (hlam : lam (ix2 (0 : Fin 1) (0 : Fin 1)) = (lm : EReal)) :
    OUT K Q V lam g (ix2 r x)
      = rms (rowK (lgt K Q q (e0 h) j) (lgt K Q q (e1 h) j) v lm 2048 (top (lgt K Q q (e0 h) j) 2048) (top (lgt K Q q (e1 h) j) 2048)) (g (ix2 (0 : Fin 1) e)) e := by
  have hj := j.isLt
  have he := e.isLt
  have eq1 : oq (ix2 r x) = q := Fin.ext (by show r.val / 256 = q.val; omega)
  have eq2 : oh (ix2 r x) = h := Fin.ext (by show x.val / 128 = h.val; omega)
  have eq3 : oy (ix2 r x) = ix2 j e := ix2_congr id (by show r.val % 256 = j.val; omega) (by show x.val % 128 = e.val; omega)
  unfold OUT
  rw [eq1, eq2, eq3]
  unfold outH
  rw [pay1]
  congr 1
  funext y
  have c0 : ∀ (w : Fin 144) s, vrow V (e0 h) w s = V (ix3 (⟨s / 256 % 8, by omega⟩ : Fin 8) (⟨144 * h.val + w.val, by omega⟩ : Fin 576) (⟨s % 256, by omega⟩ : Fin 256)) :=
    fun w s => ix3_congr V rfl (by show 144 * (2 * h.val / 2) + w.val = 144 * h.val + w.val; omega) rfl
  have c1 : ∀ (w : Fin 144) s, vrow V (e1 h) w s = V (ix3 (⟨s / 256 % 8, by omega⟩ : Fin 8) (⟨144 * h.val + w.val, by omega⟩ : Fin 576) (⟨s % 256, by omega⟩ : Fin 256)) :=
    fun w s => ix3_congr V rfl (by show 144 * ((2 * h.val + 1) / 2) + w.val = 144 * h.val + w.val; omega) rfl
  have n0 := aV_all K Q V q (e0 h) j (fun s => v s y) (⟨y.val, by omega⟩ : Fin 144) (fun s => (c0 _ s).trans (hv y s)) (⟨144 * (e0 h).val + y.val, by omega⟩ : Fin 1152) rfl
  have n1 := aV_all K Q V q (e1 h) j (fun s => v s y) (⟨y.val, by omega⟩ : Fin 144) (fun s => (c1 _ s).trans (hv y s)) (⟨144 * (e1 h).val + y.val, by omega⟩ : Fin 1152) rfl
  have d0 := aV_all K Q V q (e0 h) j (fun _ => 1) (⟨128, by omega⟩ : Fin 144) (fun s => (c0 _ s).trans (h1 s)) (⟨144 * (e0 h).val + 128, by omega⟩ : Fin 1152) rfl
  have d1 := aV_all K Q V q (e1 h) j (fun _ => 1) (⟨128, by omega⟩ : Fin 144) (fun s => (c1 _ s).trans (h1 s)) (⟨144 * (e1 h).val + 128, by omega⟩ : Fin 1152) rfl
  rw [quot_at, nwin_at, dwin_at, nwin_at, dwin_at, hlam, n0, n1, d0, d1]
  rfl

end Cert.KernelIdeal.Att

end
-- ==== Proof.Ref.lean ====
module

public import proofs.«01_k».proof.Defs
public import proofs.«01_k».proof.Proof.Gen.ReferenceIdeal.Read
public import proofs.«01_k».proof.Proof.Diff
public import Idealize.ShloMosaic.Lib.Pointwise
public import Idealize.ShloMosaic.Lib.IdealHost
public import Idealize.ShloMosaic.Lib.WordCmp

@[expose] public section

set_option maxRecDepth 16384

noncomputable section

namespace Cert.ReferenceIdeal.Att

open Cert.ReferenceIdeal Cert.ReferenceIdeal.Gen Cert.ReferenceIdeal.Read
open Idealize.ShloMosaic Idealize.ShloMosaic.TcCoe
open Cert.Soft

/-! ## The reference's attention at an index -/

variable (q k : (⟨S32x2048x4x2x64, .f32⟩ : BufTy).Contents (Elt Ideal)) (v : (⟨S32x2048x4x128, .f32⟩ : BufTy).Contents (Elt Ideal))
  (dl : (⟨S4x64, .f32⟩ : BufTy).Contents (Elt Ideal)) (g : (⟨S128, .f32⟩ : BufTy).Contents (Elt Ideal))

/-- A query's masked logits, by key. -/
def lg (b : Fin 32) (h : Fin 4) (a : Fin 2) (t : Fin 2048) (s : ℕ) : EReal :=
  if s ≤ t.val then (∑ d : Fin 64, q (ix5 b t h a d) * k (ix5 b (⟨s % 2048, by omega⟩ : Fin 2048) h a d)) * ((1 / 8 : ℝ) : EReal) else ⊥

/-- The logits over `log 2`. -/
def lg2 (b : Fin 32) (h : Fin 4) (a : Fin 2) (t : Fin 2048) (s : ℕ) : EReal := (((Real.log 2)⁻¹ : ℝ) : EReal) * lg q k b h a t s

/-- The lambda. -/
def lam : EReal :=
  Ideal.exp (∑ d : Fin 64, dl (ix2 (0 : Fin 4) d) * dl (ix2 (1 : Fin 4) d)) - Ideal.exp (∑ d : Fin 64, dl (ix2 (2 : Fin 4) d) * dl (ix2 (3 : Fin 4) d))
    + Ideal.ofBits .f32 0x3E4CCCCD#32

/-- The values of a head, by key. -/
def vl (b : Fin 32) (h : Fin 4) (s : ℕ) (e : Fin 128) : ℝ := (v (ix4 b (⟨s % 2048, by omega⟩ : Fin 2048) h e)).toReal

theorem eighth : Ideal.ofBits .f32 0x3E000000#32 = ((1 / 8 : ℝ) : EReal) := by
  simp [Ideal.ofBits, Ideal.ieee, -EReal.coe_mul]
  norm_num

theorem bot32 : Ideal.ofBits .f32 0xFF800000#32 = ⊥ := by simp [Ideal.ofBits, Ideal.ieee]

theorem logit (b : Fin 32) (h : Fin 4) (a : Fin 2) (t s : Fin 2048) :
    val_main_v26 (F := Ideal) q k (ix5 b h a t s) = lg q k b h a t s.val := by
  pointwise [val_main_v26, val_main_call0_v0, val_main_call0_v1, val_main_call0_v2, val_main_cst_3, val_main_v25, val_main_v24, val_main_v23, val_main_cst_2, val_main_v22, val_main_v21, val_main_v20, val_main_v19, val_main_v18, val_main_v17, val_main_v16]
  have ht := t.isLt
  have hs := s.isLt
  unfold lg
  rw [Scalar.select, show (1 : BitVec 1) = 1#1 from rfl, eighth]
  have key := WordCmp.cmpi_sle_ofNat_eq_one_iff (w := 32) (a := s.val) (b := t.val) (by omega) (by omega)
  by_cases hst : s.val ≤ t.val
  · rw [if_pos (key.2 hst), if_pos hst]
    have : (⟨s.val % 2048, by omega⟩ : Fin 2048) = s := Fin.ext (Nat.mod_eq_of_lt hs)
    rw [this]
  · rw [if_neg (fun h' => hst (key.1 h')), if_neg hst]
    exact bot32

theorem redmax (X : FVec Ideal S32x4x2x2048x2048 .f32) (z : FVec Ideal S_ .f32) (b : Fin 32) (h : Fin 4) (a : Fin 2) (t : Fin 2048) :
    Host.reduce FloatOps.maximumf X z reducesTo_S32x4x2x2048x2048_S32x4x2x2048_d4 h_S_ (ix4 b h a t)
      = (Finset.univ.fold max (z (Shape.Idx.first h_S_)) fun s : Fin 2048 => X (ix5 b h a t s) : EReal) := by
  pointwise []

theorem fold_top (l : ℕ → EReal) (n : ℕ) : (Finset.univ.fold max ⊥ fun s : Fin n => l s.val) = top l n := by
  have h := top_add l 0 n
  simp only [Nat.zero_add] at h
  rw [h]
  exact (max_eq_right bot_le).symm

theorem maxi (b : Fin 32) (h : Fin 4) (a : Fin 2) (t : Fin 2048) :
    val_main_v29 (F := Ideal) q k (ix4 b h a t) = top (lg q k b h a t) 2048 := by
  have e1 : val_main_v28 (F := Ideal) (ix4 b h a t) = (⊥ : EReal) := (val_main_v28_apply _).trans bot32
  have e2 : val_main_v27 (F := Ideal) q k (ix4 b h a t) = top (lg q k b h a t) 2048 := by
    refine (redmax (val_main_v26 (F := Ideal) q k) (val_main_cst_4 (F := Ideal)) b h a t).trans ?_
    have e3 : val_main_cst_4 (F := Ideal) (Shape.Idx.first h_S_) = (⊥ : EReal) := bot32
    rw [e3, ← fold_top]
    exact congrArg (fun f => Finset.univ.fold max ⊥ f) (funext fun s => logit q k b h a t s)
  rw [val_main_v29_apply, e1, e2]
  exact max_eq_right bot_le

/-- A positive multiple of the logits has that multiple of their maximum. -/
theorem top_scale (c : ℝ) (hc : 0 < c) (l : ℕ → EReal) (n : ℕ) : (c : EReal) * top l n = top (fun s => (c : EReal) * l s) n := by
  have mono : Monotone fun x : EReal => (c : EReal) * x := fun x y h => mul_le_mul_of_nonneg_left h (EReal.coe_nonneg.2 hc.le)
  induction n with
  | zero => exact EReal.coe_mul_bot_of_pos hc
  | succ n ih =>
    have e : ∀ l : ℕ → EReal, top l (n + 1) = max (l n) (top l n) := fun l => by
      unfold top
      rw [Finset.range_add_one, Finset.sup_insert]
    rw [e, e, ← ih]
    exact mono.map_max

theorem log2_pos : 0 < (Real.log 2)⁻¹ := inv_pos.2 (Real.log_pos (by norm_num))

theorem expo (b : Fin 32) (h : Fin 4) (a : Fin 2) (t s : Fin 2048) :
    val_main_v33 (F := Ideal) q k (ix5 b h a t s) = (wt (lg2 q k b h a t s.val) (top (lg2 q k b h a t) 2048) : EReal) := by
  have e : val_main_v33 (F := Ideal) q k (ix5 b h a t s)
      = Ideal.exp (val_main_v26 (F := Ideal) q k (ix5 b h a t s) - val_main_v29 (F := Ideal) q k (ix4 b h a t)) := by
    pointwise [val_main_v33, val_main_v32, val_main_v31, val_main_v30]
  rw [e, logit, maxi, exp_sub _ _ (le_top' _ _ _ s.isLt), top_scale _ log2_pos]
  rfl

theorem soft (b : Fin 32) (h : Fin 4) (a : Fin 2) (t s : Fin 2048) :
    val_main_v37 (F := Ideal) q k (ix5 b h a t s)
      = Ideal.div (wt (lg2 q k b h a t s.val) (top (lg2 q k b h a t) 2048) : EReal) (den (lg2 q k b h a t) 2048 (top (lg2 q k b h a t) 2048) : EReal) := by
  have e : val_main_v37 (F := Ideal) q k (ix5 b h a t s)
      = Ideal.div (val_main_v33 (F := Ideal) q k (ix5 b h a t s)) (∑ x : Fin 2048, val_main_v33 (F := Ideal) q k (ix5 b h a t x)) := by
    pointwise [val_main_v37, val_main_v36, val_main_v35, val_main_v34, val_main_cst_6]
  rw [e, Finset.sum_congr rfl fun x _ => expo q k b h a t x, expo, ← coe_sum,
    Fin.sum_univ_eq_sum_range (fun x => wt (lg2 q k b h a t x) (top (lg2 q k b h a t) 2048)) 2048, den_eq]

theorem lam_eq : val_main_v15 (F := Ideal) dl ix0 = lam dl := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, lam]

theorem slice0 (b : Fin 32) (h : Fin 4) (t s : Fin 2048) :
    val_main_v39 (F := Ideal) q k (ix4 b h t s) = val_main_v37 (F := Ideal) q k (ix5 b h (0 : Fin 2) t s) := by
  rw [val_main_v39_apply, val_main_v38_apply]
  generalize val_main_v37 (F := Ideal) q k = X
  refine congrArg X (funext fun a => Fin.ext ?_)
  have hb := b.isLt; have hh := h.isLt; have ht := t.isLt; have hs := s.isLt
  match a with
  | ⟨0, _⟩ => show (((b.val * 4 + h.val) * 2048 + t.val) * 2048 + s.val) / 16777216 = b.val; omega
  | ⟨1, _⟩ => show (((b.val * 4 + h.val) * 2048 + t.val) * 2048 + s.val) / 4194304 % 4 = h.val; omega
  | ⟨2, _⟩ => rfl
  | ⟨3, _⟩ => show (((b.val * 4 + h.val) * 2048 + t.val) * 2048 + s.val) / 2048 % 2048 = t.val; omega
  | ⟨4, _⟩ => show (((b.val * 4 + h.val) * 2048 + t.val) * 2048 + s.val) % 2048 = s.val; omega

theorem slice1 (b : Fin 32) (h : Fin 4) (t s : Fin 2048) :
    val_main_v41 (F := Ideal) q k (ix4 b h t s) = val_main_v37 (F := Ideal) q k (ix5 b h (1 : Fin 2) t s) := by
  rw [val_main_v41_apply, val_main_v40_apply]
  generalize val_main_v37 (F := Ideal) q k = X
  refine congrArg X (funext fun a => Fin.ext ?_)
  have hb := b.isLt; have hh := h.isLt; have ht := t.isLt; have hs := s.isLt
  match a with
  | ⟨0, _⟩ => show (((b.val * 4 + h.val) * 2048 + t.val) * 2048 + s.val) / 16777216 = b.val; omega
  | ⟨1, _⟩ => show (((b.val * 4 + h.val) * 2048 + t.val) * 2048 + s.val) / 4194304 % 4 = h.val; omega
  | ⟨2, _⟩ => rfl
  | ⟨3, _⟩ => show (((b.val * 4 + h.val) * 2048 + t.val) * 2048 + s.val) / 2048 % 2048 = t.val; omega
  | ⟨4, _⟩ => show (((b.val * 4 + h.val) * 2048 + t.val) * 2048 + s.val) % 2048 = s.val; omega

theorem diff (lm : ℝ) (hlam : lam dl = (lm : EReal)) (b : Fin 32) (h : Fin 4) (t s : Fin 2048) :
    val_main_v44 (F := Ideal) q k dl (ix4 b h t s)
      = dif (lg2 q k b h 0 t) (lg2 q k b h 1 t) lm 2048 (top (lg2 q k b h 0 t) 2048) (top (lg2 q k b h 1 t) 2048) s.val := by
  rw [val_main_v44_apply, val_main_v43_apply, val_main_v42_apply, slice0, slice1, soft, soft]
  have e : val_main_v15 (F := Ideal) dl (idx_main_v42 (ix4 b h t s)) = (lm : EReal) := by
    rw [← hlam, ← lam_eq]
    exact congrArg _ (funext fun a => a.elim0)
  rw [e]
  rfl

theorem out_row (hv : ∀ y, v y = ((v y).toReal : EReal)) (lm : ℝ) (hlam : lam dl = (lm : EReal)) (b : Fin 32) (h : Fin 4) (t : Fin 2048) (e : Fin 128) :
    val_main_v46 (F := Ideal) q k v dl (ix4 b t h e)
      = rowR (lg2 q k b h 0 t) (lg2 q k b h 1 t) (vl v b h) lm 2048 (top (lg2 q k b h 0 t) 2048) (top (lg2 q k b h 1 t) 2048) e := by
  have e1 : val_main_v46 (F := Ideal) q k v dl (ix4 b t h e)
      = ∑ s : Fin 2048, v (ix4 b s h e) * val_main_v44 (F := Ideal) q k dl (ix4 b h t s) := by
    pointwise [val_main_v46, val_main_v45]
  rw [e1]
  unfold rowR
  refine Finset.sum_congr rfl fun s _ => ?_
  rw [diff q k dl lm hlam]
  congr 1
  rw [hv]
  unfold vl
  have : (⟨s.val % 2048, by omega⟩ : Fin 2048) = s := Fin.ext (Nat.mod_eq_of_lt s.isLt)
  rw [this]

theorem norm (b : Fin 32) (h : Fin 4) (t : Fin 2048) (e : Fin 128) :
    val_main_v61 (F := Ideal) q k v dl g (ix4 b t h e)
      = rms (fun x => val_main_v46 (F := Ideal) q k v dl (ix4 b t h x)) (g (ix1 e)) e := by
  pointwise [rms, val_main_v61, val_main_v60, val_main_v59, val_main_v58, val_main_v57, val_main_v56, val_main_v55, val_main_v54, val_main_v53, val_main_v52, val_main_v51, val_main_v50, val_main_v49, val_main_v48, val_main_v47, val_main_cst_7, val_main_cst_8, val_main_cst_9, val_main_cst_10]

theorem result (r : Fin 65536) (e : Fin 512) :
    val_main_v63 (F := Ideal) q k v dl g (ix2 r e)
      = val_main_v61 (F := Ideal) q k v dl g (ix4 (⟨r.val / 2048, by omega⟩ : Fin 32) (⟨r.val % 2048, by omega⟩ : Fin 2048)
        (⟨e.val / 128, by omega⟩ : Fin 4) (⟨e.val % 128, by omega⟩ : Fin 128)) := by
  pointwise [val_main_v63, val_main_v62]

/-- The reference's result, at batch `b`, query `t`, head `h`, column `e`. -/
theorem value (hv : ∀ y, v y = ((v y).toReal : EReal)) (lm : ℝ) (hlam : lam dl = (lm : EReal)) (r : Fin 65536) (x : Fin 512)
    (b : Fin 32) (h : Fin 4) (t : Fin 2048) (e : Fin 128) (hr : r.val = 2048 * b.val + t.val) (hx : x.val = 128 * h.val + e.val) :
    val_main_v63 (F := Ideal) q k v dl g (ix2 r x)
      = rms (rowR (lg2 q k b h 0 t) (lg2 q k b h 1 t) (vl v b h) lm 2048 (top (lg2 q k b h 0 t) 2048) (top (lg2 q k b h 1 t) 2048)) (g (ix1 e)) e := by
  have e0 : (⟨r.val / 2048, by omega⟩ : Fin 32) = b := Fin.ext (by show r.val / 2048 = b.val; omega)
  have e1 : (⟨r.val % 2048, by omega⟩ : Fin 2048) = t := Fin.ext (by show r.val % 2048 = t.val; omega)
  have e2 : (⟨x.val / 128, by omega⟩ : Fin 4) = h := Fin.ext (by show x.val / 128 = h.val; omega)
  have e3 : (⟨x.val % 128, by omega⟩ : Fin 128) = e := Fin.ext (by show x.val % 128 = e.val; omega)
  rw [result, e0, e1, e2, e3, norm]
  congr 1
  exact funext fun x => out_row q k v dl hv lm hlam b h t x

end Cert.ReferenceIdeal.Att

end
-- ==== Proof.Lay.lean ====
module

public import proofs.«01_k».proof.Proof.Fr
public import proofs.«01_k».proof.Proof.Out
public import proofs.«01_k».proof.Proof.Ref
public import Idealize.ShloMosaic.Lib.Pipeline.ValueKit
public import Idealize.ShloMosaic.Lib.Pointwise
public import Idealize.ShloMosaic.Lib.IdealHost
public import Idealize.ShloMosaic.Lib.Claim
public import Idealize.ShloMosaic.Lib.StableHlo.ReadAt

@[expose] public section

set_option maxRecDepth 16384

noncomputable section

namespace Cert.KernelIdeal.Att

open Cert.KernelIdeal Cert.KernelIdeal.Gen
open Idealize.ShloMosaic Idealize.ShloMosaic.TcCoe
open Cert.Soft

variable (m : (ℓ : Loc nD τ sig) → Buf (Elt Ideal) ℓ)

/-! ## The arrays the call finds, at an index -/

/-- The queries, keys, values, lambda vectors and gain, as launched. -/
abbrev aq (c : Dev nD) : (⟨S32x2048x4x2x64, .f32⟩ : BufTy).Contents (Elt Ideal) := m ((c : Thread nD τ).loc main_arg0)
abbrev ak (c : Dev nD) : (⟨S32x2048x4x2x64, .f32⟩ : BufTy).Contents (Elt Ideal) := m ((c : Thread nD τ).loc main_arg1)
abbrev av (c : Dev nD) : (⟨S32x2048x4x128, .f32⟩ : BufTy).Contents (Elt Ideal) := m ((c : Thread nD τ).loc main_arg2)
abbrev adl (c : Dev nD) : (⟨S4x64, .f32⟩ : BufTy).Contents (Elt Ideal) := m ((c : Thread nD τ).loc main_arg3)
abbrev ag (c : Dev nD) : (⟨S128, .f32⟩ : BufTy).Contents (Elt Ideal) := m ((c : Thread nD τ).loc main_arg4)

theorem ix5_congr {a b c d e : ℕ} {α : Type} (f : (⟨5, ![a, b, c, d, e]⟩ : Shape).Idx → α) {x x' : Fin a} {y y' : Fin b} {z z' : Fin c} {u u' : Fin d} {w w' : Fin e}
    (hx : x.val = x'.val) (hy : y.val = y'.val) (hz : z.val = z'.val) (hu : u.val = u'.val) (hw : w.val = w'.val) : f (ix5 x y z u w) = f (ix5 x' y' z' u' w') := by
  rw [Fin.ext hx, Fin.ext hy, Fin.ext hz, Fin.ext hu, Fin.ext hw]

theorem ix4_congr {a b c d : ℕ} {α : Type} (f : (⟨4, ![a, b, c, d]⟩ : Shape).Idx → α) {x x' : Fin a} {y y' : Fin b} {z z' : Fin c} {u u' : Fin d}
    (hx : x.val = x'.val) (hy : y.val = y'.val) (hz : z.val = z'.val) (hu : u.val = u'.val) : f (ix4 x y z u) = f (ix4 x' y' z' u') := by
  rw [Fin.ext hx, Fin.ext hy, Fin.ext hz, Fin.ext hu]

/-- The host's scale of the queries. -/
theorem scale_eq : Ideal.div (Ideal.ofBits .f32 0x3E000000#32) (Ideal.log (Ideal.ofBits .f32 0x40000000#32)) = ((1 / 8 * (Real.log 2)⁻¹ : ℝ) : EReal) := by
  have h2 : Ideal.ofBits .f32 0x40000000#32 = ((2 : ℝ) : EReal) := by
    simp [Ideal.ofBits, Ideal.ieee, -EReal.coe_mul]
    norm_num
  have hl : Ideal.log ((2 : ℝ) : EReal) = (Real.log 2 : EReal) := by
    show (if (2 : ℝ) ≤ 0 then (⊥ : EReal) else (Real.log 2 : EReal)) = _
    rw [if_neg (by norm_num)]
  rw [h2, hl, Cert.ReferenceIdeal.Att.eighth, div_coe _ _ (Real.log_pos (by norm_num)).ne']

theorem V_g (c : Dev nD) (e : Fin 128) :
    V m c main_v17 (ix2 (0 : Fin 1) e) = ag m c (ix1 e) := by
  unfold_abbrev_sides
  simp only [hostOps0, hostOps0_1, hostOps0_2, List.flatten_cons, List.flatten_nil, List.append_nil, List.cons_append, List.nil_append]
  after_reads_at

theorem V_q (c : Dev nD) (b : Fin 256) (x : Fin 512) (j : Fin 256) :
    V m c main_v6 (ix3 b x j) = aq m c (ix5 (⟨b.val / 8, by omega⟩ : Fin 32) (⟨b.val % 8 * 256 + j.val, by omega⟩ : Fin 2048)
      (⟨x.val / 128, by omega⟩ : Fin 4) (⟨x.val / 64 % 2, by omega⟩ : Fin 2) (⟨x.val % 64, by omega⟩ : Fin 64)) * ((1 / 8 * (Real.log 2)⁻¹ : ℝ) : EReal) := by
  rw [← scale_eq]
  unfold_abbrev_sides
  simp only [hostOps0, hostOps0_1, hostOps0_2, List.flatten_cons, List.flatten_nil, List.append_nil, List.cons_append, List.nil_append]
  after_reads_at
  rfl

theorem V_k (c : Dev nD) (b : Fin 65536) (x : Fin 1024) (h : x.val % 128 < 64) :
    V m c main_v10 (ix2 b x) = ak m c (ix5 (⟨b.val / 2048, by omega⟩ : Fin 32) (⟨b.val % 2048, by omega⟩ : Fin 2048)
      (⟨x.val / 256, by omega⟩ : Fin 4) (⟨x.val / 128 % 2, by omega⟩ : Fin 2) (⟨x.val % 128, h⟩ : Fin 64)) := by
  unfold_abbrev_sides
  simp only [hostOps0, hostOps0_1, hostOps0_2, List.flatten_cons, List.flatten_nil, List.append_nil, List.cons_append, List.nil_append]
  after_reads_at
  refine (dif_pos ⟨by omega, h⟩).trans ?_
  exact ix5_congr (ak m c) rfl rfl (by show x.val / 128 / 2 = x.val / 256; omega) rfl rfl

theorem V_v (c : Dev nD) (b : Fin 256) (x : Fin 576) (j : Fin 256) :
    V m c main_v16 (ix3 b x j) = if x.val % 144 < 128 then av m c (ix4 (⟨b.val / 8, by omega⟩ : Fin 32) (⟨b.val % 8 * 256 + j.val, by omega⟩ : Fin 2048)
      (⟨x.val / 144, by omega⟩ : Fin 4) (⟨x.val % 144 % 128, by omega⟩ : Fin 128)) else ((1 : ℝ) : EReal) := by
  unfold_abbrev_sides
  simp only [hostOps0, hostOps0_1, hostOps0_2, List.flatten_cons, List.flatten_nil, List.append_nil, List.cons_append, List.nil_append]
  after_reads_at
  after_reads_at
  by_cases h : x.val % 144 < 128
  · refine (dif_pos h).trans (Eq.trans ?_ (if_pos h).symm)
    exact ix4_congr (av m c) rfl rfl rfl (by show x.val % 144 = x.val % 144 % 128; omega)
  · exact (dif_neg h).trans (if_neg h).symm

/-! ## The blocks at an index -/

theorem idx : ∀ t : Fin cfg0.N, win0_0.index t = ![0, 0] ∧ win0_1.index t = ![0, 0] ∧ win0_2.index t = ![t.val, 0, 0]
    ∧ win0_3.index t = ![t.val, 0] ∧ win0_4.index t = ![t.val, 0, 0] ∧ win0_5.index t = ![t.val, 0] :=
  (by decide +kernel : ∀ t : Fin grid0.N, win0_0.index t = ![0, 0] ∧ win0_1.index t = ![0, 0] ∧ win0_2.index t = ![t.val, 0, 0]
    ∧ win0_3.index t = ![t.val, 0] ∧ win0_4.index t = ![t.val, 0, 0] ∧ win0_5.index t = ![t.val, 0])

theorem lt32 (t : Fin cfg0.N) : t.val < 32 := t.isLt

theorem blk_g (c : Dev nD) (t : Fin cfg0.N) (e : Fin 128) : iblk m c 1 t (ix2 (0 : Fin 1) e) = V m c main_v17 (ix2 (0 : Fin 1) e) := by
  blk_ext [iblk, idx t]

theorem blk_dl (c : Dev nD) (t : Fin cfg0.N) (a : Fin 4) (d : Fin 64) : iblk m c 0 t (ix2 a d) = V m c main_arg3 (ix2 a d) := by
  blk_ext [iblk, idx t]

theorem blk_q (c : Dev nD) (t : Fin cfg0.N) (q : Fin 8) (x : Fin 512) (j : Fin 256) :
    iblk m c 2 t (ix3 q x j) = V m c main_v6 (ix3 (⟨t.val * 8 + q.val, by have := lt32 t; omega⟩ : Fin 256) x j) := by
  blk_ext [iblk, idx t]

theorem blk_k (c : Dev nD) (t : Fin cfg0.N) (s : Fin 2048) (x : Fin 1024) :
    iblk m c 3 t (ix2 s x) = V m c main_v10 (ix2 (⟨t.val * 2048 + s.val, by have := lt32 t; omega⟩ : Fin 65536) x) := by
  blk_ext [iblk, idx t]

theorem blk_v (c : Dev nD) (t : Fin cfg0.N) (q : Fin 8) (x : Fin 576) (j : Fin 256) :
    iblk m c 4 t (ix3 q x j) = V m c main_v16 (ix3 (⟨t.val * 8 + q.val, by have := lt32 t; omega⟩ : Fin 256) x j) := by
  blk_ext [iblk, idx t]

end Cert.KernelIdeal.Att

end
-- ==== Proof.Att.lean ====
module

public import proofs.«01_k».proof.Proof.Lay

@[expose] public section

set_option maxRecDepth 16384

noncomputable section

namespace Cert.KernelIdeal.Att

open Cert.KernelIdeal Cert.KernelIdeal.Gen
open Idealize.ShloMosaic Idealize.ShloMosaic.TcCoe
open Idealize.ShloMosaic.Pipeline (Dat)
open Cert.Soft

variable (m : (ℓ : Loc nD τ sig) → Buf (Elt Ideal) ℓ)

/-! ## The kernel's logits are the reference's over `log 2` -/

theorem coe_mul_sum {n : ℕ} (c : ℝ) (hc : 0 ≤ c) (f : Fin n → EReal) : ∑ d, (c : EReal) * f d = (c : EReal) * ∑ d, f d := by
  classical
  induction (Finset.univ : Finset (Fin n)) using Finset.induction_on with
  | empty => simp
  | insert a s ha ih =>
    rw [Finset.sum_insert ha, Finset.sum_insert ha, ih, EReal.left_distrib_of_nonneg_of_ne_top (EReal.coe_nonneg.2 hc) (EReal.coe_ne_top _)]

/-- The blocks a grid point reads. -/
abbrev bdl (c : Dev nD) (t : Fin cfg0.N) : Vec Ideal S4x64 .f32 := iblk m c 0 t
abbrev bg (c : Dev nD) (t : Fin cfg0.N) : Vec Ideal S1x128 .f32 := iblk m c 1 t
abbrev bq (c : Dev nD) (t : Fin cfg0.N) : Vec Ideal S8x512x256 .bf16 := iblk m c 2 t
abbrev bk (c : Dev nD) (t : Fin cfg0.N) : Vec Ideal S2048x1024 .bf16 := iblk m c 3 t
abbrev bv (c : Dev nD) (t : Fin cfg0.N) : Vec Ideal S8x576x256 .bf16 := iblk m c 4 t

/-- The batch of a grid point. -/
def bat (t : Fin cfg0.N) : Fin 32 := ⟨t.val, lt32 t⟩

theorem lgt_eq (c : Dev nD) (t : Fin cfg0.N) (q n : Fin 8) (h : Fin 4) (a : Fin 2) (j : Fin 256) (hn : n.val = 2 * h.val + a.val) (i : Fin 2048)
    (hi : i.val = 256 * q.val + j.val) :
    lgt (bk m c t) (bq m c t) q n j = Cert.ReferenceIdeal.Att.lg2 (aq m c) (ak m c) (bat t) h a i := by
  funext s
  have hq := q.isLt
  have hj := j.isLt
  have ha := a.isLt
  have hh := h.isLt
  have ht := lt32 t
  unfold lgt Cert.ReferenceIdeal.Att.lg2 Cert.ReferenceIdeal.Att.lg
  by_cases hs : s ≤ 256 * q.val + j.val
  · rw [if_pos hs, if_pos (by omega), add_zero]
    have e : ∀ d : Fin 64, bk m c t (ix2 (⟨s % 2048, by omega⟩ : Fin 2048) (⟨128 * n.val + d.val, by omega⟩ : Fin 1024))
        * bq m c t (ix3 q (⟨64 * n.val + d.val, by omega⟩ : Fin 512) j)
        = ((1 / 8 * (Real.log 2)⁻¹ : ℝ) : EReal) * (aq m c (ix5 (bat t) i h a d) * ak m c (ix5 (bat t) (⟨s % 2048, by omega⟩ : Fin 2048) h a d)) := fun d => by
      have hd := d.isLt
      have ek := (blk_k m c t (⟨s % 2048, by omega⟩ : Fin 2048) (⟨128 * n.val + d.val, by omega⟩ : Fin 1024)).trans
        ((V_k m c _ _ (by show (128 * n.val + d.val) % 128 < 64; omega)).trans
          (ix5_congr (ak m c) (x' := bat t) (y' := (⟨s % 2048, by omega⟩ : Fin 2048)) (z' := h) (u' := a) (w' := d)
            (by show (t.val * 2048 + s % 2048) / 2048 = t.val; omega) (by show (t.val * 2048 + s % 2048) % 2048 = s % 2048; omega)
            (by show (128 * n.val + d.val) / 256 = h.val; omega) (by show (128 * n.val + d.val) / 128 % 2 = a.val; omega)
            (by show (128 * n.val + d.val) % 128 = d.val; omega)))
      have eq := (blk_q m c t q (⟨64 * n.val + d.val, by omega⟩ : Fin 512) j).trans
        ((V_q m c _ _ _).trans (congrArg (fun z : EReal => z * ((1 / 8 * (Real.log 2)⁻¹ : ℝ) : EReal))
          (ix5_congr (aq m c) (x' := bat t) (y' := i) (z' := h) (u' := a) (w' := d)
            (by show (t.val * 8 + q.val) / 8 = t.val; omega) (by show (t.val * 8 + q.val) % 8 * 256 + j.val = i.val; omega)
            (by show (64 * n.val + d.val) / 128 = h.val; omega) (by show (64 * n.val + d.val) / 64 % 2 = a.val; omega)
            (by show (64 * n.val + d.val) % 64 = d.val; omega))))
      refine (congrArg₂ (fun x y : EReal => x * y) ek eq).trans ?_
      generalize (ak m c (ix5 (bat t) (⟨s % 2048, by omega⟩ : Fin 2048) h a d) : EReal) = x
      generalize (aq m c (ix5 (bat t) i h a d) : EReal) = y
      show x * (y * _) = _ * (y * x)
      rw [mul_comm y x, mul_comm _ (x * y), mul_assoc]
    refine (Finset.sum_congr rfl fun d _ => e d).trans ?_
    refine (coe_mul_sum (1 / 8 * (Real.log 2)⁻¹) (mul_nonneg (by norm_num) Cert.ReferenceIdeal.Att.log2_pos.le) _).trans ?_
    rw [mul_comm (1 / 8 : ℝ), EReal.coe_mul, mul_assoc, mul_comm ((1 / 8 : ℝ) : EReal)]
  · rw [if_neg hs, if_neg (by omega), EReal.add_bot, EReal.coe_mul_bot_of_pos Cert.ReferenceIdeal.Att.log2_pos]

theorem val_eq (c : Dev nD) (t : Fin cfg0.N) (h : Fin 4) (hv : ∀ y, av m c y = ((av m c y).toReal : EReal)) (r : Fin 128) (s : ℕ) :
    bv m c t (ix3 (⟨s / 256 % 8, by omega⟩ : Fin 8) (⟨144 * h.val + r.val, by omega⟩ : Fin 576) (⟨s % 256, by omega⟩ : Fin 256))
      = (Cert.ReferenceIdeal.Att.vl (av m c) (bat t) h s r : EReal) := by
  have ht := lt32 t
  have hr := r.isLt
  refine (blk_v m c t _ _ _).trans ((V_v m c _ _ _).trans ((if_pos (by show (144 * h.val + r.val) % 144 < 128; omega)).trans ?_))
  refine (ix4_congr (av m c) (x' := bat t) (y' := (⟨s % 2048, by omega⟩ : Fin 2048)) (z' := h) (u' := r)
    (by show (t.val * 8 + s / 256 % 8) / 8 = t.val; omega) (by show (t.val * 8 + s / 256 % 8) % 8 * 256 + s % 256 = s % 2048; omega)
    (by show (144 * h.val + r.val) / 144 = h.val; omega) (by show (144 * h.val + r.val) % 144 % 128 = r.val; omega)).trans ?_
  exact hv _

theorem one_eq (c : Dev nD) (t : Fin cfg0.N) (h : Fin 4) (s : ℕ) :
    bv m c t (ix3 (⟨s / 256 % 8, by omega⟩ : Fin 8) (⟨144 * h.val + 128, by omega⟩ : Fin 576) (⟨s % 256, by omega⟩ : Fin 256)) = ((1 : ℝ) : EReal) :=
  (blk_v m c t _ _ _).trans ((V_v m c _ _ _).trans (if_neg (by show ¬ (144 * h.val + 128) % 144 < 128; omega)))

theorem ld_dl (x : Vec Ideal S4x64 .f32) : View.ld x (Rect.unit (s := S4x64) ![0, 0] S4x64.size inb_S4x64_S4x64_0_0) = x :=
  View.ld_unit_lit _ x (Fin.forall_fin_two.2 ⟨rfl, rfl⟩)

theorem ld_g (x : Vec Ideal S1x128 .f32) : View.ld x (Rect.unit (s := S1x128) ![0, 0] S1x128.size inb_S1x128_S1x128_0_0) = x :=
  View.ld_unit_lit _ x (Fin.forall_fin_two.2 ⟨rfl, rfl⟩)

theorem lam_at (c : Dev nD) (t : Fin cfg0.N) :
    k0_pay300 (View.ld (bdl m c t) (Rect.unit (s := S4x64) ![0, 0] S4x64.size inb_S4x64_S4x64_0_0)) (ix2 (0 : Fin 1) (0 : Fin 1))
      = Cert.ReferenceIdeal.Att.lam (adl m c) := by
  refine (congrArg (fun x : Vec Ideal S4x64 .f32 => k0_pay300 x (ix2 (0 : Fin 1) (0 : Fin 1))) (ld_dl (bdl m c t))).trans ?_
  refine (pay300 (bdl m c t)).trans ?_
  unfold Cert.ReferenceIdeal.Att.lam
  have e : ∀ (a : Fin 4) (d : Fin 64), bdl m c t (ix2 a d) = adl m c (ix2 a d) := fun a d =>
    (blk_dl m c t a d).trans (congrFun (V_main_arg3 m c) _)
  simp only [e]

theorem emb_out (t : Fin cfg0.N) (y : S2048x512.Idx) (r : Fin 65536) (x : Fin 512) (hr : r.val = t.val * 2048 + (y 0).val) (hx : x.val = (y 1).val) :
    (win0_5.blk t).view.emb y = ix2 r x := by
  funext a
  apply Fin.ext
  match a with
  | ⟨0, _⟩ => blk_simp [idx t]; exact hr.symm
  | ⟨1, _⟩ => blk_simp [idx t]; exact hx.symm

theorem point (c : Dev nD) (hv : ∀ y, av m c y = ((av m c y).toReal : EReal)) (lm : ℝ) (hlam : Cert.ReferenceIdeal.Att.lam (adl m c) = (lm : EReal))
    (t : Fin cfg0.N) (q : Fin 8) (j : Fin 256) (h : Fin 4) (e : Fin 128) (r : Fin 2048) (x : Fin 512) (hr : r.val = 256 * q.val + j.val) (hx : x.val = 128 * h.val + e.val)
    (y : S2048x512.Idx) (hy : y = ix2 r x) :
    out0_5 (bdl m c t) (bg m c t) (bq m c t) (bk m c t) (bv m c t) y
      = rms (rowR (Cert.ReferenceIdeal.Att.lg2 (aq m c) (ak m c) (bat t) h 0 r) (Cert.ReferenceIdeal.Att.lg2 (aq m c) (ak m c) (bat t) h 1 r)
        (Cert.ReferenceIdeal.Att.vl (av m c) (bat t) h) lm 2048 (top (Cert.ReferenceIdeal.Att.lg2 (aq m c) (ak m c) (bat t) h 0 r) 2048)
        (top (Cert.ReferenceIdeal.Att.lg2 (aq m c) (ak m c) (bat t) h 1 r) 2048)) (ag m c (ix1 e)) e := by
  subst hy
  unfold out0_5
  refine (out_at (bk m c t) (bq m c t) (bv m c t) _ _ q j h e r x hr hx (Cert.ReferenceIdeal.Att.vl (av m c) (bat t) h)
    (fun r s => val_eq m c t h hv r s) (fun s => one_eq m c t h s) lm ((lam_at m c t).trans hlam)).trans ?_
  rw [lgt_eq m c t q (e0 h) h 0 j rfl r hr, lgt_eq m c t q (e1 h) h 1 j rfl r hr, rms_eq, ld_g]
  have eg : (bg m c t (ix2 (0 : Fin 1) e) : EReal) = ag m c (ix1 e) := (blk_g m c t e).trans (V_g m c e)
  rw [eg]

theorem final (c : Dev nD) (hv : ∀ y, av m c y = ((av m c y).toReal : EReal)) (lm : ℝ) (hlam : Cert.ReferenceIdeal.Att.lam (adl m c) = (lm : EReal)) :
    (dats m 0 c).arrAt 5 cfg0.N = Cert.ReferenceIdeal.Read.val_main_v63 (F := Ideal) (aq m c) (ak m c) (av m c) (adl m c) (ag m c) := by
  refine (dats m 0 c).arrAt_eq_of_covers 5 _ (by decide +kernel) fun t hf y => ?_
  blk_simp
  rw [left5]
  have ht := lt32 t
  have hy0 : (y 0).val < 2048 := (y 0).isLt
  have hy1 : (y 1).val < 512 := (y 1).isLt
  refine Eq.trans ?_ (congrArg _ (emb_out t y (⟨t.val * 2048 + (y 0).val, by omega⟩ : Fin 65536) (⟨(y 1).val, hy1⟩ : Fin 512) rfl rfl)).symm
  have ey : y = ix2 (⟨(y 0).val, hy0⟩ : Fin 2048) (⟨(y 1).val, hy1⟩ : Fin 512) := funext fun a => match a with
    | ⟨0, _⟩ => rfl
    | ⟨1, _⟩ => rfl
  rw [Cert.ReferenceIdeal.Att.value (aq m c) (ak m c) (av m c) (adl m c) (ag m c) hv lm hlam _ _ (bat t) (⟨(y 1).val / 128, by omega⟩ : Fin 4)
    (⟨(y 0).val, hy0⟩ : Fin 2048) (⟨(y 1).val % 128, by omega⟩ : Fin 128) (by show t.val * 2048 + (y 0).val = 2048 * t.val + (y 0).val; omega)
    (by show (y 1).val = 128 * ((y 1).val / 128) + (y 1).val % 128; omega)]
  refine (point m c hv lm hlam t (⟨(y 0).val / 256, by omega⟩ : Fin 8) (⟨(y 0).val % 256, by omega⟩ : Fin 256) (⟨(y 1).val / 128, by omega⟩ : Fin 4)
    (⟨(y 1).val % 128, by omega⟩ : Fin 128) (⟨(y 0).val, hy0⟩ : Fin 2048) (⟨(y 1).val, hy1⟩ : Fin 512)
    (by show (y 0).val = 256 * ((y 0).val / 256) + (y 0).val % 256; omega) (by show (y 1).val = 128 * ((y 1).val / 128) + (y 1).val % 128; omega) y ey)

end Cert.KernelIdeal.Att

end
-- ==== Proof.Pre.lean ====
module

public import proofs.«01_k».proof.Proof.Att
public import proofs.«01_k».proof.Proof.Gen.Pre_finite
public import Idealize.ShloMosaic.Lib.ReduceAll

@[expose] public section

set_option maxRecDepth 16384

noncomputable section

namespace Cert.Pre_finite

open Cert.Pre_finite.Facts
open Idealize.ShloMosaic
open Cert.Soft

/-! ## What the precondition says: every value and every lambda parameter is a real number -/

theorem real_of_lt (x : EReal) (h : Ideal.cmp .olt (max x (-x)) (Ideal.ofBits .f32 0x7F800000#32) = 1#1) : x = (x.toReal : EReal) := by
  have hw : Ideal.ofBits .f32 0x7F800000#32 = ⊤ := by simp [Ideal.ofBits, Ideal.ieee]
  rw [hw] at h
  have hlt : max x (-x) < ⊤ := by
    by_contra hn
    simp [Ideal.cmp, hn] at h
  have h1 : x ≠ ⊤ := fun e => absurd ((le_max_left x (-x)).trans_lt hlt) (by rw [e]; simp)
  have h2 : x ≠ ⊥ := fun e => absurd ((le_max_right x (-x)).trans_lt hlt) (by rw [e]; simp)
  exact (EReal.coe_toReal h1 h2).symm

instance : Subsingleton S_.Idx := ⟨fun a b => funext fun i => i.elim0⟩

theorem reals (q k : FVec Ideal S32x2048x4x2x64 .f32) (v : FVec Ideal S32x2048x4x128 .f32) (dl : FVec Ideal S4x64 .f32) (g : FVec Ideal S128 .f32)
    (h : fn (F := Ideal) q k v dl g = fun _ => 1#1) :
    (∀ y, (v y : EReal) = ((v y : EReal).toReal : EReal)) ∧ ∀ y, (dl y : EReal) = ((dl y : EReal).toReal : EReal) := by
  have h0 := congrFun h (Shape.Idx.first h_S_)
  obtain ⟨hv, hd⟩ := IntOp.andi_eq_one.1 h0
  exact ⟨fun y => real_of_lt _ (Host.reduce_andi_all _ _ _ _ _ hv y), fun y => real_of_lt _ (Host.reduce_andi_all _ _ _ _ _ hd y)⟩

/-- The lambda is a real number when its parameters are. -/
theorem lam_real (dl : FVec Ideal S4x64 .f32) (hd : ∀ y, (dl y : EReal) = ((dl y : EReal).toReal : EReal)) :
    ∃ lm : ℝ, Cert.ReferenceIdeal.Att.lam dl = (lm : EReal) := by
  have hw : ∃ w : ℝ, Ideal.ofBits .f32 0x3E4CCCCD#32 = (w : EReal) := by
    refine ⟨(Ideal.ofBits .f32 0x3E4CCCCD#32 : EReal).toReal, (EReal.coe_toReal ?_ ?_).symm⟩ <;>
      simp [Ideal.ofBits, Ideal.ieee, ← EReal.coe_mul]
  obtain ⟨w, hw⟩ := hw
  have hs : ∀ a b : Fin 4, ∃ r : ℝ, ∑ d : Fin 64, (dl (ix2 a d) : EReal) * (dl (ix2 b d) : EReal) = (r : EReal) := fun a b =>
    ⟨∑ d : Fin 64, (dl (ix2 a d) : EReal).toReal * (dl (ix2 b d) : EReal).toReal, by
      rw [coe_sum]
      refine Finset.sum_congr rfl fun d _ => ?_
      rw [EReal.coe_mul, ← hd, ← hd]⟩
  obtain ⟨r, hr⟩ := hs 0 1
  obtain ⟨s, hs⟩ := hs 2 3
  refine ⟨Real.exp r - Real.exp s + w, ?_⟩
  unfold Cert.ReferenceIdeal.Att.lam
  rw [hw]
  refine (congrArg₂ (fun a b : EReal => Ideal.exp a - Ideal.exp b + (w : EReal)) hr hs).trans ?_
  rw [EReal.coe_add, EReal.coe_sub]
  rfl

end Cert.Pre_finite

end
-- ==== Proof.Claims.lean ====
module

public import proofs.«01_k».proof.Defs
public import proofs.«01_k».proof.Proof.Ffn
public import proofs.«01_k».proof.Proof.Mrg
public import proofs.«01_k».proof.Proof.Words
public import proofs.«01_k».proof.Proof.Pre
public import proofs.«01_k».proof.Proof.Gen.Kernel2.Frame
public import proofs.«01_k».proof.Proof.Gen.Kernel3.Frame
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference3Ideal.Run
public import Idealize.ShloMosaic.Lib.Quiescent

@[expose] public section

set_option maxRecDepth 16384

noncomputable section

open Idealize.ShloMosaic Idealize.ShloMosaic.TcCoe Idealize.SL.Sem

namespace Cert.Proof

/-! ## The frames -/

theorem frame_p : Cert.quiescent_Kernel := fun m ρ _ => Cert.Words.frame m ρ
theorem frame_pi : Cert.quiescent_KernelIdeal := fun m ρ _ => Cert.KernelIdeal.Att.frame m ρ
theorem frame_pi_pre : Cert.quiescent_KernelIdeal_pre_finite := fun m ρ _ => Cert.KernelIdeal.Att.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri_pre : Cert.quiescent_ReferenceIdeal_pre_finite := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)
theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-! ## The rules -/

theorem preserves : Cert.preserves_Kernel_KernelIdeal :=
  IdealRules.named_const.statement Cert.KernelIdeal.κ "mask" .f32 0xF1800000#32 ⊥ rfl
theorem preserves2 : Cert.preserves_Kernel2_Kernel2Ideal := trivial
theorem preserves3 : Cert.preserves_Kernel3_Kernel3Ideal := trivial

/-! ## The attention's value -/

theorem algebraic : Cert.algebraic_KernelIdeal_ReferenceIdeal_pre_finite := by
  intro m ρ m' ρ' hpre hagree
  refine ⟨fun c => Cert.ReferenceIdeal.Read.val_main_v63 (F := Ideal) (Cert.KernelIdeal.Att.aq m c) (Cert.KernelIdeal.Att.ak m c)
    (Cert.KernelIdeal.Att.av m c) (Cert.KernelIdeal.Att.adl m c) (Cert.KernelIdeal.Att.ag m c), ?_, ?_⟩
  · refine (θ_run Cert.KernelIdeal.defs _ _).mono (fun _ h c => ⟨(h c).1.trans ?_, (h c).2⟩) (Cert.KernelIdeal.Att.run_out m ρ)
    obtain ⟨hv, hd⟩ := Cert.Pre_finite.reals _ _ _ _ _ (hpre c)
    obtain ⟨lm, hlam⟩ := Cert.Pre_finite.lam_real _ hd
    exact Cert.KernelIdeal.Att.final m c hv lm hlam
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v63_eq (F := Ideal) m' c).trans ?_
    rw [(hagree c).1, (hagree c).2.1, (hagree c).2.2.1, (hagree c).2.2.2.1, (hagree c).2.2.2.2]

/-! ## The feed-forward part's value -/

theorem algebraic2 : Cert.algebraic_Kernel2Ideal_Reference2Ideal := by
  intro m ρ m' ρ' _ hagree
  refine ⟨fun c => Cert.Kernel2Ideal.Ffn.G m c, ?_, ?_⟩
  · exact (θ_run Cert.Kernel2Ideal.defs _ _).mono
      (fun _ h c => ⟨(h c).1.trans (Cert.Kernel2Ideal.Ffn.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    rw [(hagree c).1, (hagree c).2.1, (hagree c).2.2.1, (hagree c).2.2.2]
    exact Cert.Reference2Ideal.Read.val_main_v19_eq _ _ _ _

/-! ## The gated merge's value -/

theorem algebraic3 : Cert.algebraic_Kernel3Ideal_Reference3Ideal := by
  intro m ρ m' ρ' _ hagree
  refine ⟨fun c => Cert.Kernel3Ideal.Mrg.G m c, ?_, ?_⟩
  · exact (θ_run Cert.Kernel3Ideal.defs _ _).mono
      (fun _ h c => ⟨(h c).1.trans (Cert.Kernel3Ideal.Mrg.final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact Cert.Reference3Ideal.Read.val_main_v34_eq _ _ _ _ _ _ _ _ _

end Cert.Proof

end
-- ==== Proof.lean ====
module

public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import Idealize.ShloMosaic.Adequacy
public import Idealize.ShloMosaic.Init

@[expose] public section

noncomputable section

theorem Cert.Proof.claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts, Cert.Pre_finite.Gen.facts,
    Cert.Proof.frame_p, Cert.Proof.frame_pi, Cert.Proof.frame_pi_pre, Cert.Proof.frame_ri, Cert.Proof.frame_ri_pre,
    Cert.Proof.frame_p2, Cert.Proof.frame_pi2, Cert.Proof.frame_ri2,
    Cert.Proof.frame_p3, Cert.Proof.frame_pi3, Cert.Proof.frame_ri3, Cert.Proof.preserves, Cert.Proof.algebraic,
    Cert.Proof.preserves2, Cert.Proof.algebraic2, Cert.Proof.preserves3, Cert.Proof.algebraic3⟩

end
